-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidReferenceIdeal (m : (ℓ : Loc Cert.FfnMidReferenceIdeal.nD Cert.FfnMidReferenceIdeal.τ Cert.FfnMidReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidReferenceIdeal [hFfnMidReferenceIdeal : Cert.FfnMidReferenceIdeal.Facts] : Prop :=
  ∀ (m : (ℓ : Loc Cert.FfnMidReferenceIdeal.nD Cert.FfnMidReferenceIdeal.τ Cert.FfnMidReferenceIdeal.sig) → Buf (Elt Ideal) ℓ) (g : Dev Cert.FfnMidReferenceIdeal.nD → PrngReg), Pre_FfnMidReferenceIdeal m →
    θ_run (Cert.FfnMidReferenceIdeal.defs (F := Ideal)) (onTc (τ := Cert.FfnMidReferenceIdeal.τ) (Cert.FfnMidReferenceIdeal.main (F := Ideal))) ⟨m, fun _ => 0, g⟩ (fun r => (∀ c : Dev Cert.FfnMidReferenceIdeal.nD,
      r.2.mem ((c.tc : Thread Cert.FfnMidReferenceIdeal.nD Cert.FfnMidReferenceIdeal.τ).loc Cert.FfnMidReferenceIdeal.main_arg0) = m ((c.tc : Thread Cert.FfnMidReferenceIdeal.nD Cert.FfnMidReferenceIdeal.τ).loc Cert.FfnMidReferenceIdeal.main_arg0)
      ∧ r.2.mem ((c.tc : Thread Cert.FfnMidReferenceIdeal.nD Cert.FfnMidReferenceIdeal.τ).loc Cert.FfnMidReferenceIdeal.main_arg1) = m ((c.tc : Thread Cert.FfnMidReferenceIdeal.nD Cert.FfnMidReferenceIdeal.τ).loc Cert.FfnMidReferenceIdeal.main_arg1)
      ∧ r.2.mem ((c.tc : Thread Cert.FfnMidReferenceIdeal.nD Cert.FfnMidReferenceIdeal.τ).loc Cert.FfnMidReferenceIdeal.main_arg2) = m ((c.tc : Thread Cert.FfnMidReferenceIdeal.nD Cert.FfnMidReferenceIdeal.τ).loc Cert.FfnMidReferenceIdeal.main_arg2)
      ∧ r.2.mem ((c.tc : Thread Cert.FfnMidReferenceIdeal.nD Cert.FfnMidReferenceIdeal.τ).loc Cert.FfnMidReferenceIdeal.main_arg3) = m ((c.tc : Thread Cert.FfnMidReferenceIdeal.nD Cert.FfnMidReferenceIdeal.τ).loc Cert.FfnMidReferenceIdeal.main_arg3)
      ∧ r.2.mem ((c.tc : Thread Cert.FfnMidReferenceIdeal.nD Cert.FfnMidReferenceIdeal.τ).loc Cert.FfnMidReferenceIdeal.main_arg4) = m ((c.tc : Thread Cert.FfnMidReferenceIdeal.nD Cert.FfnMidReferenceIdeal.τ).loc Cert.FfnMidReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v39) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnMid_FfnMidIdeal : Prop :=
  True

def algebraic_FfnMidIdeal_FfnMidReferenceIdeal [hFfnMidIdeal : Cert.FfnMidIdeal.Facts] [hFfnMidReferenceIdeal : Cert.FfnMidReferenceIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidReferenceIdeal.nD Cert.FfnMidReferenceIdeal.τ Cert.FfnMidReferenceIdeal.sig) → Buf (Elt Ideal) ℓ) (g' : Dev Cert.FfnMidReferenceIdeal.nD → PrngReg), Pre_FfnMidIdeal m →
    (∀ c : Dev Cert.FfnMidIdeal.nD,
      m' ((c.tc : Thread Cert.FfnMidReferenceIdeal.nD Cert.FfnMidReferenceIdeal.τ).loc Cert.FfnMidReferenceIdeal.main_arg0) = m ((c.tc : Thread Cert.FfnMidIdeal.nD Cert.FfnMidIdeal.τ).loc Cert.FfnMidIdeal.main_arg0)
      ∧ m' ((c.tc : Thread Cert.FfnMidReferenceIdeal.nD Cert.FfnMidReferenceIdeal.τ).loc Cert.FfnMidReferenceIdeal.main_arg1) = m ((c.tc : Thread Cert.FfnMidIdeal.nD Cert.FfnMidIdeal.τ).loc Cert.FfnMidIdeal.main_arg1)
      ∧ m' ((c.tc : Thread Cert.FfnMidReferenceIdeal.nD Cert.FfnMidReferenceIdeal.τ).loc Cert.FfnMidReferenceIdeal.main_arg2) = m ((c.tc : Thread Cert.FfnMidIdeal.nD Cert.FfnMidIdeal.τ).loc Cert.FfnMidIdeal.main_arg2)
      ∧ m' ((c.tc : Thread Cert.FfnMidReferenceIdeal.nD Cert.FfnMidReferenceIdeal.τ).loc Cert.FfnMidReferenceIdeal.main_arg3) = m ((c.tc : Thread Cert.FfnMidIdeal.nD Cert.FfnMidIdeal.τ).loc Cert.FfnMidIdeal.main_arg3)
      ∧ m' ((c.tc : Thread Cert.FfnMidReferenceIdeal.nD Cert.FfnMidReferenceIdeal.τ).loc Cert.FfnMidReferenceIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v5)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v5) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidReferenceIdeal.defs (F := Ideal)) (onTc (τ := Cert.FfnMidReferenceIdeal.τ) (Cert.FfnMidReferenceIdeal.main (F := Ideal))) ⟨m', fun _ => 0, g'⟩ (fun r => ∀ c : Dev Cert.FfnMidReferenceIdeal.nD,
          r.2.mem ((c.tc : Thread Cert.FfnMidReferenceIdeal.nD Cert.FfnMidReferenceIdeal.τ).loc Cert.FfnMidReferenceIdeal.main_v26) = v0 c
          ∧ r.2.mem ((c.tc : Thread Cert.FfnMidReferenceIdeal.nD Cert.FfnMidReferenceIdeal.τ).loc Cert.FfnMidReferenceIdeal.main_arg0) = m' ((c.tc : Thread Cert.FfnMidReferenceIdeal.nD Cert.FfnMidReferenceIdeal.τ).loc Cert.FfnMidReferenceIdeal.main_arg0)
          ∧ r.2.mem ((c.tc : Thread Cert.FfnMidReferenceIdeal.nD Cert.FfnMidReferenceIdeal.τ).loc Cert.FfnMidReferenceIdeal.main_arg1) = m' ((c.tc : Thread Cert.FfnMidReferenceIdeal.nD Cert.FfnMidReferenceIdeal.τ).loc Cert.FfnMidReferenceIdeal.main_arg1)
          ∧ r.2.mem ((c.tc : Thread Cert.FfnMidReferenceIdeal.nD Cert.FfnMidReferenceIdeal.τ).loc Cert.FfnMidReferenceIdeal.main_arg2) = m' ((c.tc : Thread Cert.FfnMidReferenceIdeal.nD Cert.FfnMidReferenceIdeal.τ).loc Cert.FfnMidReferenceIdeal.main_arg2)
          ∧ r.2.mem ((c.tc : Thread Cert.FfnMidReferenceIdeal.nD Cert.FfnMidReferenceIdeal.τ).loc Cert.FfnMidReferenceIdeal.main_arg3) = m' ((c.tc : Thread Cert.FfnMidReferenceIdeal.nD Cert.FfnMidReferenceIdeal.τ).loc Cert.FfnMidReferenceIdeal.main_arg3)
          ∧ r.2.mem ((c.tc : Thread Cert.FfnMidReferenceIdeal.nD Cert.FfnMidReferenceIdeal.τ).loc Cert.FfnMidReferenceIdeal.main_arg4) = m' ((c.tc : Thread Cert.FfnMidReferenceIdeal.nD Cert.FfnMidReferenceIdeal.τ).loc Cert.FfnMidReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v93) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v30_0)) (v1 : (c : Dev Cert.InprojIdeal.nD) → Buf (Elt Ideal) ((c.tc : Thread Cert.InprojIdeal.nD Cert.InprojIdeal.τ).loc Cert.InprojIdeal.main_v30_1)) (v2 : (c : Dev Cert.InprojIdeal.nD) → Buf (Elt Ideal) ((c.tc : Thread Cert.InprojIdeal.nD Cert.InprojIdeal.τ).loc Cert.InprojIdeal.main_v30_2)) (v3 : (c : Dev Cert.InprojIdeal.nD) → Buf (Elt Ideal) ((c.tc : Thread Cert.InprojIdeal.nD Cert.InprojIdeal.τ).loc Cert.InprojIdeal.main_v30_3)) (v4 : (c : Dev Cert.InprojIdeal.nD) → Buf (Elt Ideal) ((c.tc : Thread Cert.InprojIdeal.nD Cert.InprojIdeal.τ).loc Cert.InprojIdeal.main_v30_4)) (v5 : (c : Dev Cert.InprojIdeal.nD) → Buf (Elt Ideal) ((c.tc : Thread Cert.InprojIdeal.nD Cert.InprojIdeal.τ).loc Cert.InprojIdeal.main_v30_5)) (v6 : (c : Dev Cert.InprojIdeal.nD) → Buf (Elt Ideal) ((c.tc : Thread Cert.InprojIdeal.nD Cert.InprojIdeal.τ).loc Cert.InprojIdeal.main_v30_6)) (v7 : (c : Dev Cert.InprojIdeal.nD) → Buf (Elt Ideal) ((c.tc : Thread Cert.InprojIdeal.nD Cert.InprojIdeal.τ).loc Cert.InprojIdeal.main_v30_7)) (v8 : (c : Dev Cert.InprojIdeal.nD) → Buf (Elt Ideal) ((c.tc : Thread Cert.InprojIdeal.nD Cert.InprojIdeal.τ).loc Cert.InprojIdeal.main_v30_8)) (v9 : (c : Dev Cert.InprojIdeal.nD) → Buf (Elt Ideal) ((c.tc : Thread Cert.InprojIdeal.nD Cert.InprojIdeal.τ).loc Cert.InprojIdeal.main_v30_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v30_0) = v0 c
          ∧ r.2.mem ((c.tc : Thread Cert.InprojIdeal.nD Cert.InprojIdeal.τ).loc Cert.InprojIdeal.main_v30_1) = v1 c
          ∧ r.2.mem ((c.tc : Thread Cert.InprojIdeal.nD Cert.InprojIdeal.τ).loc Cert.InprojIdeal.main_v30_2) = v2 c
          ∧ r.2.mem ((c.tc : Thread Cert.InprojIdeal.nD Cert.InprojIdeal.τ).loc Cert.InprojIdeal.main_v30_3) = v3 c
          ∧ r.2.mem ((c.tc : Thread Cert.InprojIdeal.nD Cert.InprojIdeal.τ).loc Cert.InprojIdeal.main_v30_4) = v4 c
          ∧ r.2.mem ((c.tc : Thread Cert.InprojIdeal.nD Cert.InprojIdeal.τ).loc Cert.InprojIdeal.main_v30_5) = v5 c
          ∧ r.2.mem ((c.tc : Thread Cert.InprojIdeal.nD Cert.InprojIdeal.τ).loc Cert.InprojIdeal.main_v30_6) = v6 c
          ∧ r.2.mem ((c.tc : Thread Cert.InprojIdeal.nD Cert.InprojIdeal.τ).loc Cert.InprojIdeal.main_v30_7) = v7 c
          ∧ r.2.mem ((c.tc : Thread Cert.InprojIdeal.nD Cert.InprojIdeal.τ).loc Cert.InprojIdeal.main_v30_8) = v8 c
          ∧ r.2.mem ((c.tc : Thread Cert.InprojIdeal.nD Cert.InprojIdeal.τ).loc Cert.InprojIdeal.main_v30_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v19) = v0 c
          ∧ r.2.mem ((c.tc : Thread Cert.InprojReferenceIdeal.nD Cert.InprojReferenceIdeal.τ).loc Cert.InprojReferenceIdeal.main_v20) = v1 c
          ∧ r.2.mem ((c.tc : Thread Cert.InprojReferenceIdeal.nD Cert.InprojReferenceIdeal.τ).loc Cert.InprojReferenceIdeal.main_v38) = v2 c
          ∧ r.2.mem ((c.tc : Thread Cert.InprojReferenceIdeal.nD Cert.InprojReferenceIdeal.τ).loc Cert.InprojReferenceIdeal.main_v40) = v3 c
          ∧ r.2.mem ((c.tc : Thread Cert.InprojReferenceIdeal.nD Cert.InprojReferenceIdeal.τ).loc Cert.InprojReferenceIdeal.main_v43) = v4 c
          ∧ r.2.mem ((c.tc : Thread Cert.InprojReferenceIdeal.nD Cert.InprojReferenceIdeal.τ).loc Cert.InprojReferenceIdeal.main_v44) = v5 c
          ∧ r.2.mem ((c.tc : Thread Cert.InprojReferenceIdeal.nD Cert.InprojReferenceIdeal.τ).loc Cert.InprojReferenceIdeal.main_v46) = v6 c
          ∧ r.2.mem ((c.tc : Thread Cert.InprojReferenceIdeal.nD Cert.InprojReferenceIdeal.τ).loc Cert.InprojReferenceIdeal.main_v48) = v7 c
          ∧ r.2.mem ((c.tc : Thread Cert.InprojReferenceIdeal.nD Cert.InprojReferenceIdeal.τ).loc Cert.InprojReferenceIdeal.main_v28) = v8 c
          ∧ r.2.mem ((c.tc : Thread Cert.InprojReferenceIdeal.nD Cert.InprojReferenceIdeal.τ).loc Cert.InprojReferenceIdeal.main_v49) = v9 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def Claim : Prop :=
  ∃ (hKernel : Cert.Kernel.Facts) (hFfn : Cert.Ffn.Facts) (hFfnIdeal : Cert.FfnIdeal.Facts) (hFfnReferenceIdeal : Cert.FfnReferenceIdeal.Facts) (hFfnMid : Cert.FfnMid.Facts) (hFfnMidIdeal : Cert.FfnMidIdeal.Facts) (hFfnMidReferenceIdeal : Cert.FfnMidReferenceIdeal.Facts) (hMerge : Cert.Merge.Facts) (hMergeIdeal : Cert.MergeIdeal.Facts) (hMergeReferenceIdeal : Cert.MergeReferenceIdeal.Facts) (hInproj : Cert.Inproj.Facts) (hInprojIdeal : Cert.InprojIdeal.Facts) (hInprojReferenceIdeal : Cert.InprojReferenceIdeal.Facts),
    quiescent_Kernel (hKernel := hKernel)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnMid (hFfnMid := hFfnMid)
    ∧ quiescent_FfnMidIdeal (hFfnMidIdeal := hFfnMidIdeal)
    ∧ quiescent_FfnMidReferenceIdeal (hFfnMidReferenceIdeal := hFfnMidReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ preserves_Ffn_FfnIdeal
    ∧ algebraic_FfnIdeal_FfnReferenceIdeal (hFfnIdeal := hFfnIdeal) (hFfnReferenceIdeal := hFfnReferenceIdeal)
    ∧ preserves_FfnMid_FfnMidIdeal
    ∧ algebraic_FfnMidIdeal_FfnMidReferenceIdeal (hFfnMidIdeal := hFfnMidIdeal) (hFfnMidReferenceIdeal := hFfnMidReferenceIdeal)
    ∧ preserves_Merge_MergeIdeal
    ∧ algebraic_MergeIdeal_MergeReferenceIdeal (hMergeIdeal := hMergeIdeal) (hMergeReferenceIdeal := hMergeReferenceIdeal)
    ∧ preserves_Inproj_InprojIdeal
    ∧ algebraic_InprojIdeal_InprojReferenceIdeal (hInprojIdeal := hInprojIdeal) (hInprojReferenceIdeal := hInprojReferenceIdeal)
-- ==== Kernel.lean ====
abbrev S32768x512 : Shape := ⟨2, ![32768, 512]⟩
abbrev S32768x256 : Shape := ⟨2, ![32768, 256]⟩
abbrev S32768x128 : Shape := ⟨2, ![32768, 128]⟩
abbrev S64x256x512 : Shape := ⟨3, ![64, 256, 512]⟩
abbrev S_ : Shape := ⟨0, ![]⟩
abbrev S256x256 : Shape := ⟨2, ![256, 256]⟩
abbrev S256x512 : Shape := ⟨2, ![256, 512]⟩
abbrev S256x128 : Shape := ⟨2, ![256, 128]⟩
abbrev S4096x256 : Shape := ⟨2, ![4096, 256]⟩
abbrev S8x256x512 : Shape := ⟨3, ![8, 256, 512]⟩
abbrev S4096x128 : Shape := ⟨2, ![4096, 128]⟩
abbrev S32x16x8x256 : Shape := ⟨4, ![32, 16, 8, 256]⟩
abbrev S2x16x8x256 : Shape := ⟨4, ![2, 16, 8, 256]⟩
abbrev S2x2x256x1024 : Shape := ⟨4, ![2, 2, 256, 1024]⟩
abbrev S2x1x1024 : Shape := ⟨3, ![2, 1, 1024]⟩
abbrev S2x128x1024 : Shape := ⟨3, ![2, 128, 1024]⟩
abbrev S1x256 : Shape := ⟨2, ![1, 256]⟩
abbrev S1x128 : Shape := ⟨2, ![1, 128]⟩
abbrev S128x256 : Shape := ⟨2, ![128, 256]⟩
abbrev S512x128 : Shape := ⟨2, ![512, 128]⟩
abbrev S512x256 : Shape := ⟨2, ![512, 256]⟩
abbrev S512x512 : Shape := ⟨2, ![512, 512]⟩
abbrev S8x256 : Shape := ⟨2, ![8, 256]⟩
abbrev S1x1x8x256 : Shape := ⟨4, ![1, 1, 8, 256]⟩
abbrev S16x8x256 : Shape := ⟨3, ![16, 8, 256]⟩
abbrev S1x1x256 : Shape := ⟨3, ![1, 1, 256]⟩
abbrev S1x16x8x256 : Shape := ⟨4, ![1, 16, 8, 256]⟩
abbrev S256 : Shape := ⟨1, ![256]⟩
abbrev S1024x128 : Shape := ⟨2, ![1024, 128]⟩
abbrev S256x1024 : Shape := ⟨2, ![256, 1024]⟩
abbrev S1x1x256x1024 : Shape := ⟨4, ![1, 1, 256, 1024]⟩
abbrev S1x128x256 : Shape := ⟨3, ![1, 128, 256]⟩
abbrev S1x1x1024 : Shape := ⟨3, ![1, 1, 1024]⟩
abbrev S1x1024 : Shape := ⟨2, ![1, 1024]⟩
abbrev S1024 : Shape := ⟨1, ![1024]⟩
abbrev S1x128x1024 : Shape := ⟨3, ![1, 128, 1024]⟩
abbrev S128x1024 : Shape := ⟨2, ![128, 1024]⟩
abbrev S1x128x128 : Shape := ⟨3, ![1, 128, 128]⟩
abbrev S128x128 : Shape := ⟨2, ![128, 128]⟩
abbrev S128x512 : Shape := ⟨2, ![128, 512]⟩

abbrev nBuf : Space → Nat
  | .hbm => 19
  | .vmem => 20
  | .smem => 0
  | _ => 0

abbrev bufTy : (tb : Table) → Fin (tcTables nBuf tb) → BufTy
  | .hbm, ⟨0, _⟩ => ⟨S32768x512, .bf16⟩
  | .hbm, ⟨1, _⟩ => ⟨S32768x256, .bf16⟩
  | .hbm, ⟨2, _⟩ => ⟨S32768x128, .f32⟩
  | .hbm, ⟨3, _⟩ => ⟨S32768x256, .bf16⟩
  | .hbm, ⟨4, _⟩ => ⟨S64x256x512, .bf16⟩
  | .hbm, ⟨5, _⟩ => ⟨S32768x128, .bf16⟩
  | .hbm, ⟨6, _⟩ => ⟨S_, .f32⟩
  | .hbm, ⟨7, _⟩ => ⟨S256x256, .f32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .bf16⟩
  | .hbm, ⟨18, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x256, .bf16⟩
  | .local _ .vmem, ⟨3, _⟩ => ⟨S256x256, .bf16⟩
  | .local _ .vmem, ⟨4, _⟩ => ⟨S256x128, .f32⟩
  | .local _ .vmem, ⟨5, _⟩ => ⟨S256x128, .f32⟩
  | .local _ .vmem, ⟨6, _⟩ => ⟨S4096x256, .bf16⟩
  | .local _ .vmem, ⟨7, _⟩ => ⟨S4096x256, .bf16⟩
  | .local _ .vmem, ⟨8, _⟩ => ⟨S8x256x512, .bf16⟩
  | .local _ .vmem, ⟨9, _⟩ => ⟨S8x256x512, .bf16⟩
  | .local _ .vmem, ⟨10, _⟩ => ⟨S4096x128, .bf16⟩
  | .local _ .vmem, ⟨11, _⟩ => ⟨S4096x128, .bf16⟩
  | .local _ .vmem, ⟨12, _⟩ => ⟨S256x256, .bf16⟩
  | .local _ .vmem, ⟨13, _⟩ => ⟨S256x512, .bf16⟩
  | .local _ .vmem, ⟨14, _⟩ => ⟨S256x512, .bf16⟩
  | .local _ .vmem, ⟨15, _⟩ => ⟨S32x16x8x256, .i32⟩
  | .local _ .vmem, ⟨16, _⟩ => ⟨S2x16x8x256, .i32⟩
  | .local _ .vmem, ⟨17, _⟩ => ⟨S2x2x256x1024, .f32⟩
  | .local _ .vmem, ⟨18, _⟩ => ⟨S2x1x1024, .f32⟩
  | .local _ .vmem, ⟨19, _⟩ => ⟨S2x128x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

@[reducible] def k0_t1_loop (i : grid0.Coords) : Scf.Loop 32 :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_21 : BitVec 32 := 1#32
  ⟨c0_i32_19, v74, c1_i32_21⟩
def k0_mult1 (i : grid0.Coords) (k0_t1 : Fin (k0_t1_loop i).trips) : BitVec 32 :=
  let c0_i32_19 : BitVec 32 := 0#32
  let c1_i32_21 : BitVec 32 := 1#32
  let arg15 : BitVec 32 := Scf.iv c0_i32_19 c1_i32_21 k0_t1
  let c512_i32_511 : BitVec 32 := 512#32
  let v1020 : BitVec 32 := Scalar.muli arg15 c512_i32_511
  v1020
def k0_off1 (i : grid0.Coords) (k0_t1 : Fin (k0_t1_loop i).trips) : Fin 2 → Nat :=
  let c0_i32_19 : BitVec 32 := 0#32
  let c1_i32_21 : BitVec 32 := 1#32
  let arg15 : BitVec 32 := Scf.iv c0_i32_19 c1_i32_21 k0_t1
  let c512_i32_511 : BitVec 32 := 512#32
  let v1020 : BitVec 32 := Scalar.muli arg15 c512_i32_511
  let v1021 : BitVec 32 := v1020
  let v1022 : Index := Scalar.indexCast v1021
  let c0_512 : Index := 0#32
  ![v1022.toNat, 0]
def k0_off2 (i : grid0.Coords) (k0_t1 : Fin (k0_t1_loop i).trips) (c0_i32_760 : BitVec 32) : Fin 4 → Nat :=
  let c0_761 : Index := 0#32
  let c2_i32_759 : BitVec 32 := 2#32
  let c0_i32_19 : BitVec 32 := 0#32
  let c1_i32_21 : BitVec 32 := 1#32
  let arg15 : BitVec 32 := Scf.iv c0_i32_19 c1_i32_21 k0_t1
  let v1815 : BitVec 32 := Scalar.muli c2_i32_759 arg15
  let v1816 : BitVec 32 := Scalar.addi v1815 c0_i32_760
  let v1817 : Index := Scalar.indexCast v1816
  let c0_762 : Index := 0#32
  let c0_763 : Index := 0#32
  ![0, v1817.toNat, 0, 0]
def k0_off3 (i : grid0.Coords) (k0_t1 : Fin (k0_t1_loop i).trips) (c0_i32_765 : BitVec 32) : Fin 4 → Nat :=
  let c1_766 : Index := 1#32
  let c2_i32_764 : BitVec 32 := 2#32
  let c0_i32_19 : BitVec 32 := 0#32
  let c1_i32_21 : BitVec 32 := 1#32
  let arg15 : BitVec 32 := Scf.iv c0_i32_19 c1_i32_21 k0_t1
  let v1821 : BitVec 32 := Scalar.muli c2_i32_764 arg15
  let v1822 : BitVec 32 := Scalar.addi v1821 c0_i32_765
  let v1823 : Index := Scalar.indexCast v1822
  let c0_767 : Index := 0#32
  let c0_768 : Index := 0#32
  ![1, v1823.toNat, 0, 0]
def k0_off4 (i : grid0.Coords) (k0_t1 : Fin (k0_t1_loop i).trips) (c0_i32_770 : BitVec 32) : Fin 4 → Nat :=
  let c2 : Index := 2#32
  let c2_i32_769 : BitVec 32 := 2#32
  let c0_i32_19 : BitVec 32 := 0#32
  let c1_i32_21 : BitVec 32 := 1#32
  let arg15 : BitVec 32 := Scf.iv c0_i32_19 c1_i32_21 k0_t1
  let v1827 : BitVec 32 := Scalar.muli c2_i32_769 arg15
  let v1828 : BitVec 32 := Scalar.addi v1827 c0_i32_770
  let v1829 : Index := Scalar.indexCast v1828
  let c0_771 : Index := 0#32
  let c0_772 : Index := 0#32
  ![2, v1829.toNat, 0, 0]
def k0_off5 (i : grid0.Coords) (k0_t1 : Fin (k0_t1_loop i).trips) (c0_i32_774 : BitVec 32) : Fin 4 → Nat :=
  let c3 : Index := 3#32
  let c2_i32_773 : BitVec 32 := 2#32
  let c0_i32_19 : BitVec 32 := 0#32
  let c1_i32_21 : BitVec 32 := 1#32
  let arg15 : BitVec 32 := Scf.iv c0_i32_19 c1_i32_21 k0_t1
  let v1833 : BitVec 32 := Scalar.muli c2_i32_773 arg15
  let v1834 : BitVec 32 := Scalar.addi v1833 c0_i32_774
  let v1835 : Index := Scalar.indexCast v1834
  let c0_775 : Index := 0#32
  let c0_776 : Index := 0#32
  ![3, v1835.toNat, 0, 0]
def k0_off6 (i : grid0.Coords) (k0_t1 : Fin (k0_t1_loop i).trips) (c0_i32_778 : BitVec 32) : Fin 4 → Nat :=
  let c4 : Index := 4#32
  let c2_i32_777 : BitVec 32 := 2#32
  let c0_i32_19 : BitVec 32 := 0#32
  let c1_i32_21 : BitVec 32 := 1#32
  let arg15 : BitVec 32 := Scf.iv c0_i32_19 c1_i32_21 k0_t1
  let v1839 : BitVec 32 := Scalar.muli c2_i32_777 arg15
  let v1840 : BitVec 32 := Scalar.addi v1839 c0_i32_778
  let v1841 : Index := Scalar.indexCast v1840
  let c0_779 : Index := 0#32
  let c0_780 : Index := 0#32
  ![4, v1841.toNat, 0, 0]
def k0_off7 (i : grid0.Coords) (k0_t1 : Fin (k0_t1_loop i).trips) (c0_i32_782 : BitVec 32) : Fin 4 → Nat :=
  let c5 : Index := 5#32
  let c2_i32_781 : BitVec 32 := 2#32
  let c0_i32_19 : BitVec 32 := 0#32
  let c1_i32_21 : BitVec 32 := 1#32
  let arg15 : BitVec 32 := Scf.iv c0_i32_19 c1_i32_21 k0_t1
  let v1845 : BitVec 32 := Scalar.muli c2_i32_781 arg15
  let v1846 : BitVec 32 := Scalar.addi v1845 c0_i32_782
  let v1847 : Index := Scalar.indexCast v1846
  let c0_783 : Index := 0#32
  let c0_784 : Index := 0#32
  ![5, v1847.toNat, 0, 0]
def k0_off8 (i : grid0.Coords) (k0_t1 : Fin (k0_t1_loop i).trips) (c0_i32_786 : BitVec 32) : Fin 4 → Nat :=
  let c6 : Index := 6#32
  let c2_i32_785 : BitVec 32 := 2#32
  let c0_i32_19 : BitVec 32 := 0#32
  let c1_i32_21 : BitVec 32 := 1#32
  let arg15 : BitVec 32 := Scf.iv c0_i32_19 c1_i32_21 k0_t1
  let v1851 : BitVec 32 := Scalar.muli c2_i32_785 arg15
  let v1852 : BitVec 32 := Scalar.addi v1851 c0_i32_786
  let v1853 : Index := Scalar.indexCast v1852
  let c0_787 : Index := 0#32
  let c0_788 : Index := 0#32
  ![6, v1853.toNat, 0, 0]
def k0_off9 (i : grid0.Coords) (k0_t1 : Fin (k0_t1_loop i).trips) (c0_i32_790 : BitVec 32) : Fin 4 → Nat :=
  let c7 : Index := 7#32
  let c2_i32_789 : BitVec 32 := 2#32
  let c0_i32_19 : BitVec 32 := 0#32
  let c1_i32_21 : BitVec 32 := 1#32
  let arg15 : BitVec 32 := Scf.iv c0_i32_19 c1_i32_21 k0_t1
  let v1857 : BitVec 32 := Scalar.muli c2_i32_789 arg15
  let v1858 : BitVec 32 := Scalar.addi v1857 c0_i32_790
  let v1859 : Index := Scalar.indexCast v1858
  let c0_791 : Index := 0#32
  let c0_792 : Index := 0#32
  ![7, v1859.toNat, 0, 0]
def k0_off10 (i : grid0.Coords) (k0_t1 : Fin (k0_t1_loop i).trips) (c0_i32_794 : BitVec 32) : Fin 4 → Nat :=
  let c8 : Index := 8#32
  let c2_i32_793 : BitVec 32 := 2#32
  let c0_i32_19 : BitVec 32 := 0#32
  let c1_i32_21 : BitVec 32 := 1#32
  let arg15 : BitVec 32 := Scf.iv c0_i32_19 c1_i32_21 k0_t1
  let v1863 : BitVec 32 := Scalar.muli c2_i32_793 arg15
  let v1864 : BitVec 32 := Scalar.addi v1863 c0_i32_794
  let v1865 : Index := Scalar.indexCast v1864
  let c0_795 : Index := 0#32
  let c0_796 : Index := 0#32
  ![8, v1865.toNat, 0, 0]
def k0_off11 (i : grid0.Coords) (k0_t1 : Fin (k0_t1_loop i).trips) (c0_i32_798 : BitVec 32) : Fin 4 → Nat :=
  let c9 : Index := 9#32
  let c2_i32_797 : BitVec 32 := 2#32
  let c0_i32_19 : BitVec 32 := 0#32
  let c1_i32_21 : BitVec 32 := 1#32
  let arg15 : BitVec 32 := Scf.iv c0_i32_19 c1_i32_21 k0_t1
  let v1869 : BitVec 32 := Scalar.muli c2_i32_797 arg15
  let v1870 : BitVec 32 := Scalar.addi v1869 c0_i32_798
  let v1871 : Index := Scalar.indexCast v1870
  let c0_799 : Index := 0#32
  let c0_800 : Index := 0#32
  ![9, v1871.toNat, 0, 0]
def k0_off12 (i : grid0.Coords) (k0_t1 : Fin (k0_t1_loop i).trips) (c0_i32_802 : BitVec 32) : Fin 4 → Nat :=
  let c10 : Index := 10#32
  let c2_i32_801 : BitVec 32 := 2#32
  let c0_i32_19 : BitVec 32 := 0#32
  let c1_i32_21 : BitVec 32 := 1#32
  let arg15 : BitVec 32 := Scf.iv c0_i32_19 c1_i32_21 k0_t1
  let v1875 : BitVec 32 := Scalar.muli c2_i32_801 arg15
  let v1876 : BitVec 32 := Scalar.addi v1875 c0_i32_802
  let v1877 : Index := Scalar.indexCast v1876
  let c0_803 : Index := 0#32
  let c0_804 : Index := 0#32
  ![10, v1877.toNat, 0, 0]
def k0_off13 (i : grid0.Coords) (k0_t1 : Fin (k0_t1_loop i).trips) (c0_i32_806 : BitVec 32) : Fin 4 → Nat :=
  let c11 : Index := 11#32
  let c2_i32_805 : BitVec 32 := 2#32
  let c0_i32_19 : BitVec 32 := 0#32
  let c1_i32_21 : BitVec 32 := 1#32
  let arg15 : BitVec 32 := Scf.iv c0_i32_19 c1_i32_21 k0_t1
  let v1881 : BitVec 32 := Scalar.muli c2_i32_805 arg15
  let v1882 : BitVec 32 := Scalar.addi v1881 c0_i32_806
  let v1883 : Index := Scalar.indexCast v1882
  let c0_807 : Index := 0#32
  let c0_808 : Index := 0#32
  ![11, v1883.toNat, 0, 0]
def k0_off14 (i : grid0.Coords) (k0_t1 : Fin (k0_t1_loop i).trips) (c0_i32_810 : BitVec 32) : Fin 4 → Nat :=
  let c12 : Index := 12#32
  let c2_i32_809 : BitVec 32 := 2#32
  let c0_i32_19 : BitVec 32 := 0#32
  let c1_i32_21 : BitVec 32 := 1#32
  let arg15 : BitVec 32 := Scf.iv c0_i32_19 c1_i32_21 k0_t1
  let v1887 : BitVec 32 := Scalar.muli c2_i32_809 arg15
  let v1888 : BitVec 32 := Scalar.addi v1887 c0_i32_810
  let v1889 : Index := Scalar.indexCast v1888
  let c0_811 : Index := 0#32
  let c0_812 : Index := 0#32
  ![12, v1889.toNat, 0, 0]
def k0_off15 (i : grid0.Coords) (k0_t1 : Fin (k0_t1_loop i).trips) (c0_i32_814 : BitVec 32) : Fin 4 → Nat :=
  let c13 : Index := 13#32
  let c2_i32_813 : BitVec 32 := 2#32
  let c0_i32_19 : BitVec 32 := 0#32
  let c1_i32_21 : BitVec 32 := 1#32
  let arg15 : BitVec 32 := Scf.iv c0_i32_19 c1_i32_21 k0_t1
  let v1893 : BitVec 32 := Scalar.muli c2_i32_813 arg15
  let v1894 : BitVec 32 := Scalar.addi v1893 c0_i32_814
  let v1895 : Index := Scalar.indexCast v1894
  let c0_815 : Index := 0#32
  let c0_816 : Index := 0#32
  ![13, v1895.toNat, 0, 0]
def k0_off16 (i : grid0.Coords) (k0_t1 : Fin (k0_t1_loop i).trips) (c0_i32_818 : BitVec 32) : Fin 4 → Nat :=
  let c14 : Index := 14#32
  let c2_i32_817 : BitVec 32 := 2#32
  let c0_i32_19 : BitVec 32 := 0#32
  let c1_i32_21 : BitVec 32 := 1#32
  let arg15 : BitVec 32 := Scf.iv c0_i32_19 c1_i32_21 k0_t1
  let v1899 : BitVec 32 := Scalar.muli c2_i32_817 arg15
  let v1900 : BitVec 32 := Scalar.addi v1899 c0_i32_818
  let v1901 : Index := Scalar.indexCast v1900
  let c0_819 : Index := 0#32
  let c0_820 : Index := 0#32
  ![14, v1901.toNat, 0, 0]
def k0_off17 (i : grid0.Coords) (k0_t1 : Fin (k0_t1_loop i).trips) (c0_i32_822 : BitVec 32) : Fin 4 → Nat :=
  let c15 : Index := 15#32
  let c2_i32_821 : BitVec 32 := 2#32
  let c0_i32_19 : BitVec 32 := 0#32
  let c1_i32_21 : BitVec 32 := 1#32
  let arg15 : BitVec 32 := Scf.iv c0_i32_19 c1_i32_21 k0_t1
  let v1905 : BitVec 32 := Scalar.muli c2_i32_821 arg15
  let v1906 : BitVec 32 := Scalar.addi v1905 c0_i32_822
  let v1907 : Index := Scalar.indexCast v1906
  let c0_823 : Index := 0#32
  let c0_824 : Index := 0#32
  ![15, v1907.toNat, 0, 0]
def k0_off18 (i : grid0.Coords) (k0_t1 : Fin (k0_t1_loop i).trips) (c0_i32_826 : BitVec 32) : Fin 4 → Nat :=
  let c16 : Index := 16#32
  let c2_i32_825 : BitVec 32 := 2#32
  let c0_i32_19 : BitVec 32 := 0#32
  let c1_i32_21 : BitVec 32 := 1#32
  let arg15 : BitVec 32 := Scf.iv c0_i32_19 c1_i32_21 k0_t1
  let v1911 : BitVec 32 := Scalar.muli c2_i32_825 arg15
  let v1912 : BitVec 32 := Scalar.addi v1911 c0_i32_826
  let v1913 : Index := Scalar.indexCast v1912
  let c0_827 : Index := 0#32
  let c0_828 : Index := 0#32
  ![16, v1913.toNat, 0, 0]
def k0_off19 (i : grid0.Coords) (k0_t1 : Fin (k0_t1_loop i).trips) (c0_i32_830 : BitVec 32) : Fin 4 → Nat :=
  let c17 : Index := 17#32
  let c2_i32_829 : BitVec 32 := 2#32
  let c0_i32_19 : BitVec 32 := 0#32
  let c1_i32_21 : BitVec 32 := 1#32
  let arg15 : BitVec 32 := Scf.iv c0_i32_19 c1_i32_21 k0_t1
  let v1917 : BitVec 32 := Scalar.muli c2_i32_829 arg15
  let v1918 : BitVec 32 := Scalar.addi v1917 c0_i32_830
  let v1919 : Index := Scalar.indexCast v1918
  let c0_831 : Index := 0#32
  let c0_832 : Index := 0#32
  ![17, v1919.toNat, 0, 0]
def k0_off20 (i : grid0.Coords) (k0_t1 : Fin (k0_t1_loop i).trips) (c0_i32_834 : BitVec 32) : Fin 4 → Nat :=
  let c18 : Index := 18#32
  let c2_i32_833 : BitVec 32 := 2#32
  let c0_i32_19 : BitVec 32 := 0#32
  let c1_i32_21 : BitVec 32 := 1#32
  let arg15 : BitVec 32 := Scf.iv c0_i32_19 c1_i32_21 k0_t1
  let v1923 : BitVec 32 := Scalar.muli c2_i32_833 arg15
  let v1924 : BitVec 32 := Scalar.addi v1923 c0_i32_834
  let v1925 : Index := Scalar.indexCast v1924
  let c0_835 : Index := 0#32
  let c0_836 : Index := 0#32
  ![18, v1925.toNat, 0, 0]
def k0_off21 (i : grid0.Coords) (k0_t1 : Fin (k0_t1_loop i).trips) (c0_i32_838 : BitVec 32) : Fin 4 → Nat :=
  let c19 : Index := 19#32
  let c2_i32_837 : BitVec 32 := 2#32
  let c0_i32_19 : BitVec 32 := 0#32
  let c1_i32_21 : BitVec 32 := 1#32
  let arg15 : BitVec 32 := Scf.iv c0_i32_19 c1_i32_21 k0_t1
  let v1929 : BitVec 32 := Scalar.muli c2_i32_837 arg15
  let v1930 : BitVec 32 := Scalar.addi v1929 c0_i32_838
  let v1931 : Index := Scalar.indexCast v1930
  let c0_839 : Index := 0#32
  let c0_840 : Index := 0#32
  ![19, v1931.toNat, 0, 0]
def k0_off22 (i : grid0.Coords) (k0_t1 : Fin (k0_t1_loop i).trips) (c0_i32_842 : BitVec 32) : Fin 4 → Nat :=
  let c20 : Index := 20#32
  let c2_i32_841 : BitVec 32 := 2#32
  let c0_i32_19 : BitVec 32 := 0#32
  let c1_i32_21 : BitVec 32 := 1#32
  let arg15 : BitVec 32 := Scf.iv c0_i32_19 c1_i32_21 k0_t1
  let v1935 : BitVec 32 := Scalar.muli c2_i32_841 arg15
  let v1936 : BitVec 32 := Scalar.addi v1935 c0_i32_842
  let v1937 : Index := Scalar.indexCast v1936
  let c0_843 : Index := 0#32
  let c0_844 : Index := 0#32
  ![20, v1937.toNat, 0, 0]
def k0_off23 (i : grid0.Coords) (k0_t1 : Fin (k0_t1_loop i).trips) (c0_i32_846 : BitVec 32) : Fin 4 → Nat :=
  let c21 : Index := 21#32
  let c2_i32_845 : BitVec 32 := 2#32
  let c0_i32_19 : BitVec 32 := 0#32
  let c1_i32_21 : BitVec 32 := 1#32
  let arg15 : BitVec 32 := Scf.iv c0_i32_19 c1_i32_21 k0_t1
  let v1941 : BitVec 32 := Scalar.muli c2_i32_845 arg15
  let v1942 : BitVec 32 := Scalar.addi v1941 c0_i32_846
  let v1943 : Index := Scalar.indexCast v1942
  let c0_847 : Index := 0#32
  let c0_848 : Index := 0#32
  ![21, v1943.toNat, 0, 0]
def k0_off24 (i : grid0.Coords) (k0_t1 : Fin (k0_t1_loop i).trips) (c0_i32_850 : BitVec 32) : Fin 4 → Nat :=
  let c22 : Index := 22#32
  let c2_i32_849 : BitVec 32 := 2#32
  let c0_i32_19 : BitVec 32 := 0#32
  let c1_i32_21 : BitVec 32 := 1#32
  let arg15 : BitVec 32 := Scf.iv c0_i32_19 c1_i32_21 k0_t1
  let v1947 : BitVec 32 := Scalar.muli c2_i32_849 arg15
  let v1948 : BitVec 32 := Scalar.addi v1947 c0_i32_850
  let v1949 : Index := Scalar.indexCast v1948
  let c0_851 : Index := 0#32
  let c0_852 : Index := 0#32
  ![22, v1949.toNat, 0, 0]
def k0_off25 (i : grid0.Coords) (k0_t1 : Fin (k0_t1_loop i).trips) (c0_i32_854 : BitVec 32) : Fin 4 → Nat :=
  let c23 : Index := 23#32
  let c2_i32_853 : BitVec 32 := 2#32
  let c0_i32_19 : BitVec 32 := 0#32
  let c1_i32_21 : BitVec 32 := 1#32
  let arg15 : BitVec 32 := Scf.iv c0_i32_19 c1_i32_21 k0_t1
  let v1953 : BitVec 32 := Scalar.muli c2_i32_853 arg15
  let v1954 : BitVec 32 := Scalar.addi v1953 c0_i32_854
  let v1955 : Index := Scalar.indexCast v1954
  let c0_855 : Index := 0#32
  let c0_856 : Index := 0#32
  ![23, v1955.toNat, 0, 0]
def k0_off26 (i : grid0.Coords) (k0_t1 : Fin (k0_t1_loop i).trips) (c0_i32_858 : BitVec 32) : Fin 4 → Nat :=
  let c24 : Index := 24#32
  let c2_i32_857 : BitVec 32 := 2#32
  let c0_i32_19 : BitVec 32 := 0#32
  let c1_i32_21 : BitVec 32 := 1#32
  let arg15 : BitVec 32 := Scf.iv c0_i32_19 c1_i32_21 k0_t1
  let v1959 : BitVec 32 := Scalar.muli c2_i32_857 arg15
  let v1960 : BitVec 32 := Scalar.addi v1959 c0_i32_858
  let v1961 : Index := Scalar.indexCast v1960
  let c0_859 : Index := 0#32
  let c0_860 : Index := 0#32
  ![24, v1961.toNat, 0, 0]
def k0_off27 (i : grid0.Coords) (k0_t1 : Fin (k0_t1_loop i).trips) (c0_i32_862 : BitVec 32) : Fin 4 → Nat :=
  let c25 : Index := 25#32
  let c2_i32_861 : BitVec 32 := 2#32
  let c0_i32_19 : BitVec 32 := 0#32
  let c1_i32_21 : BitVec 32 := 1#32
  let arg15 : BitVec 32 := Scf.iv c0_i32_19 c1_i32_21 k0_t1
  let v1965 : BitVec 32 := Scalar.muli c2_i32_861 arg15
  let v1966 : BitVec 32 := Scalar.addi v1965 c0_i32_862
  let v1967 : Index := Scalar.indexCast v1966
  let c0_863 : Index := 0#32
  let c0_864 : Index := 0#32
  ![25, v1967.toNat, 0, 0]
def k0_off28 (i : grid0.Coords) (k0_t1 : Fin (k0_t1_loop i).trips) (c0_i32_866 : BitVec 32) : Fin 4 → Nat :=
  let c26 : Index := 26#32
  let c2_i32_865 : BitVec 32 := 2#32
  let c0_i32_19 : BitVec 32 := 0#32
  let c1_i32_21 : BitVec 32 := 1#32
  let arg15 : BitVec 32 := Scf.iv c0_i32_19 c1_i32_21 k0_t1
  let v1971 : BitVec 32 := Scalar.muli c2_i32_865 arg15
  let v1972 : BitVec 32 := Scalar.addi v1971 c0_i32_866
  let v1973 : Index := Scalar.indexCast v1972
  let c0_867 : Index := 0#32
  let c0_868 : Index := 0#32
  ![26, v1973.toNat, 0, 0]
def k0_off29 (i : grid0.Coords) (k0_t1 : Fin (k0_t1_loop i).trips) (c0_i32_870 : BitVec 32) : Fin 4 → Nat :=
  let c27 : Index := 27#32
  let c2_i32_869 : BitVec 32 := 2#32
  let c0_i32_19 : BitVec 32 := 0#32
  let c1_i32_21 : BitVec 32 := 1#32
  let arg15 : BitVec 32 := Scf.iv c0_i32_19 c1_i32_21 k0_t1
  let v1977 : BitVec 32 := Scalar.muli c2_i32_869 arg15
  let v1978 : BitVec 32 := Scalar.addi v1977 c0_i32_870
  let v1979 : Index := Scalar.indexCast v1978
  let c0_871 : Index := 0#32
  let c0_872 : Index := 0#32
  ![27, v1979.toNat, 0, 0]
def k0_off30 (i : grid0.Coords) (k0_t1 : Fin (k0_t1_loop i).trips) (c0_i32_874 : BitVec 32) : Fin 4 → Nat :=
  let c28 : Index := 28#32
  let c2_i32_873 : BitVec 32 := 2#32
  let c0_i32_19 : BitVec 32 := 0#32
  let c1_i32_21 : BitVec 32 := 1#32
  let arg15 : BitVec 32 := Scf.iv c0_i32_19 c1_i32_21 k0_t1
  let v1983 : BitVec 32 := Scalar.muli c2_i32_873 arg15
  let v1984 : BitVec 32 := Scalar.addi v1983 c0_i32_874
  let v1985 : Index := Scalar.indexCast v1984
  let c0_875 : Index := 0#32
  let c0_876 : Index := 0#32
  ![28, v1985.toNat, 0, 0]
def k0_off31 (i : grid0.Coords) (k0_t1 : Fin (k0_t1_loop i).trips) (c0_i32_878 : BitVec 32) : Fin 4 → Nat :=
  let c29 : Index := 29#32
  let c2_i32_877 : BitVec 32 := 2#32
  let c0_i32_19 : BitVec 32 := 0#32
  let c1_i32_21 : BitVec 32 := 1#32
  let arg15 : BitVec 32 := Scf.iv c0_i32_19 c1_i32_21 k0_t1
  let v1989 : BitVec 32 := Scalar.muli c2_i32_877 arg15
  let v1990 : BitVec 32 := Scalar.addi v1989 c0_i32_878
  let v1991 : Index := Scalar.indexCast v1990
  let c0_879 : Index := 0#32
  let c0_880 : Index := 0#32
  ![29, v1991.toNat, 0, 0]
def k0_off32 (i : grid0.Coords) (k0_t1 : Fin (k0_t1_loop i).trips) (c0_i32_882 : BitVec 32) : Fin 4 → Nat :=
  let c30 : Index := 30#32
  let c2_i32_881 : BitVec 32 := 2#32
  let c0_i32_19 : BitVec 32 := 0#32
  let c1_i32_21 : BitVec 32 := 1#32
  let arg15 : BitVec 32 := Scf.iv c0_i32_19 c1_i32_21 k0_t1
  let v1995 : BitVec 32 := Scalar.muli c2_i32_881 arg15
  let v1996 : BitVec 32 := Scalar.addi v1995 c0_i32_882
  let v1997 : Index := Scalar.indexCast v1996
  let c0_883 : Index := 0#32
  let c0_884 : Index := 0#32
  ![30, v1997.toNat, 0, 0]
def k0_off33 (i : grid0.Coords) (k0_t1 : Fin (k0_t1_loop i).trips) (c0_i32_886 : BitVec 32) : Fin 4 → Nat :=
  let c31 : Index := 31#32
  let c2_i32_885 : BitVec 32 := 2#32
  let c0_i32_19 : BitVec 32 := 0#32
  let c1_i32_21 : BitVec 32 := 1#32
  let arg15 : BitVec 32 := Scf.iv c0_i32_19 c1_i32_21 k0_t1
  let v2001 : BitVec 32 := Scalar.muli c2_i32_885 arg15
  let v2002 : BitVec 32 := Scalar.addi v2001 c0_i32_886
  let v2003 : Index := Scalar.indexCast v2002
  let c0_887 : Index := 0#32
  let c0_888 : Index := 0#32
  ![31, v2003.toNat, 0, 0]
@[reducible] def k0_t2_loop (i : grid0.Coords) : Scf.Loop 32 :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let v71 : BitVec 32 := Scalar.addi c0_i32_19 v70
  let c1_i32_22 : BitVec 32 := 1#32
  ⟨v74, v71, c1_i32_22⟩
def k0_mult2 (i : grid0.Coords) (k0_t2 : Fin (k0_t2_loop i).trips) : BitVec 32 :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let c512_i32_511 : BitVec 32 := 512#32
  let v1020 : BitVec 32 := Scalar.muli arg15 c512_i32_511
  v1020
def k0_off34 (i : grid0.Coords) (k0_t2 : Fin (k0_t2_loop i).trips) : Fin 2 → Nat :=
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let c512_i32_511 : BitVec 32 := 512#32
  let v1020 : BitVec 32 := Scalar.muli arg15 c512_i32_511
  let v1021 : BitVec 32 := v1020
  let v1022 : Index := Scalar.indexCast v1021
  let c0_512 : Index := 0#32
  ![v1022.toNat, 0]
def k0_off35 (i : grid0.Coords) (k0_t2 : Fin (k0_t2_loop i).trips) (c0_i32_760 : BitVec 32) : Fin 4 → Nat :=
  let c0_761 : Index := 0#32
  let c2_i32_759 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1815 : BitVec 32 := Scalar.muli c2_i32_759 arg15
  let v1816 : BitVec 32 := Scalar.addi v1815 c0_i32_760
  let v1817 : Index := Scalar.indexCast v1816
  let c0_762 : Index := 0#32
  let c0_763 : Index := 0#32
  ![0, v1817.toNat, 0, 0]
def k0_off36 (i : grid0.Coords) (k0_t2 : Fin (k0_t2_loop i).trips) (c0_i32_765 : BitVec 32) : Fin 4 → Nat :=
  let c1_766 : Index := 1#32
  let c2_i32_764 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1821 : BitVec 32 := Scalar.muli c2_i32_764 arg15
  let v1822 : BitVec 32 := Scalar.addi v1821 c0_i32_765
  let v1823 : Index := Scalar.indexCast v1822
  let c0_767 : Index := 0#32
  let c0_768 : Index := 0#32
  ![1, v1823.toNat, 0, 0]
def k0_off37 (i : grid0.Coords) (k0_t2 : Fin (k0_t2_loop i).trips) (c0_i32_770 : BitVec 32) : Fin 4 → Nat :=
  let c2 : Index := 2#32
  let c2_i32_769 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1827 : BitVec 32 := Scalar.muli c2_i32_769 arg15
  let v1828 : BitVec 32 := Scalar.addi v1827 c0_i32_770
  let v1829 : Index := Scalar.indexCast v1828
  let c0_771 : Index := 0#32
  let c0_772 : Index := 0#32
  ![2, v1829.toNat, 0, 0]
def k0_off38 (i : grid0.Coords) (k0_t2 : Fin (k0_t2_loop i).trips) (c0_i32_774 : BitVec 32) : Fin 4 → Nat :=
  let c3 : Index := 3#32
  let c2_i32_773 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1833 : BitVec 32 := Scalar.muli c2_i32_773 arg15
  let v1834 : BitVec 32 := Scalar.addi v1833 c0_i32_774
  let v1835 : Index := Scalar.indexCast v1834
  let c0_775 : Index := 0#32
  let c0_776 : Index := 0#32
  ![3, v1835.toNat, 0, 0]
def k0_off39 (i : grid0.Coords) (k0_t2 : Fin (k0_t2_loop i).trips) (c0_i32_778 : BitVec 32) : Fin 4 → Nat :=
  let c4 : Index := 4#32
  let c2_i32_777 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1839 : BitVec 32 := Scalar.muli c2_i32_777 arg15
  let v1840 : BitVec 32 := Scalar.addi v1839 c0_i32_778
  let v1841 : Index := Scalar.indexCast v1840
  let c0_779 : Index := 0#32
  let c0_780 : Index := 0#32
  ![4, v1841.toNat, 0, 0]
def k0_off40 (i : grid0.Coords) (k0_t2 : Fin (k0_t2_loop i).trips) (c0_i32_782 : BitVec 32) : Fin 4 → Nat :=
  let c5 : Index := 5#32
  let c2_i32_781 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1845 : BitVec 32 := Scalar.muli c2_i32_781 arg15
  let v1846 : BitVec 32 := Scalar.addi v1845 c0_i32_782
  let v1847 : Index := Scalar.indexCast v1846
  let c0_783 : Index := 0#32
  let c0_784 : Index := 0#32
  ![5, v1847.toNat, 0, 0]
def k0_off41 (i : grid0.Coords) (k0_t2 : Fin (k0_t2_loop i).trips) (c0_i32_786 : BitVec 32) : Fin 4 → Nat :=
  let c6 : Index := 6#32
  let c2_i32_785 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1851 : BitVec 32 := Scalar.muli c2_i32_785 arg15
  let v1852 : BitVec 32 := Scalar.addi v1851 c0_i32_786
  let v1853 : Index := Scalar.indexCast v1852
  let c0_787 : Index := 0#32
  let c0_788 : Index := 0#32
  ![6, v1853.toNat, 0, 0]
def k0_off42 (i : grid0.Coords) (k0_t2 : Fin (k0_t2_loop i).trips) (c0_i32_790 : BitVec 32) : Fin 4 → Nat :=
  let c7 : Index := 7#32
  let c2_i32_789 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1857 : BitVec 32 := Scalar.muli c2_i32_789 arg15
  let v1858 : BitVec 32 := Scalar.addi v1857 c0_i32_790
  let v1859 : Index := Scalar.indexCast v1858
  let c0_791 : Index := 0#32
  let c0_792 : Index := 0#32
  ![7, v1859.toNat, 0, 0]
def k0_off43 (i : grid0.Coords) (k0_t2 : Fin (k0_t2_loop i).trips) (c0_i32_794 : BitVec 32) : Fin 4 → Nat :=
  let c8 : Index := 8#32
  let c2_i32_793 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1863 : BitVec 32 := Scalar.muli c2_i32_793 arg15
  let v1864 : BitVec 32 := Scalar.addi v1863 c0_i32_794
  let v1865 : Index := Scalar.indexCast v1864
  let c0_795 : Index := 0#32
  let c0_796 : Index := 0#32
  ![8, v1865.toNat, 0, 0]
def k0_off44 (i : grid0.Coords) (k0_t2 : Fin (k0_t2_loop i).trips) (c0_i32_798 : BitVec 32) : Fin 4 → Nat :=
  let c9 : Index := 9#32
  let c2_i32_797 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1869 : BitVec 32 := Scalar.muli c2_i32_797 arg15
  let v1870 : BitVec 32 := Scalar.addi v1869 c0_i32_798
  let v1871 : Index := Scalar.indexCast v1870
  let c0_799 : Index := 0#32
  let c0_800 : Index := 0#32
  ![9, v1871.toNat, 0, 0]
def k0_off45 (i : grid0.Coords) (k0_t2 : Fin (k0_t2_loop i).trips) (c0_i32_802 : BitVec 32) : Fin 4 → Nat :=
  let c10 : Index := 10#32
  let c2_i32_801 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1875 : BitVec 32 := Scalar.muli c2_i32_801 arg15
  let v1876 : BitVec 32 := Scalar.addi v1875 c0_i32_802
  let v1877 : Index := Scalar.indexCast v1876
  let c0_803 : Index := 0#32
  let c0_804 : Index := 0#32
  ![10, v1877.toNat, 0, 0]
def k0_off46 (i : grid0.Coords) (k0_t2 : Fin (k0_t2_loop i).trips) (c0_i32_806 : BitVec 32) : Fin 4 → Nat :=
  let c11 : Index := 11#32
  let c2_i32_805 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1881 : BitVec 32 := Scalar.muli c2_i32_805 arg15
  let v1882 : BitVec 32 := Scalar.addi v1881 c0_i32_806
  let v1883 : Index := Scalar.indexCast v1882
  let c0_807 : Index := 0#32
  let c0_808 : Index := 0#32
  ![11, v1883.toNat, 0, 0]
def k0_off47 (i : grid0.Coords) (k0_t2 : Fin (k0_t2_loop i).trips) (c0_i32_810 : BitVec 32) : Fin 4 → Nat :=
  let c12 : Index := 12#32
  let c2_i32_809 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1887 : BitVec 32 := Scalar.muli c2_i32_809 arg15
  let v1888 : BitVec 32 := Scalar.addi v1887 c0_i32_810
  let v1889 : Index := Scalar.indexCast v1888
  let c0_811 : Index := 0#32
  let c0_812 : Index := 0#32
  ![12, v1889.toNat, 0, 0]
def k0_off48 (i : grid0.Coords) (k0_t2 : Fin (k0_t2_loop i).trips) (c0_i32_814 : BitVec 32) : Fin 4 → Nat :=
  let c13 : Index := 13#32
  let c2_i32_813 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1893 : BitVec 32 := Scalar.muli c2_i32_813 arg15
  let v1894 : BitVec 32 := Scalar.addi v1893 c0_i32_814
  let v1895 : Index := Scalar.indexCast v1894
  let c0_815 : Index := 0#32
  let c0_816 : Index := 0#32
  ![13, v1895.toNat, 0, 0]
def k0_off49 (i : grid0.Coords) (k0_t2 : Fin (k0_t2_loop i).trips) (c0_i32_818 : BitVec 32) : Fin 4 → Nat :=
  let c14 : Index := 14#32
  let c2_i32_817 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1899 : BitVec 32 := Scalar.muli c2_i32_817 arg15
  let v1900 : BitVec 32 := Scalar.addi v1899 c0_i32_818
  let v1901 : Index := Scalar.indexCast v1900
  let c0_819 : Index := 0#32
  let c0_820 : Index := 0#32
  ![14, v1901.toNat, 0, 0]
def k0_off50 (i : grid0.Coords) (k0_t2 : Fin (k0_t2_loop i).trips) (c0_i32_822 : BitVec 32) : Fin 4 → Nat :=
  let c15 : Index := 15#32
  let c2_i32_821 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1905 : BitVec 32 := Scalar.muli c2_i32_821 arg15
  let v1906 : BitVec 32 := Scalar.addi v1905 c0_i32_822
  let v1907 : Index := Scalar.indexCast v1906
  let c0_823 : Index := 0#32
  let c0_824 : Index := 0#32
  ![15, v1907.toNat, 0, 0]
def k0_off51 (i : grid0.Coords) (k0_t2 : Fin (k0_t2_loop i).trips) (c0_i32_826 : BitVec 32) : Fin 4 → Nat :=
  let c16 : Index := 16#32
  let c2_i32_825 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1911 : BitVec 32 := Scalar.muli c2_i32_825 arg15
  let v1912 : BitVec 32 := Scalar.addi v1911 c0_i32_826
  let v1913 : Index := Scalar.indexCast v1912
  let c0_827 : Index := 0#32
  let c0_828 : Index := 0#32
  ![16, v1913.toNat, 0, 0]
def k0_off52 (i : grid0.Coords) (k0_t2 : Fin (k0_t2_loop i).trips) (c0_i32_830 : BitVec 32) : Fin 4 → Nat :=
  let c17 : Index := 17#32
  let c2_i32_829 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1917 : BitVec 32 := Scalar.muli c2_i32_829 arg15
  let v1918 : BitVec 32 := Scalar.addi v1917 c0_i32_830
  let v1919 : Index := Scalar.indexCast v1918
  let c0_831 : Index := 0#32
  let c0_832 : Index := 0#32
  ![17, v1919.toNat, 0, 0]
def k0_off53 (i : grid0.Coords) (k0_t2 : Fin (k0_t2_loop i).trips) (c0_i32_834 : BitVec 32) : Fin 4 → Nat :=
  let c18 : Index := 18#32
  let c2_i32_833 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1923 : BitVec 32 := Scalar.muli c2_i32_833 arg15
  let v1924 : BitVec 32 := Scalar.addi v1923 c0_i32_834
  let v1925 : Index := Scalar.indexCast v1924
  let c0_835 : Index := 0#32
  let c0_836 : Index := 0#32
  ![18, v1925.toNat, 0, 0]
def k0_off54 (i : grid0.Coords) (k0_t2 : Fin (k0_t2_loop i).trips) (c0_i32_838 : BitVec 32) : Fin 4 → Nat :=
  let c19 : Index := 19#32
  let c2_i32_837 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1929 : BitVec 32 := Scalar.muli c2_i32_837 arg15
  let v1930 : BitVec 32 := Scalar.addi v1929 c0_i32_838
  let v1931 : Index := Scalar.indexCast v1930
  let c0_839 : Index := 0#32
  let c0_840 : Index := 0#32
  ![19, v1931.toNat, 0, 0]
def k0_off55 (i : grid0.Coords) (k0_t2 : Fin (k0_t2_loop i).trips) (c0_i32_842 : BitVec 32) : Fin 4 → Nat :=
  let c20 : Index := 20#32
  let c2_i32_841 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1935 : BitVec 32 := Scalar.muli c2_i32_841 arg15
  let v1936 : BitVec 32 := Scalar.addi v1935 c0_i32_842
  let v1937 : Index := Scalar.indexCast v1936
  let c0_843 : Index := 0#32
  let c0_844 : Index := 0#32
  ![20, v1937.toNat, 0, 0]
def k0_off56 (i : grid0.Coords) (k0_t2 : Fin (k0_t2_loop i).trips) (c0_i32_846 : BitVec 32) : Fin 4 → Nat :=
  let c21 : Index := 21#32
  let c2_i32_845 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1941 : BitVec 32 := Scalar.muli c2_i32_845 arg15
  let v1942 : BitVec 32 := Scalar.addi v1941 c0_i32_846
  let v1943 : Index := Scalar.indexCast v1942
  let c0_847 : Index := 0#32
  let c0_848 : Index := 0#32
  ![21, v1943.toNat, 0, 0]
def k0_off57 (i : grid0.Coords) (k0_t2 : Fin (k0_t2_loop i).trips) (c0_i32_850 : BitVec 32) : Fin 4 → Nat :=
  let c22 : Index := 22#32
  let c2_i32_849 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1947 : BitVec 32 := Scalar.muli c2_i32_849 arg15
  let v1948 : BitVec 32 := Scalar.addi v1947 c0_i32_850
  let v1949 : Index := Scalar.indexCast v1948
  let c0_851 : Index := 0#32
  let c0_852 : Index := 0#32
  ![22, v1949.toNat, 0, 0]
def k0_off58 (i : grid0.Coords) (k0_t2 : Fin (k0_t2_loop i).trips) (c0_i32_854 : BitVec 32) : Fin 4 → Nat :=
  let c23 : Index := 23#32
  let c2_i32_853 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1953 : BitVec 32 := Scalar.muli c2_i32_853 arg15
  let v1954 : BitVec 32 := Scalar.addi v1953 c0_i32_854
  let v1955 : Index := Scalar.indexCast v1954
  let c0_855 : Index := 0#32
  let c0_856 : Index := 0#32
  ![23, v1955.toNat, 0, 0]
def k0_off59 (i : grid0.Coords) (k0_t2 : Fin (k0_t2_loop i).trips) (c0_i32_858 : BitVec 32) : Fin 4 → Nat :=
  let c24 : Index := 24#32
  let c2_i32_857 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1959 : BitVec 32 := Scalar.muli c2_i32_857 arg15
  let v1960 : BitVec 32 := Scalar.addi v1959 c0_i32_858
  let v1961 : Index := Scalar.indexCast v1960
  let c0_859 : Index := 0#32
  let c0_860 : Index := 0#32
  ![24, v1961.toNat, 0, 0]
def k0_off60 (i : grid0.Coords) (k0_t2 : Fin (k0_t2_loop i).trips) (c0_i32_862 : BitVec 32) : Fin 4 → Nat :=
  let c25 : Index := 25#32
  let c2_i32_861 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1965 : BitVec 32 := Scalar.muli c2_i32_861 arg15
  let v1966 : BitVec 32 := Scalar.addi v1965 c0_i32_862
  let v1967 : Index := Scalar.indexCast v1966
  let c0_863 : Index := 0#32
  let c0_864 : Index := 0#32
  ![25, v1967.toNat, 0, 0]
def k0_off61 (i : grid0.Coords) (k0_t2 : Fin (k0_t2_loop i).trips) (c0_i32_866 : BitVec 32) : Fin 4 → Nat :=
  let c26 : Index := 26#32
  let c2_i32_865 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1971 : BitVec 32 := Scalar.muli c2_i32_865 arg15
  let v1972 : BitVec 32 := Scalar.addi v1971 c0_i32_866
  let v1973 : Index := Scalar.indexCast v1972
  let c0_867 : Index := 0#32
  let c0_868 : Index := 0#32
  ![26, v1973.toNat, 0, 0]
def k0_off62 (i : grid0.Coords) (k0_t2 : Fin (k0_t2_loop i).trips) (c0_i32_870 : BitVec 32) : Fin 4 → Nat :=
  let c27 : Index := 27#32
  let c2_i32_869 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1977 : BitVec 32 := Scalar.muli c2_i32_869 arg15
  let v1978 : BitVec 32 := Scalar.addi v1977 c0_i32_870
  let v1979 : Index := Scalar.indexCast v1978
  let c0_871 : Index := 0#32
  let c0_872 : Index := 0#32
  ![27, v1979.toNat, 0, 0]
def k0_off63 (i : grid0.Coords) (k0_t2 : Fin (k0_t2_loop i).trips) (c0_i32_874 : BitVec 32) : Fin 4 → Nat :=
  let c28 : Index := 28#32
  let c2_i32_873 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1983 : BitVec 32 := Scalar.muli c2_i32_873 arg15
  let v1984 : BitVec 32 := Scalar.addi v1983 c0_i32_874
  let v1985 : Index := Scalar.indexCast v1984
  let c0_875 : Index := 0#32
  let c0_876 : Index := 0#32
  ![28, v1985.toNat, 0, 0]
def k0_off64 (i : grid0.Coords) (k0_t2 : Fin (k0_t2_loop i).trips) (c0_i32_878 : BitVec 32) : Fin 4 → Nat :=
  let c29 : Index := 29#32
  let c2_i32_877 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1989 : BitVec 32 := Scalar.muli c2_i32_877 arg15
  let v1990 : BitVec 32 := Scalar.addi v1989 c0_i32_878
  let v1991 : Index := Scalar.indexCast v1990
  let c0_879 : Index := 0#32
  let c0_880 : Index := 0#32
  ![29, v1991.toNat, 0, 0]
def k0_off65 (i : grid0.Coords) (k0_t2 : Fin (k0_t2_loop i).trips) (c0_i32_882 : BitVec 32) : Fin 4 → Nat :=
  let c30 : Index := 30#32
  let c2_i32_881 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v1995 : BitVec 32 := Scalar.muli c2_i32_881 arg15
  let v1996 : BitVec 32 := Scalar.addi v1995 c0_i32_882
  let v1997 : Index := Scalar.indexCast v1996
  let c0_883 : Index := 0#32
  let c0_884 : Index := 0#32
  ![30, v1997.toNat, 0, 0]
def k0_off66 (i : grid0.Coords) (k0_t2 : Fin (k0_t2_loop i).trips) (c0_i32_886 : BitVec 32) : Fin 4 → Nat :=
  let c31 : Index := 31#32
  let c2_i32_885 : BitVec 32 := 2#32
  let c0_i32_19 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v70 : BitVec 32 := Scalar.subi v20 c0_i32_19
  let c1_i32_20 : BitVec 32 := 1#32
  let v72 : BitVec 32 := Scalar.divsi v70 c1_i32_20
  let v73 : BitVec 32 := Scalar.muli v72 c1_i32_20
  let v74 : BitVec 32 := Scalar.addi c0_i32_19 v73
  let c1_i32_22 : BitVec 32 := 1#32
  let arg15 : BitVec 32 := Scf.iv v74 c1_i32_22 k0_t2
  let v2001 : BitVec 32 := Scalar.muli c2_i32_885 arg15
  let v2002 : BitVec 32 := Scalar.addi v2001 c0_i32_886
  let v2003 : Index := Scalar.indexCast v2002
  let c0_887 : Index := 0#32
  let c0_888 : Index := 0#32
  ![31, v2003.toNat, 0, 0]
@[reducible] def k0_t3_loop (i : grid0.Coords) : Scf.Loop 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_25 : BitVec 32 := 1#32
  ⟨v20, v79, c1_i32_25⟩
def k0_off67 (i : grid0.Coords) (k0_t3 : Fin (k0_t3_loop i).trips) (c0_i32_513 : BitVec 32) : Fin 4 → Nat :=
  let c0_514 : Index := 0#32
  let c2_i32_512 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1021 : BitVec 32 := Scalar.muli c2_i32_512 arg15
  let v1022 : BitVec 32 := Scalar.addi v1021 c0_i32_513
  let v1023 : Index := Scalar.indexCast v1022
  let c0_515 : Index := 0#32
  let c0_516 : Index := 0#32
  ![0, v1023.toNat, 0, 0]
def k0_off68 (i : grid0.Coords) (k0_t3 : Fin (k0_t3_loop i).trips) (c0_i32_519 : BitVec 32) : Fin 4 → Nat :=
  let c1_520 : Index := 1#32
  let c2_i32_518 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1028 : BitVec 32 := Scalar.muli c2_i32_518 arg15
  let v1029 : BitVec 32 := Scalar.addi v1028 c0_i32_519
  let v1030 : Index := Scalar.indexCast v1029
  let c0_521 : Index := 0#32
  let c0_522 : Index := 0#32
  ![1, v1030.toNat, 0, 0]
def k0_off69 (i : grid0.Coords) (k0_t3 : Fin (k0_t3_loop i).trips) (c0_i32_525 : BitVec 32) : Fin 4 → Nat :=
  let c2 : Index := 2#32
  let c2_i32_524 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1035 : BitVec 32 := Scalar.muli c2_i32_524 arg15
  let v1036 : BitVec 32 := Scalar.addi v1035 c0_i32_525
  let v1037 : Index := Scalar.indexCast v1036
  let c0_526 : Index := 0#32
  let c0_527 : Index := 0#32
  ![2, v1037.toNat, 0, 0]
def k0_off70 (i : grid0.Coords) (k0_t3 : Fin (k0_t3_loop i).trips) (c0_i32_530 : BitVec 32) : Fin 4 → Nat :=
  let c3 : Index := 3#32
  let c2_i32_529 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1042 : BitVec 32 := Scalar.muli c2_i32_529 arg15
  let v1043 : BitVec 32 := Scalar.addi v1042 c0_i32_530
  let v1044 : Index := Scalar.indexCast v1043
  let c0_531 : Index := 0#32
  let c0_532 : Index := 0#32
  ![3, v1044.toNat, 0, 0]
def k0_off71 (i : grid0.Coords) (k0_t3 : Fin (k0_t3_loop i).trips) (c0_i32_535 : BitVec 32) : Fin 4 → Nat :=
  let c4 : Index := 4#32
  let c2_i32_534 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1049 : BitVec 32 := Scalar.muli c2_i32_534 arg15
  let v1050 : BitVec 32 := Scalar.addi v1049 c0_i32_535
  let v1051 : Index := Scalar.indexCast v1050
  let c0_536 : Index := 0#32
  let c0_537 : Index := 0#32
  ![4, v1051.toNat, 0, 0]
def k0_off72 (i : grid0.Coords) (k0_t3 : Fin (k0_t3_loop i).trips) (c0_i32_540 : BitVec 32) : Fin 4 → Nat :=
  let c5 : Index := 5#32
  let c2_i32_539 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1056 : BitVec 32 := Scalar.muli c2_i32_539 arg15
  let v1057 : BitVec 32 := Scalar.addi v1056 c0_i32_540
  let v1058 : Index := Scalar.indexCast v1057
  let c0_541 : Index := 0#32
  let c0_542 : Index := 0#32
  ![5, v1058.toNat, 0, 0]
def k0_off73 (i : grid0.Coords) (k0_t3 : Fin (k0_t3_loop i).trips) (c0_i32_545 : BitVec 32) : Fin 4 → Nat :=
  let c6 : Index := 6#32
  let c2_i32_544 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1063 : BitVec 32 := Scalar.muli c2_i32_544 arg15
  let v1064 : BitVec 32 := Scalar.addi v1063 c0_i32_545
  let v1065 : Index := Scalar.indexCast v1064
  let c0_546 : Index := 0#32
  let c0_547 : Index := 0#32
  ![6, v1065.toNat, 0, 0]
def k0_off74 (i : grid0.Coords) (k0_t3 : Fin (k0_t3_loop i).trips) (c0_i32_550 : BitVec 32) : Fin 4 → Nat :=
  let c7 : Index := 7#32
  let c2_i32_549 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1070 : BitVec 32 := Scalar.muli c2_i32_549 arg15
  let v1071 : BitVec 32 := Scalar.addi v1070 c0_i32_550
  let v1072 : Index := Scalar.indexCast v1071
  let c0_551 : Index := 0#32
  let c0_552 : Index := 0#32
  ![7, v1072.toNat, 0, 0]
def k0_off75 (i : grid0.Coords) (k0_t3 : Fin (k0_t3_loop i).trips) (c0_i32_555 : BitVec 32) : Fin 4 → Nat :=
  let c8 : Index := 8#32
  let c2_i32_554 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1077 : BitVec 32 := Scalar.muli c2_i32_554 arg15
  let v1078 : BitVec 32 := Scalar.addi v1077 c0_i32_555
  let v1079 : Index := Scalar.indexCast v1078
  let c0_556 : Index := 0#32
  let c0_557 : Index := 0#32
  ![8, v1079.toNat, 0, 0]
def k0_off76 (i : grid0.Coords) (k0_t3 : Fin (k0_t3_loop i).trips) (c0_i32_560 : BitVec 32) : Fin 4 → Nat :=
  let c9 : Index := 9#32
  let c2_i32_559 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1084 : BitVec 32 := Scalar.muli c2_i32_559 arg15
  let v1085 : BitVec 32 := Scalar.addi v1084 c0_i32_560
  let v1086 : Index := Scalar.indexCast v1085
  let c0_561 : Index := 0#32
  let c0_562 : Index := 0#32
  ![9, v1086.toNat, 0, 0]
def k0_off77 (i : grid0.Coords) (k0_t3 : Fin (k0_t3_loop i).trips) (c0_i32_565 : BitVec 32) : Fin 4 → Nat :=
  let c10 : Index := 10#32
  let c2_i32_564 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1091 : BitVec 32 := Scalar.muli c2_i32_564 arg15
  let v1092 : BitVec 32 := Scalar.addi v1091 c0_i32_565
  let v1093 : Index := Scalar.indexCast v1092
  let c0_566 : Index := 0#32
  let c0_567 : Index := 0#32
  ![10, v1093.toNat, 0, 0]
def k0_off78 (i : grid0.Coords) (k0_t3 : Fin (k0_t3_loop i).trips) (c0_i32_570 : BitVec 32) : Fin 4 → Nat :=
  let c11 : Index := 11#32
  let c2_i32_569 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1098 : BitVec 32 := Scalar.muli c2_i32_569 arg15
  let v1099 : BitVec 32 := Scalar.addi v1098 c0_i32_570
  let v1100 : Index := Scalar.indexCast v1099
  let c0_571 : Index := 0#32
  let c0_572 : Index := 0#32
  ![11, v1100.toNat, 0, 0]
def k0_off79 (i : grid0.Coords) (k0_t3 : Fin (k0_t3_loop i).trips) (c0_i32_575 : BitVec 32) : Fin 4 → Nat :=
  let c12 : Index := 12#32
  let c2_i32_574 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1105 : BitVec 32 := Scalar.muli c2_i32_574 arg15
  let v1106 : BitVec 32 := Scalar.addi v1105 c0_i32_575
  let v1107 : Index := Scalar.indexCast v1106
  let c0_576 : Index := 0#32
  let c0_577 : Index := 0#32
  ![12, v1107.toNat, 0, 0]
def k0_off80 (i : grid0.Coords) (k0_t3 : Fin (k0_t3_loop i).trips) (c0_i32_580 : BitVec 32) : Fin 4 → Nat :=
  let c13 : Index := 13#32
  let c2_i32_579 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1112 : BitVec 32 := Scalar.muli c2_i32_579 arg15
  let v1113 : BitVec 32 := Scalar.addi v1112 c0_i32_580
  let v1114 : Index := Scalar.indexCast v1113
  let c0_581 : Index := 0#32
  let c0_582 : Index := 0#32
  ![13, v1114.toNat, 0, 0]
def k0_off81 (i : grid0.Coords) (k0_t3 : Fin (k0_t3_loop i).trips) (c0_i32_585 : BitVec 32) : Fin 4 → Nat :=
  let c14 : Index := 14#32
  let c2_i32_584 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1119 : BitVec 32 := Scalar.muli c2_i32_584 arg15
  let v1120 : BitVec 32 := Scalar.addi v1119 c0_i32_585
  let v1121 : Index := Scalar.indexCast v1120
  let c0_586 : Index := 0#32
  let c0_587 : Index := 0#32
  ![14, v1121.toNat, 0, 0]
def k0_off82 (i : grid0.Coords) (k0_t3 : Fin (k0_t3_loop i).trips) (c0_i32_590 : BitVec 32) : Fin 4 → Nat :=
  let c15 : Index := 15#32
  let c2_i32_589 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1126 : BitVec 32 := Scalar.muli c2_i32_589 arg15
  let v1127 : BitVec 32 := Scalar.addi v1126 c0_i32_590
  let v1128 : Index := Scalar.indexCast v1127
  let c0_591 : Index := 0#32
  let c0_592 : Index := 0#32
  ![15, v1128.toNat, 0, 0]
def k0_off83 (i : grid0.Coords) (k0_t3 : Fin (k0_t3_loop i).trips) (c0_i32_595 : BitVec 32) : Fin 4 → Nat :=
  let c16 : Index := 16#32
  let c2_i32_594 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1133 : BitVec 32 := Scalar.muli c2_i32_594 arg15
  let v1134 : BitVec 32 := Scalar.addi v1133 c0_i32_595
  let v1135 : Index := Scalar.indexCast v1134
  let c0_596 : Index := 0#32
  let c0_597 : Index := 0#32
  ![16, v1135.toNat, 0, 0]
def k0_off84 (i : grid0.Coords) (k0_t3 : Fin (k0_t3_loop i).trips) (c0_i32_600 : BitVec 32) : Fin 4 → Nat :=
  let c17 : Index := 17#32
  let c2_i32_599 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1140 : BitVec 32 := Scalar.muli c2_i32_599 arg15
  let v1141 : BitVec 32 := Scalar.addi v1140 c0_i32_600
  let v1142 : Index := Scalar.indexCast v1141
  let c0_601 : Index := 0#32
  let c0_602 : Index := 0#32
  ![17, v1142.toNat, 0, 0]
def k0_off85 (i : grid0.Coords) (k0_t3 : Fin (k0_t3_loop i).trips) (c0_i32_605 : BitVec 32) : Fin 4 → Nat :=
  let c18 : Index := 18#32
  let c2_i32_604 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1147 : BitVec 32 := Scalar.muli c2_i32_604 arg15
  let v1148 : BitVec 32 := Scalar.addi v1147 c0_i32_605
  let v1149 : Index := Scalar.indexCast v1148
  let c0_606 : Index := 0#32
  let c0_607 : Index := 0#32
  ![18, v1149.toNat, 0, 0]
def k0_off86 (i : grid0.Coords) (k0_t3 : Fin (k0_t3_loop i).trips) (c0_i32_610 : BitVec 32) : Fin 4 → Nat :=
  let c19 : Index := 19#32
  let c2_i32_609 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1154 : BitVec 32 := Scalar.muli c2_i32_609 arg15
  let v1155 : BitVec 32 := Scalar.addi v1154 c0_i32_610
  let v1156 : Index := Scalar.indexCast v1155
  let c0_611 : Index := 0#32
  let c0_612 : Index := 0#32
  ![19, v1156.toNat, 0, 0]
def k0_off87 (i : grid0.Coords) (k0_t3 : Fin (k0_t3_loop i).trips) (c0_i32_615 : BitVec 32) : Fin 4 → Nat :=
  let c20 : Index := 20#32
  let c2_i32_614 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1161 : BitVec 32 := Scalar.muli c2_i32_614 arg15
  let v1162 : BitVec 32 := Scalar.addi v1161 c0_i32_615
  let v1163 : Index := Scalar.indexCast v1162
  let c0_616 : Index := 0#32
  let c0_617 : Index := 0#32
  ![20, v1163.toNat, 0, 0]
def k0_off88 (i : grid0.Coords) (k0_t3 : Fin (k0_t3_loop i).trips) (c0_i32_620 : BitVec 32) : Fin 4 → Nat :=
  let c21 : Index := 21#32
  let c2_i32_619 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1168 : BitVec 32 := Scalar.muli c2_i32_619 arg15
  let v1169 : BitVec 32 := Scalar.addi v1168 c0_i32_620
  let v1170 : Index := Scalar.indexCast v1169
  let c0_621 : Index := 0#32
  let c0_622 : Index := 0#32
  ![21, v1170.toNat, 0, 0]
def k0_off89 (i : grid0.Coords) (k0_t3 : Fin (k0_t3_loop i).trips) (c0_i32_625 : BitVec 32) : Fin 4 → Nat :=
  let c22 : Index := 22#32
  let c2_i32_624 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1175 : BitVec 32 := Scalar.muli c2_i32_624 arg15
  let v1176 : BitVec 32 := Scalar.addi v1175 c0_i32_625
  let v1177 : Index := Scalar.indexCast v1176
  let c0_626 : Index := 0#32
  let c0_627 : Index := 0#32
  ![22, v1177.toNat, 0, 0]
def k0_off90 (i : grid0.Coords) (k0_t3 : Fin (k0_t3_loop i).trips) (c0_i32_630 : BitVec 32) : Fin 4 → Nat :=
  let c23 : Index := 23#32
  let c2_i32_629 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1182 : BitVec 32 := Scalar.muli c2_i32_629 arg15
  let v1183 : BitVec 32 := Scalar.addi v1182 c0_i32_630
  let v1184 : Index := Scalar.indexCast v1183
  let c0_631 : Index := 0#32
  let c0_632 : Index := 0#32
  ![23, v1184.toNat, 0, 0]
def k0_off91 (i : grid0.Coords) (k0_t3 : Fin (k0_t3_loop i).trips) (c0_i32_635 : BitVec 32) : Fin 4 → Nat :=
  let c24 : Index := 24#32
  let c2_i32_634 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1189 : BitVec 32 := Scalar.muli c2_i32_634 arg15
  let v1190 : BitVec 32 := Scalar.addi v1189 c0_i32_635
  let v1191 : Index := Scalar.indexCast v1190
  let c0_636 : Index := 0#32
  let c0_637 : Index := 0#32
  ![24, v1191.toNat, 0, 0]
def k0_off92 (i : grid0.Coords) (k0_t3 : Fin (k0_t3_loop i).trips) (c0_i32_640 : BitVec 32) : Fin 4 → Nat :=
  let c25 : Index := 25#32
  let c2_i32_639 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1196 : BitVec 32 := Scalar.muli c2_i32_639 arg15
  let v1197 : BitVec 32 := Scalar.addi v1196 c0_i32_640
  let v1198 : Index := Scalar.indexCast v1197
  let c0_641 : Index := 0#32
  let c0_642 : Index := 0#32
  ![25, v1198.toNat, 0, 0]
def k0_off93 (i : grid0.Coords) (k0_t3 : Fin (k0_t3_loop i).trips) (c0_i32_645 : BitVec 32) : Fin 4 → Nat :=
  let c26 : Index := 26#32
  let c2_i32_644 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1203 : BitVec 32 := Scalar.muli c2_i32_644 arg15
  let v1204 : BitVec 32 := Scalar.addi v1203 c0_i32_645
  let v1205 : Index := Scalar.indexCast v1204
  let c0_646 : Index := 0#32
  let c0_647 : Index := 0#32
  ![26, v1205.toNat, 0, 0]
def k0_off94 (i : grid0.Coords) (k0_t3 : Fin (k0_t3_loop i).trips) (c0_i32_650 : BitVec 32) : Fin 4 → Nat :=
  let c27 : Index := 27#32
  let c2_i32_649 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1210 : BitVec 32 := Scalar.muli c2_i32_649 arg15
  let v1211 : BitVec 32 := Scalar.addi v1210 c0_i32_650
  let v1212 : Index := Scalar.indexCast v1211
  let c0_651 : Index := 0#32
  let c0_652 : Index := 0#32
  ![27, v1212.toNat, 0, 0]
def k0_off95 (i : grid0.Coords) (k0_t3 : Fin (k0_t3_loop i).trips) (c0_i32_655 : BitVec 32) : Fin 4 → Nat :=
  let c28 : Index := 28#32
  let c2_i32_654 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1217 : BitVec 32 := Scalar.muli c2_i32_654 arg15
  let v1218 : BitVec 32 := Scalar.addi v1217 c0_i32_655
  let v1219 : Index := Scalar.indexCast v1218
  let c0_656 : Index := 0#32
  let c0_657 : Index := 0#32
  ![28, v1219.toNat, 0, 0]
def k0_off96 (i : grid0.Coords) (k0_t3 : Fin (k0_t3_loop i).trips) (c0_i32_660 : BitVec 32) : Fin 4 → Nat :=
  let c29 : Index := 29#32
  let c2_i32_659 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1224 : BitVec 32 := Scalar.muli c2_i32_659 arg15
  let v1225 : BitVec 32 := Scalar.addi v1224 c0_i32_660
  let v1226 : Index := Scalar.indexCast v1225
  let c0_661 : Index := 0#32
  let c0_662 : Index := 0#32
  ![29, v1226.toNat, 0, 0]
def k0_off97 (i : grid0.Coords) (k0_t3 : Fin (k0_t3_loop i).trips) (c0_i32_665 : BitVec 32) : Fin 4 → Nat :=
  let c30 : Index := 30#32
  let c2_i32_664 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1231 : BitVec 32 := Scalar.muli c2_i32_664 arg15
  let v1232 : BitVec 32 := Scalar.addi v1231 c0_i32_665
  let v1233 : Index := Scalar.indexCast v1232
  let c0_666 : Index := 0#32
  let c0_667 : Index := 0#32
  ![30, v1233.toNat, 0, 0]
def k0_off98 (i : grid0.Coords) (k0_t3 : Fin (k0_t3_loop i).trips) (c0_i32_670 : BitVec 32) : Fin 4 → Nat :=
  let c31 : Index := 31#32
  let c2_i32_669 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let arg15 : BitVec 32 := Scf.iv v20 c1_i32_25 k0_t3
  let v1238 : BitVec 32 := Scalar.muli c2_i32_669 arg15
  let v1239 : BitVec 32 := Scalar.addi v1238 c0_i32_670
  let v1240 : Index := Scalar.indexCast v1239
  let c0_671 : Index := 0#32
  let c0_672 : Index := 0#32
  ![31, v1240.toNat, 0, 0]
@[reducible] def k0_t4_loop (i : grid0.Coords) : Scf.Loop 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let v76 : BitVec 32 := Scalar.addi v20 v75
  let c1_i32_26 : BitVec 32 := 1#32
  ⟨v79, v76, c1_i32_26⟩
def k0_off99 (i : grid0.Coords) (k0_t4 : Fin (k0_t4_loop i).trips) (c0_i32_513 : BitVec 32) : Fin 4 → Nat :=
  let c0_514 : Index := 0#32
  let c2_i32_512 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1021 : BitVec 32 := Scalar.muli c2_i32_512 arg15
  let v1022 : BitVec 32 := Scalar.addi v1021 c0_i32_513
  let v1023 : Index := Scalar.indexCast v1022
  let c0_515 : Index := 0#32
  let c0_516 : Index := 0#32
  ![0, v1023.toNat, 0, 0]
def k0_off100 (i : grid0.Coords) (k0_t4 : Fin (k0_t4_loop i).trips) (c0_i32_519 : BitVec 32) : Fin 4 → Nat :=
  let c1_520 : Index := 1#32
  let c2_i32_518 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1028 : BitVec 32 := Scalar.muli c2_i32_518 arg15
  let v1029 : BitVec 32 := Scalar.addi v1028 c0_i32_519
  let v1030 : Index := Scalar.indexCast v1029
  let c0_521 : Index := 0#32
  let c0_522 : Index := 0#32
  ![1, v1030.toNat, 0, 0]
def k0_off101 (i : grid0.Coords) (k0_t4 : Fin (k0_t4_loop i).trips) (c0_i32_525 : BitVec 32) : Fin 4 → Nat :=
  let c2 : Index := 2#32
  let c2_i32_524 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1035 : BitVec 32 := Scalar.muli c2_i32_524 arg15
  let v1036 : BitVec 32 := Scalar.addi v1035 c0_i32_525
  let v1037 : Index := Scalar.indexCast v1036
  let c0_526 : Index := 0#32
  let c0_527 : Index := 0#32
  ![2, v1037.toNat, 0, 0]
def k0_off102 (i : grid0.Coords) (k0_t4 : Fin (k0_t4_loop i).trips) (c0_i32_530 : BitVec 32) : Fin 4 → Nat :=
  let c3 : Index := 3#32
  let c2_i32_529 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1042 : BitVec 32 := Scalar.muli c2_i32_529 arg15
  let v1043 : BitVec 32 := Scalar.addi v1042 c0_i32_530
  let v1044 : Index := Scalar.indexCast v1043
  let c0_531 : Index := 0#32
  let c0_532 : Index := 0#32
  ![3, v1044.toNat, 0, 0]
def k0_off103 (i : grid0.Coords) (k0_t4 : Fin (k0_t4_loop i).trips) (c0_i32_535 : BitVec 32) : Fin 4 → Nat :=
  let c4 : Index := 4#32
  let c2_i32_534 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1049 : BitVec 32 := Scalar.muli c2_i32_534 arg15
  let v1050 : BitVec 32 := Scalar.addi v1049 c0_i32_535
  let v1051 : Index := Scalar.indexCast v1050
  let c0_536 : Index := 0#32
  let c0_537 : Index := 0#32
  ![4, v1051.toNat, 0, 0]
def k0_off104 (i : grid0.Coords) (k0_t4 : Fin (k0_t4_loop i).trips) (c0_i32_540 : BitVec 32) : Fin 4 → Nat :=
  let c5 : Index := 5#32
  let c2_i32_539 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1056 : BitVec 32 := Scalar.muli c2_i32_539 arg15
  let v1057 : BitVec 32 := Scalar.addi v1056 c0_i32_540
  let v1058 : Index := Scalar.indexCast v1057
  let c0_541 : Index := 0#32
  let c0_542 : Index := 0#32
  ![5, v1058.toNat, 0, 0]
def k0_off105 (i : grid0.Coords) (k0_t4 : Fin (k0_t4_loop i).trips) (c0_i32_545 : BitVec 32) : Fin 4 → Nat :=
  let c6 : Index := 6#32
  let c2_i32_544 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1063 : BitVec 32 := Scalar.muli c2_i32_544 arg15
  let v1064 : BitVec 32 := Scalar.addi v1063 c0_i32_545
  let v1065 : Index := Scalar.indexCast v1064
  let c0_546 : Index := 0#32
  let c0_547 : Index := 0#32
  ![6, v1065.toNat, 0, 0]
def k0_off106 (i : grid0.Coords) (k0_t4 : Fin (k0_t4_loop i).trips) (c0_i32_550 : BitVec 32) : Fin 4 → Nat :=
  let c7 : Index := 7#32
  let c2_i32_549 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1070 : BitVec 32 := Scalar.muli c2_i32_549 arg15
  let v1071 : BitVec 32 := Scalar.addi v1070 c0_i32_550
  let v1072 : Index := Scalar.indexCast v1071
  let c0_551 : Index := 0#32
  let c0_552 : Index := 0#32
  ![7, v1072.toNat, 0, 0]
def k0_off107 (i : grid0.Coords) (k0_t4 : Fin (k0_t4_loop i).trips) (c0_i32_555 : BitVec 32) : Fin 4 → Nat :=
  let c8 : Index := 8#32
  let c2_i32_554 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1077 : BitVec 32 := Scalar.muli c2_i32_554 arg15
  let v1078 : BitVec 32 := Scalar.addi v1077 c0_i32_555
  let v1079 : Index := Scalar.indexCast v1078
  let c0_556 : Index := 0#32
  let c0_557 : Index := 0#32
  ![8, v1079.toNat, 0, 0]
def k0_off108 (i : grid0.Coords) (k0_t4 : Fin (k0_t4_loop i).trips) (c0_i32_560 : BitVec 32) : Fin 4 → Nat :=
  let c9 : Index := 9#32
  let c2_i32_559 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1084 : BitVec 32 := Scalar.muli c2_i32_559 arg15
  let v1085 : BitVec 32 := Scalar.addi v1084 c0_i32_560
  let v1086 : Index := Scalar.indexCast v1085
  let c0_561 : Index := 0#32
  let c0_562 : Index := 0#32
  ![9, v1086.toNat, 0, 0]
def k0_off109 (i : grid0.Coords) (k0_t4 : Fin (k0_t4_loop i).trips) (c0_i32_565 : BitVec 32) : Fin 4 → Nat :=
  let c10 : Index := 10#32
  let c2_i32_564 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1091 : BitVec 32 := Scalar.muli c2_i32_564 arg15
  let v1092 : BitVec 32 := Scalar.addi v1091 c0_i32_565
  let v1093 : Index := Scalar.indexCast v1092
  let c0_566 : Index := 0#32
  let c0_567 : Index := 0#32
  ![10, v1093.toNat, 0, 0]
def k0_off110 (i : grid0.Coords) (k0_t4 : Fin (k0_t4_loop i).trips) (c0_i32_570 : BitVec 32) : Fin 4 → Nat :=
  let c11 : Index := 11#32
  let c2_i32_569 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1098 : BitVec 32 := Scalar.muli c2_i32_569 arg15
  let v1099 : BitVec 32 := Scalar.addi v1098 c0_i32_570
  let v1100 : Index := Scalar.indexCast v1099
  let c0_571 : Index := 0#32
  let c0_572 : Index := 0#32
  ![11, v1100.toNat, 0, 0]
def k0_off111 (i : grid0.Coords) (k0_t4 : Fin (k0_t4_loop i).trips) (c0_i32_575 : BitVec 32) : Fin 4 → Nat :=
  let c12 : Index := 12#32
  let c2_i32_574 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1105 : BitVec 32 := Scalar.muli c2_i32_574 arg15
  let v1106 : BitVec 32 := Scalar.addi v1105 c0_i32_575
  let v1107 : Index := Scalar.indexCast v1106
  let c0_576 : Index := 0#32
  let c0_577 : Index := 0#32
  ![12, v1107.toNat, 0, 0]
def k0_off112 (i : grid0.Coords) (k0_t4 : Fin (k0_t4_loop i).trips) (c0_i32_580 : BitVec 32) : Fin 4 → Nat :=
  let c13 : Index := 13#32
  let c2_i32_579 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1112 : BitVec 32 := Scalar.muli c2_i32_579 arg15
  let v1113 : BitVec 32 := Scalar.addi v1112 c0_i32_580
  let v1114 : Index := Scalar.indexCast v1113
  let c0_581 : Index := 0#32
  let c0_582 : Index := 0#32
  ![13, v1114.toNat, 0, 0]
def k0_off113 (i : grid0.Coords) (k0_t4 : Fin (k0_t4_loop i).trips) (c0_i32_585 : BitVec 32) : Fin 4 → Nat :=
  let c14 : Index := 14#32
  let c2_i32_584 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1119 : BitVec 32 := Scalar.muli c2_i32_584 arg15
  let v1120 : BitVec 32 := Scalar.addi v1119 c0_i32_585
  let v1121 : Index := Scalar.indexCast v1120
  let c0_586 : Index := 0#32
  let c0_587 : Index := 0#32
  ![14, v1121.toNat, 0, 0]
def k0_off114 (i : grid0.Coords) (k0_t4 : Fin (k0_t4_loop i).trips) (c0_i32_590 : BitVec 32) : Fin 4 → Nat :=
  let c15 : Index := 15#32
  let c2_i32_589 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1126 : BitVec 32 := Scalar.muli c2_i32_589 arg15
  let v1127 : BitVec 32 := Scalar.addi v1126 c0_i32_590
  let v1128 : Index := Scalar.indexCast v1127
  let c0_591 : Index := 0#32
  let c0_592 : Index := 0#32
  ![15, v1128.toNat, 0, 0]
def k0_off115 (i : grid0.Coords) (k0_t4 : Fin (k0_t4_loop i).trips) (c0_i32_595 : BitVec 32) : Fin 4 → Nat :=
  let c16 : Index := 16#32
  let c2_i32_594 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1133 : BitVec 32 := Scalar.muli c2_i32_594 arg15
  let v1134 : BitVec 32 := Scalar.addi v1133 c0_i32_595
  let v1135 : Index := Scalar.indexCast v1134
  let c0_596 : Index := 0#32
  let c0_597 : Index := 0#32
  ![16, v1135.toNat, 0, 0]
def k0_off116 (i : grid0.Coords) (k0_t4 : Fin (k0_t4_loop i).trips) (c0_i32_600 : BitVec 32) : Fin 4 → Nat :=
  let c17 : Index := 17#32
  let c2_i32_599 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1140 : BitVec 32 := Scalar.muli c2_i32_599 arg15
  let v1141 : BitVec 32 := Scalar.addi v1140 c0_i32_600
  let v1142 : Index := Scalar.indexCast v1141
  let c0_601 : Index := 0#32
  let c0_602 : Index := 0#32
  ![17, v1142.toNat, 0, 0]
def k0_off117 (i : grid0.Coords) (k0_t4 : Fin (k0_t4_loop i).trips) (c0_i32_605 : BitVec 32) : Fin 4 → Nat :=
  let c18 : Index := 18#32
  let c2_i32_604 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1147 : BitVec 32 := Scalar.muli c2_i32_604 arg15
  let v1148 : BitVec 32 := Scalar.addi v1147 c0_i32_605
  let v1149 : Index := Scalar.indexCast v1148
  let c0_606 : Index := 0#32
  let c0_607 : Index := 0#32
  ![18, v1149.toNat, 0, 0]
def k0_off118 (i : grid0.Coords) (k0_t4 : Fin (k0_t4_loop i).trips) (c0_i32_610 : BitVec 32) : Fin 4 → Nat :=
  let c19 : Index := 19#32
  let c2_i32_609 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1154 : BitVec 32 := Scalar.muli c2_i32_609 arg15
  let v1155 : BitVec 32 := Scalar.addi v1154 c0_i32_610
  let v1156 : Index := Scalar.indexCast v1155
  let c0_611 : Index := 0#32
  let c0_612 : Index := 0#32
  ![19, v1156.toNat, 0, 0]
def k0_off119 (i : grid0.Coords) (k0_t4 : Fin (k0_t4_loop i).trips) (c0_i32_615 : BitVec 32) : Fin 4 → Nat :=
  let c20 : Index := 20#32
  let c2_i32_614 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1161 : BitVec 32 := Scalar.muli c2_i32_614 arg15
  let v1162 : BitVec 32 := Scalar.addi v1161 c0_i32_615
  let v1163 : Index := Scalar.indexCast v1162
  let c0_616 : Index := 0#32
  let c0_617 : Index := 0#32
  ![20, v1163.toNat, 0, 0]
def k0_off120 (i : grid0.Coords) (k0_t4 : Fin (k0_t4_loop i).trips) (c0_i32_620 : BitVec 32) : Fin 4 → Nat :=
  let c21 : Index := 21#32
  let c2_i32_619 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1168 : BitVec 32 := Scalar.muli c2_i32_619 arg15
  let v1169 : BitVec 32 := Scalar.addi v1168 c0_i32_620
  let v1170 : Index := Scalar.indexCast v1169
  let c0_621 : Index := 0#32
  let c0_622 : Index := 0#32
  ![21, v1170.toNat, 0, 0]
def k0_off121 (i : grid0.Coords) (k0_t4 : Fin (k0_t4_loop i).trips) (c0_i32_625 : BitVec 32) : Fin 4 → Nat :=
  let c22 : Index := 22#32
  let c2_i32_624 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1175 : BitVec 32 := Scalar.muli c2_i32_624 arg15
  let v1176 : BitVec 32 := Scalar.addi v1175 c0_i32_625
  let v1177 : Index := Scalar.indexCast v1176
  let c0_626 : Index := 0#32
  let c0_627 : Index := 0#32
  ![22, v1177.toNat, 0, 0]
def k0_off122 (i : grid0.Coords) (k0_t4 : Fin (k0_t4_loop i).trips) (c0_i32_630 : BitVec 32) : Fin 4 → Nat :=
  let c23 : Index := 23#32
  let c2_i32_629 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1182 : BitVec 32 := Scalar.muli c2_i32_629 arg15
  let v1183 : BitVec 32 := Scalar.addi v1182 c0_i32_630
  let v1184 : Index := Scalar.indexCast v1183
  let c0_631 : Index := 0#32
  let c0_632 : Index := 0#32
  ![23, v1184.toNat, 0, 0]
def k0_off123 (i : grid0.Coords) (k0_t4 : Fin (k0_t4_loop i).trips) (c0_i32_635 : BitVec 32) : Fin 4 → Nat :=
  let c24 : Index := 24#32
  let c2_i32_634 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1189 : BitVec 32 := Scalar.muli c2_i32_634 arg15
  let v1190 : BitVec 32 := Scalar.addi v1189 c0_i32_635
  let v1191 : Index := Scalar.indexCast v1190
  let c0_636 : Index := 0#32
  let c0_637 : Index := 0#32
  ![24, v1191.toNat, 0, 0]
def k0_off124 (i : grid0.Coords) (k0_t4 : Fin (k0_t4_loop i).trips) (c0_i32_640 : BitVec 32) : Fin 4 → Nat :=
  let c25 : Index := 25#32
  let c2_i32_639 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1196 : BitVec 32 := Scalar.muli c2_i32_639 arg15
  let v1197 : BitVec 32 := Scalar.addi v1196 c0_i32_640
  let v1198 : Index := Scalar.indexCast v1197
  let c0_641 : Index := 0#32
  let c0_642 : Index := 0#32
  ![25, v1198.toNat, 0, 0]
def k0_off125 (i : grid0.Coords) (k0_t4 : Fin (k0_t4_loop i).trips) (c0_i32_645 : BitVec 32) : Fin 4 → Nat :=
  let c26 : Index := 26#32
  let c2_i32_644 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1203 : BitVec 32 := Scalar.muli c2_i32_644 arg15
  let v1204 : BitVec 32 := Scalar.addi v1203 c0_i32_645
  let v1205 : Index := Scalar.indexCast v1204
  let c0_646 : Index := 0#32
  let c0_647 : Index := 0#32
  ![26, v1205.toNat, 0, 0]
def k0_off126 (i : grid0.Coords) (k0_t4 : Fin (k0_t4_loop i).trips) (c0_i32_650 : BitVec 32) : Fin 4 → Nat :=
  let c27 : Index := 27#32
  let c2_i32_649 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1210 : BitVec 32 := Scalar.muli c2_i32_649 arg15
  let v1211 : BitVec 32 := Scalar.addi v1210 c0_i32_650
  let v1212 : Index := Scalar.indexCast v1211
  let c0_651 : Index := 0#32
  let c0_652 : Index := 0#32
  ![27, v1212.toNat, 0, 0]
def k0_off127 (i : grid0.Coords) (k0_t4 : Fin (k0_t4_loop i).trips) (c0_i32_655 : BitVec 32) : Fin 4 → Nat :=
  let c28 : Index := 28#32
  let c2_i32_654 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1217 : BitVec 32 := Scalar.muli c2_i32_654 arg15
  let v1218 : BitVec 32 := Scalar.addi v1217 c0_i32_655
  let v1219 : Index := Scalar.indexCast v1218
  let c0_656 : Index := 0#32
  let c0_657 : Index := 0#32
  ![28, v1219.toNat, 0, 0]
def k0_off128 (i : grid0.Coords) (k0_t4 : Fin (k0_t4_loop i).trips) (c0_i32_660 : BitVec 32) : Fin 4 → Nat :=
  let c29 : Index := 29#32
  let c2_i32_659 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1224 : BitVec 32 := Scalar.muli c2_i32_659 arg15
  let v1225 : BitVec 32 := Scalar.addi v1224 c0_i32_660
  let v1226 : Index := Scalar.indexCast v1225
  let c0_661 : Index := 0#32
  let c0_662 : Index := 0#32
  ![29, v1226.toNat, 0, 0]
def k0_off129 (i : grid0.Coords) (k0_t4 : Fin (k0_t4_loop i).trips) (c0_i32_665 : BitVec 32) : Fin 4 → Nat :=
  let c30 : Index := 30#32
  let c2_i32_664 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1231 : BitVec 32 := Scalar.muli c2_i32_664 arg15
  let v1232 : BitVec 32 := Scalar.addi v1231 c0_i32_665
  let v1233 : Index := Scalar.indexCast v1232
  let c0_666 : Index := 0#32
  let c0_667 : Index := 0#32
  ![30, v1233.toNat, 0, 0]
def k0_off130 (i : grid0.Coords) (k0_t4 : Fin (k0_t4_loop i).trips) (c0_i32_670 : BitVec 32) : Fin 4 → Nat :=
  let c31 : Index := 31#32
  let c2_i32_669 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c8_i32 : BitVec 32 := 8#32
  let v75 : BitVec 32 := Scalar.subi c8_i32 v20
  let c1_i32_24 : BitVec 32 := 1#32
  let v77 : BitVec 32 := Scalar.divsi v75 c1_i32_24
  let v78 : BitVec 32 := Scalar.muli v77 c1_i32_24
  let v79 : BitVec 32 := Scalar.addi v20 v78
  let c1_i32_26 : BitVec 32 := 1#32
  let arg15 : BitVec 32 := Scf.iv v79 c1_i32_26 k0_t4
  let v1238 : BitVec 32 := Scalar.muli c2_i32_669 arg15
  let v1239 : BitVec 32 := Scalar.addi v1238 c0_i32_670
  let v1240 : Index := Scalar.indexCast v1239
  let c0_671 : Index := 0#32
  let c0_672 : Index := 0#32
  ![31, v1240.toNat, 0, 0]
@[reducible] def k0_t5_loop : Scf.Loop 32 :=
  let c0_i32_44 : BitVec 32 := 0#32
  let c32_i32_45 : BitVec 32 := 32#32
  let v115 : BitVec 32 := Scalar.addi c0_i32_44 c32_i32_45
  let c1_i32_46 : BitVec 32 := 1#32
  ⟨c0_i32_44, v115, c1_i32_46⟩
def k0_off131 (k0_t5 : Fin k0_t5_loop.trips) : Fin 4 → Nat :=
  let c0_i32_44 : BitVec 32 := 0#32
  let c1_i32_46 : BitVec 32 := 1#32
  let arg15 : BitVec 32 := Scf.iv c0_i32_44 c1_i32_46 k0_t5
  let v1020 : Index := Scalar.indexCast arg15
  let c0_511 : Index := 0#32
  let c0_512 : Index := 0#32
  let c0_513 : Index := 0#32
  ![v1020.toNat, 0, 0, 0]
@[reducible] def k0_t6_loop (i : grid0.Coords) : Scf.Loop 32 :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_202 : BitVec 32 := 1#32
  ⟨c0_i32_200, v481, c1_i32_202⟩
def k0_mult3 (i : grid0.Coords) (k0_t6 : Fin (k0_t6_loop i).trips) : BitVec 32 :=
  let c0_i32_200 : BitVec 32 := 0#32
  let c1_i32_202 : BitVec 32 := 1#32
  let arg15 : BitVec 32 := Scf.iv c0_i32_200 c1_i32_202 k0_t6
  let c512_i32_511 : BitVec 32 := 512#32
  let v1020 : BitVec 32 := Scalar.muli arg15 c512_i32_511
  let c256_i32_512 : BitVec 32 := 256#32
  let v1021 : BitVec 32 := Scalar.addi v1020 c256_i32_512
  v1021
def k0_off132 (i : grid0.Coords) (k0_t6 : Fin (k0_t6_loop i).trips) : Fin 4 → Nat :=
  let c0_515 : Index := 0#32
  let c2_i32_513 : BitVec 32 := 2#32
  let c0_i32_200 : BitVec 32 := 0#32
  let c1_i32_202 : BitVec 32 := 1#32
  let arg15 : BitVec 32 := Scf.iv c0_i32_200 c1_i32_202 k0_t6
  let v1023 : BitVec 32 := Scalar.muli c2_i32_513 arg15
  let c1_i32_514 : BitVec 32 := 1#32
  let v1024 : BitVec 32 := Scalar.addi v1023 c1_i32_514
  let v1025 : Index := Scalar.indexCast v1024
  let c0_516 : Index := 0#32
  let c0_517 : Index := 0#32
  ![0, v1025.toNat, 0, 0]
def k0_off133 (i : grid0.Coords) (k0_t6 : Fin (k0_t6_loop i).trips) : Fin 4 → Nat :=
  let c1_583 : Index := 1#32
  let c2_i32_513 : BitVec 32 := 2#32
  let c0_i32_200 : BitVec 32 := 0#32
  let c1_i32_202 : BitVec 32 := 1#32
  let arg15 : BitVec 32 := Scf.iv c0_i32_200 c1_i32_202 k0_t6
  let v1023 : BitVec 32 := Scalar.muli c2_i32_513 arg15
  let c1_i32_514 : BitVec 32 := 1#32
  let v1024 : BitVec 32 := Scalar.addi v1023 c1_i32_514
  let v1162 : Index := Scalar.indexCast v1024
  let c0_584 : Index := 0#32
  let c0_585 : Index := 0#32
  ![1, v1162.toNat, 0, 0]
def k0_off134 (i : grid0.Coords) (k0_t6 : Fin (k0_t6_loop i).trips) : Fin 2 → Nat :=
  let c0_i32_200 : BitVec 32 := 0#32
  let c1_i32_202 : BitVec 32 := 1#32
  let arg15 : BitVec 32 := Scf.iv c0_i32_200 c1_i32_202 k0_t6
  let c512_i32_511 : BitVec 32 := 512#32
  let v1020 : BitVec 32 := Scalar.muli arg15 c512_i32_511
  let c256_i32_512 : BitVec 32 := 256#32
  let v1021 : BitVec 32 := Scalar.addi v1020 c256_i32_512
  let v1022 : BitVec 32 := v1021
  let v1306 : Index := Scalar.indexCast v1022
  let c0_653 : Index := 0#32
  ![v1306.toNat, 0]
def k0_off135 (i : grid0.Coords) (k0_t6 : Fin (k0_t6_loop i).trips) : Fin 2 → Nat :=
  let c0_i32_200 : BitVec 32 := 0#32
  let c1_i32_202 : BitVec 32 := 1#32
  let arg15 : BitVec 32 := Scf.iv c0_i32_200 c1_i32_202 k0_t6
  let c512_i32_511 : BitVec 32 := 512#32
  let v1020 : BitVec 32 := Scalar.muli arg15 c512_i32_511
  let c256_i32_512 : BitVec 32 := 256#32
  let v1021 : BitVec 32 := Scalar.addi v1020 c256_i32_512
  let v1022 : BitVec 32 := v1021
  let v1313 : Index := Scalar.indexCast v1022
  let c128_659 : Index := 128#32
  ![v1313.toNat, 128]
def k0_off136 (i : grid0.Coords) (k0_t6 : Fin (k0_t6_loop i).trips) : Fin 3 → Nat :=
  let c0_i32_200 : BitVec 32 := 0#32
  let c1_i32_202 : BitVec 32 := 1#32
  let arg15 : BitVec 32 := Scf.iv c0_i32_200 c1_i32_202 k0_t6
  let v1320 : Index := Scalar.indexCast arg15
  let c0_665 : Index := 0#32
  let c0_666 : Index := 0#32
  ![v1320.toNat, 0, 0]
def k0_off137 (i : grid0.Coords) (k0_t6 : Fin (k0_t6_loop i).trips) : Fin 3 → Nat :=
  let c0_i32_200 : BitVec 32 := 0#32
  let c1_i32_202 : BitVec 32 := 1#32
  let arg15 : BitVec 32 := Scf.iv c0_i32_200 c1_i32_202 k0_t6
  let v1349 : Index := Scalar.indexCast arg15
  let c128_685 : Index := 128#32
  let c0_686 : Index := 0#32
  ![v1349.toNat, 128, 0]
def k0_mult4 (i : grid0.Coords) (k0_t6 : Fin (k0_t6_loop i).trips) : BitVec 32 :=
  let c0_i32_200 : BitVec 32 := 0#32
  let c1_i32_202 : BitVec 32 := 1#32
  let arg15 : BitVec 32 := Scf.iv c0_i32_200 c1_i32_202 k0_t6
  let c1_i32_705 : BitVec 32 := 1#32
  let v1378 : BitVec 32 := Scalar.addi arg15 c1_i32_705
  let c512_i32_706 : BitVec 32 := 512#32
  let v1379 : BitVec 32 := Scalar.muli v1378 c512_i32_706
  let c0_i32_707 : BitVec 32 := 0#32
  let v1380 : BitVec 32 := Scalar.addi v1379 c0_i32_707
  v1380
def k0_off138 (i : grid0.Coords) (k0_t6 : Fin (k0_t6_loop i).trips) : Fin 4 → Nat :=
  let c0_710 : Index := 0#32
  let c2_i32_708 : BitVec 32 := 2#32
  let c0_i32_200 : BitVec 32 := 0#32
  let c1_i32_202 : BitVec 32 := 1#32
  let arg15 : BitVec 32 := Scf.iv c0_i32_200 c1_i32_202 k0_t6
  let c1_i32_705 : BitVec 32 := 1#32
  let v1378 : BitVec 32 := Scalar.addi arg15 c1_i32_705
  let v1382 : BitVec 32 := Scalar.muli c2_i32_708 v1378
  let c0_i32_709 : BitVec 32 := 0#32
  let v1383 : BitVec 32 := Scalar.addi v1382 c0_i32_709
  let v1384 : Index := Scalar.indexCast v1383
  let c0_711 : Index := 0#32
  let c0_712 : Index := 0#32
  ![0, v1384.toNat, 0, 0]
def k0_off139 (i : grid0.Coords) (k0_t6 : Fin (k0_t6_loop i).trips) : Fin 4 → Nat :=
  let c1_778 : Index := 1#32
  let c2_i32_708 : BitVec 32 := 2#32
  let c0_i32_200 : BitVec 32 := 0#32
  let c1_i32_202 : BitVec 32 := 1#32
  let arg15 : BitVec 32 := Scf.iv c0_i32_200 c1_i32_202 k0_t6
  let c1_i32_705 : BitVec 32 := 1#32
  let v1378 : BitVec 32 := Scalar.addi arg15 c1_i32_705
  let v1382 : BitVec 32 := Scalar.muli c2_i32_708 v1378
  let c0_i32_709 : BitVec 32 := 0#32
  let v1383 : BitVec 32 := Scalar.addi v1382 c0_i32_709
  let v1521 : Index := Scalar.indexCast v1383
  let c0_779 : Index := 0#32
  let c0_780 : Index := 0#32
  ![1, v1521.toNat, 0, 0]
def k0_off140 (i : grid0.Coords) (k0_t6 : Fin (k0_t6_loop i).trips) : Fin 2 → Nat :=
  let c0_i32_200 : BitVec 32 := 0#32
  let c1_i32_202 : BitVec 32 := 1#32
  let arg15 : BitVec 32 := Scf.iv c0_i32_200 c1_i32_202 k0_t6
  let c1_i32_705 : BitVec 32 := 1#32
  let v1378 : BitVec 32 := Scalar.addi arg15 c1_i32_705
  let c512_i32_706 : BitVec 32 := 512#32
  let v1379 : BitVec 32 := Scalar.muli v1378 c512_i32_706
  let c0_i32_707 : BitVec 32 := 0#32
  let v1380 : BitVec 32 := Scalar.addi v1379 c0_i32_707
  let v1381 : BitVec 32 := v1380
  let v1665 : Index := Scalar.indexCast v1381
  let c0_848 : Index := 0#32
  ![v1665.toNat, 0]
def k0_off141 (i : grid0.Coords) (k0_t6 : Fin (k0_t6_loop i).trips) : Fin 2 → Nat :=
  let c0_i32_200 : BitVec 32 := 0#32
  let c1_i32_202 : BitVec 32 := 1#32
  let arg15 : BitVec 32 := Scf.iv c0_i32_200 c1_i32_202 k0_t6
  let c1_i32_705 : BitVec 32 := 1#32
  let v1378 : BitVec 32 := Scalar.addi arg15 c1_i32_705
  let c512_i32_706 : BitVec 32 := 512#32
  let v1379 : BitVec 32 := Scalar.muli v1378 c512_i32_706
  let c0_i32_707 : BitVec 32 := 0#32
  let v1380 : BitVec 32 := Scalar.addi v1379 c0_i32_707
  let v1381 : BitVec 32 := v1380
  let v1672 : Index := Scalar.indexCast v1381
  let c128_854 : Index := 128#32
  ![v1672.toNat, 128]
def k0_off142 (i : grid0.Coords) (k0_t6 : Fin (k0_t6_loop i).trips) : Fin 3 → Nat :=
  let c0_i32_200 : BitVec 32 := 0#32
  let c1_i32_202 : BitVec 32 := 1#32
  let arg15 : BitVec 32 := Scf.iv c0_i32_200 c1_i32_202 k0_t6
  let v1679 : Index := Scalar.indexCast arg15
  let c0_860 : Index := 0#32
  let c256_861 : Index := 256#32
  ![v1679.toNat, 0, 256]
def k0_off143 (i : grid0.Coords) (k0_t6 : Fin (k0_t6_loop i).trips) : Fin 3 → Nat :=
  let c0_i32_200 : BitVec 32 := 0#32
  let c1_i32_202 : BitVec 32 := 1#32
  let arg15 : BitVec 32 := Scf.iv c0_i32_200 c1_i32_202 k0_t6
  let v1708 : Index := Scalar.indexCast arg15
  let c128_880 : Index := 128#32
  let c256_881 : Index := 256#32
  ![v1708.toNat, 128, 256]
@[reducible] def k0_t7_loop (i : grid0.Coords) : Scf.Loop 32 :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let v478 : BitVec 32 := Scalar.addi c0_i32_200 v477
  let c1_i32_203 : BitVec 32 := 1#32
  ⟨v481, v478, c1_i32_203⟩
def k0_mult5 (i : grid0.Coords) (k0_t7 : Fin (k0_t7_loop i).trips) : BitVec 32 :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c512_i32_511 : BitVec 32 := 512#32
  let v1020 : BitVec 32 := Scalar.muli arg15 c512_i32_511
  let c256_i32_512 : BitVec 32 := 256#32
  let v1021 : BitVec 32 := Scalar.addi v1020 c256_i32_512
  v1021
def k0_off144 (i : grid0.Coords) (k0_t7 : Fin (k0_t7_loop i).trips) : Fin 4 → Nat :=
  let c0_515 : Index := 0#32
  let c2_i32_513 : BitVec 32 := 2#32
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let v1023 : BitVec 32 := Scalar.muli c2_i32_513 arg15
  let c1_i32_514 : BitVec 32 := 1#32
  let v1024 : BitVec 32 := Scalar.addi v1023 c1_i32_514
  let v1025 : Index := Scalar.indexCast v1024
  let c0_516 : Index := 0#32
  let c0_517 : Index := 0#32
  ![0, v1025.toNat, 0, 0]
def k0_off145 (i : grid0.Coords) (k0_t7 : Fin (k0_t7_loop i).trips) : Fin 4 → Nat :=
  let c1_583 : Index := 1#32
  let c2_i32_513 : BitVec 32 := 2#32
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let v1023 : BitVec 32 := Scalar.muli c2_i32_513 arg15
  let c1_i32_514 : BitVec 32 := 1#32
  let v1024 : BitVec 32 := Scalar.addi v1023 c1_i32_514
  let v1162 : Index := Scalar.indexCast v1024
  let c0_584 : Index := 0#32
  let c0_585 : Index := 0#32
  ![1, v1162.toNat, 0, 0]
def k0_off146 (i : grid0.Coords) (k0_t7 : Fin (k0_t7_loop i).trips) : Fin 2 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c512_i32_511 : BitVec 32 := 512#32
  let v1020 : BitVec 32 := Scalar.muli arg15 c512_i32_511
  let c256_i32_512 : BitVec 32 := 256#32
  let v1021 : BitVec 32 := Scalar.addi v1020 c256_i32_512
  let v1022 : BitVec 32 := v1021
  let v1306 : Index := Scalar.indexCast v1022
  let c0_653 : Index := 0#32
  ![v1306.toNat, 0]
def k0_off147 (i : grid0.Coords) (k0_t7 : Fin (k0_t7_loop i).trips) : Fin 2 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c512_i32_511 : BitVec 32 := 512#32
  let v1020 : BitVec 32 := Scalar.muli arg15 c512_i32_511
  let c256_i32_512 : BitVec 32 := 256#32
  let v1021 : BitVec 32 := Scalar.addi v1020 c256_i32_512
  let v1022 : BitVec 32 := v1021
  let v1313 : Index := Scalar.indexCast v1022
  let c128_659 : Index := 128#32
  ![v1313.toNat, 128]
def k0_off148 (i : grid0.Coords) (k0_t7 : Fin (k0_t7_loop i).trips) : Fin 3 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let v1320 : Index := Scalar.indexCast arg15
  let c0_665 : Index := 0#32
  let c0_666 : Index := 0#32
  ![v1320.toNat, 0, 0]
def k0_off149 (i : grid0.Coords) (k0_t7 : Fin (k0_t7_loop i).trips) : Fin 3 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let v1349 : Index := Scalar.indexCast arg15
  let c128_685 : Index := 128#32
  let c0_686 : Index := 0#32
  ![v1349.toNat, 128, 0]
def k0_mult6 (i : grid0.Coords) (k0_t7 : Fin (k0_t7_loop i).trips) : BitVec 32 :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c1_i32_705 : BitVec 32 := 1#32
  let v1378 : BitVec 32 := Scalar.addi arg15 c1_i32_705
  let c512_i32_706 : BitVec 32 := 512#32
  let v1379 : BitVec 32 := Scalar.muli v1378 c512_i32_706
  let c0_i32_707 : BitVec 32 := 0#32
  let v1380 : BitVec 32 := Scalar.addi v1379 c0_i32_707
  v1380
def k0_off150 (i : grid0.Coords) (k0_t7 : Fin (k0_t7_loop i).trips) : Fin 4 → Nat :=
  let c0_710 : Index := 0#32
  let c2_i32_708 : BitVec 32 := 2#32
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c1_i32_705 : BitVec 32 := 1#32
  let v1378 : BitVec 32 := Scalar.addi arg15 c1_i32_705
  let v1382 : BitVec 32 := Scalar.muli c2_i32_708 v1378
  let c0_i32_709 : BitVec 32 := 0#32
  let v1383 : BitVec 32 := Scalar.addi v1382 c0_i32_709
  let v1384 : Index := Scalar.indexCast v1383
  let c0_711 : Index := 0#32
  let c0_712 : Index := 0#32
  ![0, v1384.toNat, 0, 0]
def k0_off151 (i : grid0.Coords) (k0_t7 : Fin (k0_t7_loop i).trips) : Fin 4 → Nat :=
  let c1_778 : Index := 1#32
  let c2_i32_708 : BitVec 32 := 2#32
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c1_i32_705 : BitVec 32 := 1#32
  let v1378 : BitVec 32 := Scalar.addi arg15 c1_i32_705
  let v1382 : BitVec 32 := Scalar.muli c2_i32_708 v1378
  let c0_i32_709 : BitVec 32 := 0#32
  let v1383 : BitVec 32 := Scalar.addi v1382 c0_i32_709
  let v1521 : Index := Scalar.indexCast v1383
  let c0_779 : Index := 0#32
  let c0_780 : Index := 0#32
  ![1, v1521.toNat, 0, 0]
def k0_off152 (i : grid0.Coords) (k0_t7 : Fin (k0_t7_loop i).trips) : Fin 2 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c1_i32_705 : BitVec 32 := 1#32
  let v1378 : BitVec 32 := Scalar.addi arg15 c1_i32_705
  let c512_i32_706 : BitVec 32 := 512#32
  let v1379 : BitVec 32 := Scalar.muli v1378 c512_i32_706
  let c0_i32_707 : BitVec 32 := 0#32
  let v1380 : BitVec 32 := Scalar.addi v1379 c0_i32_707
  let v1381 : BitVec 32 := v1380
  let v1665 : Index := Scalar.indexCast v1381
  let c0_848 : Index := 0#32
  ![v1665.toNat, 0]
def k0_off153 (i : grid0.Coords) (k0_t7 : Fin (k0_t7_loop i).trips) : Fin 2 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let c1_i32_705 : BitVec 32 := 1#32
  let v1378 : BitVec 32 := Scalar.addi arg15 c1_i32_705
  let c512_i32_706 : BitVec 32 := 512#32
  let v1379 : BitVec 32 := Scalar.muli v1378 c512_i32_706
  let c0_i32_707 : BitVec 32 := 0#32
  let v1380 : BitVec 32 := Scalar.addi v1379 c0_i32_707
  let v1381 : BitVec 32 := v1380
  let v1672 : Index := Scalar.indexCast v1381
  let c128_854 : Index := 128#32
  ![v1672.toNat, 128]
def k0_off154 (i : grid0.Coords) (k0_t7 : Fin (k0_t7_loop i).trips) : Fin 3 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let v1679 : Index := Scalar.indexCast arg15
  let c0_860 : Index := 0#32
  let c256_861 : Index := 256#32
  ![v1679.toNat, 0, 256]
def k0_off155 (i : grid0.Coords) (k0_t7 : Fin (k0_t7_loop i).trips) : Fin 3 → Nat :=
  let c0_i32_200 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_73 : BitVec 32 := 1#32
  let v184 : BitVec 32 := Scalar.subi v20 c1_i32_73
  let v477 : BitVec 32 := Scalar.subi v184 c0_i32_200
  let c1_i32_201 : BitVec 32 := 1#32
  let v479 : BitVec 32 := Scalar.divsi v477 c1_i32_201
  let v480 : BitVec 32 := Scalar.muli v479 c1_i32_201
  let v481 : BitVec 32 := Scalar.addi c0_i32_200 v480
  let c1_i32_203 : BitVec 32 := 1#32
  let arg15 : BitVec 32 := Scf.iv v481 c1_i32_203 k0_t7
  let v1708 : Index := Scalar.indexCast arg15
  let c128_880 : Index := 128#32
  let c256_881 : Index := 256#32
  ![v1708.toNat, 128, 256]
def k0_mult7 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_204 : BitVec 32 := 1#32
  let v484 : BitVec 32 := Scalar.subi v20 c1_i32_204
  let c512_i32_205 : BitVec 32 := 512#32
  let v485 : BitVec 32 := Scalar.muli v484 c512_i32_205
  let c256_i32_206 : BitVec 32 := 256#32
  let v486 : BitVec 32 := Scalar.addi v485 c256_i32_206
  v486
def k0_off156 (i : grid0.Coords) : Fin 4 → Nat :=
  let c0_209 : Index := 0#32
  let c2_i32_207 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_204 : BitVec 32 := 1#32
  let v484 : BitVec 32 := Scalar.subi v20 c1_i32_204
  let v488 : BitVec 32 := Scalar.muli c2_i32_207 v484
  let c1_i32_208 : BitVec 32 := 1#32
  let v489 : BitVec 32 := Scalar.addi v488 c1_i32_208
  let v490 : Index := Scalar.indexCast v489
  let c0_210 : Index := 0#32
  let c0_211 : Index := 0#32
  ![0, v490.toNat, 0, 0]
def k0_off157 (i : grid0.Coords) : Fin 4 → Nat :=
  let c1_277 : Index := 1#32
  let c2_i32_207 : BitVec 32 := 2#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_204 : BitVec 32 := 1#32
  let v484 : BitVec 32 := Scalar.subi v20 c1_i32_204
  let v488 : BitVec 32 := Scalar.muli c2_i32_207 v484
  let c1_i32_208 : BitVec 32 := 1#32
  let v489 : BitVec 32 := Scalar.addi v488 c1_i32_208
  let v627 : Index := Scalar.indexCast v489
  let c0_278 : Index := 0#32
  let c0_279 : Index := 0#32
  ![1, v627.toNat, 0, 0]
def k0_off158 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_204 : BitVec 32 := 1#32
  let v484 : BitVec 32 := Scalar.subi v20 c1_i32_204
  let c512_i32_205 : BitVec 32 := 512#32
  let v485 : BitVec 32 := Scalar.muli v484 c512_i32_205
  let c256_i32_206 : BitVec 32 := 256#32
  let v486 : BitVec 32 := Scalar.addi v485 c256_i32_206
  let v487 : BitVec 32 := v486
  let v770 : Index := Scalar.indexCast v487
  let c0_347 : Index := 0#32
  ![v770.toNat, 0]
def k0_off159 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_204 : BitVec 32 := 1#32
  let v484 : BitVec 32 := Scalar.subi v20 c1_i32_204
  let c512_i32_205 : BitVec 32 := 512#32
  let v485 : BitVec 32 := Scalar.muli v484 c512_i32_205
  let c256_i32_206 : BitVec 32 := 256#32
  let v486 : BitVec 32 := Scalar.addi v485 c256_i32_206
  let v487 : BitVec 32 := v486
  let v777 : Index := Scalar.indexCast v487
  let c128_353 : Index := 128#32
  ![v777.toNat, 128]
def k0_off160 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_359 : BitVec 32 := 1#32
  let v784 : BitVec 32 := Scalar.subi v20 c1_i32_359
  let v785 : Index := Scalar.indexCast v784
  let c0_360 : Index := 0#32
  let c0_361 : Index := 0#32
  ![v785.toNat, 0, 0]
def k0_off161 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_359 : BitVec 32 := 1#32
  let v784 : BitVec 32 := Scalar.subi v20 c1_i32_359
  let v814 : Index := Scalar.indexCast v784
  let c128_380 : Index := 128#32
  let c0_381 : Index := 0#32
  ![v814.toNat, 128, 0]
def k0_off162 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_400 : BitVec 32 := 1#32
  let v843 : BitVec 32 := Scalar.subi v20 c1_i32_400
  let v844 : Index := Scalar.indexCast v843
  let c0_401 : Index := 0#32
  let c256 : Index := 256#32
  ![v844.toNat, 0, 256]
def k0_off163 (i : grid0.Coords) : Fin 3 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_400 : BitVec 32 := 1#32
  let v843 : BitVec 32 := Scalar.subi v20 c1_i32_400
  let v873 : Index := Scalar.indexCast v843
  let c128_420 : Index := 128#32
  let c256_421 : Index := 256#32
  ![v873.toNat, 128, 256]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn.lean ====
abbrev S8x4096x1024 : Shape := ⟨3, ![8, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S32768x1024 : Shape := ⟨2, ![32768, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S4x1x1024, .f32⟩
  | .hbm, ⟨6, _⟩ => ⟨S1x1024, .f32⟩
  | .hbm, ⟨7, _⟩ => ⟨S4x1024x5632, .bf16⟩
  | .hbm, ⟨8, _⟩ => ⟨S4x2816x1024, .bf16⟩
  | .hbm, ⟨9, _⟩ => ⟨S32768x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S8x4096x1024 : Shape := ⟨3, ![8, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x5632, .f32⟩
  | .hbm, ⟨24, _⟩ => ⟨S1024x5632, .f32⟩
  | .hbm, ⟨25, _⟩ => ⟨S8x4096x5632, .f32⟩
  | .hbm, ⟨26, _⟩ => ⟨S8x4096x2816, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S1x2816x1024, .f32⟩
  | .hbm, ⟨39, _⟩ => ⟨S2816x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S8x4096x1, .f32⟩
  | .hbm, ⟨53, _⟩ => ⟨S8x4096x1024, .f32⟩
  | .hbm, ⟨54, _⟩ => ⟨S8x4096x1024, .f32⟩
  | .hbm, ⟨55, _⟩ => ⟨S1x1x1024, .f32⟩
  | .hbm, ⟨56, _⟩ => ⟨S8x4096x1024, .f32⟩
  | .hbm, ⟨57, _⟩ => ⟨S8x4096x1024, .f32⟩
  | .hbm, ⟨58, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== FfnMid.lean ====
abbrev S8x4096x1024 : Shape := ⟨3, ![8, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S4x1x1024 : Shape := ⟨3, ![4, 1, 1024]⟩
abbrev S1x1024 : Shape := ⟨2, ![1, 1024]⟩
abbrev S32768x1024 : Shape := ⟨2, ![32768, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S4x1x1024, .f32⟩
  | .hbm, ⟨6, _⟩ => ⟨S1x1024, .f32⟩
  | .hbm, ⟨7, _⟩ => ⟨S4x1024x5632, .bf16⟩
  | .hbm, ⟨8, _⟩ => ⟨S4x2816x1024, .bf16⟩
  | .hbm, ⟨9, _⟩ => ⟨S32768x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnMidReferenceIdeal.lean ====
abbrev S8x4096x1024 : Shape := ⟨3, ![8, 4096, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1024 : Shape := ⟨2, ![1, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x4096x5632 : Shape := ⟨3, ![8, 4096, 5632]⟩
abbrev S8x4096x2816 : Shape := ⟨3, ![8, 4096, 2816]⟩
abbrev S1x2816x1024 : Shape := ⟨3, ![1, 2816, 1024]⟩
abbrev S2816x1024 : Shape := ⟨2, ![2816, 1024]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1x1024x5632, .f32⟩
  | .hbm, ⟨24, _⟩ => ⟨S1024x5632, .f32⟩
  | .hbm, ⟨25, _⟩ => ⟨S8x4096x5632, .f32⟩
  | .hbm, ⟨26, _⟩ => ⟨S8x4096x2816, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S1x2816x1024, .f32⟩
  | .hbm, ⟨39, _⟩ => ⟨S2816x1024, .f32⟩
  | .hbm, ⟨40, _⟩ => ⟨S8x4096x1024, .f32⟩
  | .hbm, ⟨41, _⟩ => ⟨S8x4096x1024, .f32⟩
  | .hbm, ⟨42, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x3072 : Shape := ⟨2, ![32768, 3072]⟩
abbrev S4x4x128x128 : Shape := ⟨4, ![4, 4, 128, 128]⟩
abbrev S4x512 : Shape := ⟨2, ![4, 512]⟩
abbrev S4x1024x1024 : Shape := ⟨3, ![4, 1024, 1024]⟩
abbrev S4x512x1024 : Shape := ⟨3, ![4, 512, 1024]⟩
abbrev S4x1x512 : Shape := ⟨3, ![4, 1, 512]⟩
abbrev S512x1024 : Shape := ⟨2, ![512, 1024]⟩
abbrev S512x512 : Shape := ⟨2, ![512, 512]⟩
abbrev S16x512 : Shape := ⟨2, ![16, 512]⟩
abbrev S512x3072 : Shape := ⟨2, ![512, 3072]⟩
abbrev S1x4x128x128 : Shape := ⟨4, ![1, 4, 128, 128]⟩
abbrev S1x1x512 : Shape := ⟨3, ![1, 1, 512]⟩
abbrev S1x1024x1024 : Shape := ⟨3, ![1, 1024, 1024]⟩
abbrev S1x512x1024 : Shape := ⟨3, ![1, 512, 1024]⟩
abbrev S528x512 : Shape := ⟨2, ![528, 512]⟩
abbrev S512x128 : Shape := ⟨2, ![512, 128]⟩
abbrev S1x1x128x128 : Shape := ⟨4, ![1, 1, 128, 128]⟩
abbrev S128x128 : Shape := ⟨2, ![128, 128]⟩
abbrev S1x512 : Shape := ⟨2, ![1, 512]⟩
abbrev S1024x1024 : Shape := ⟨2, ![1024, 1024]⟩

abbrev nBuf : Space → Nat
  | .hbm => 18
  | .vmem => 21
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .f32⟩
  | .hbm, ⟨3, _⟩ => ⟨S32768x3072, .bf16⟩
  | .hbm, ⟨4, _⟩ => ⟨S32768x1024, .f32⟩
  | .hbm, ⟨5, _⟩ => ⟨S4x4x128x128, .f32⟩
  | .hbm, ⟨6, _⟩ => ⟨S4x512, .f32⟩
  | .hbm, ⟨7, _⟩ => ⟨S4x1024x1024, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | .hbm, ⟨11, _⟩ => ⟨S4x1x512, .f32⟩
  | .hbm, ⟨12, _⟩ => ⟨S4x4x128x128, .bf16⟩
  | .hbm, ⟨13, _⟩ => ⟨S4x1024x1024, .bf16⟩
  | .hbm, ⟨14, _⟩ => ⟨S4x512x1024, .bf16⟩
  | .hbm, ⟨15, _⟩ => ⟨S4x512x1024, .bf16⟩
  | .hbm, ⟨16, _⟩ => ⟨S4x1024x1024, .bf16⟩
  | .hbm, ⟨17, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S1x4x128x128, .bf16⟩
  | .local _ .vmem, ⟨13, _⟩ => ⟨S1x1x512, .f32⟩
  | .local _ .vmem, ⟨14, _⟩ => ⟨S1x1024x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S512x1024, .f32⟩
  | .local _ .vmem, ⟨19, _⟩ => ⟨S512x1024, .f32⟩
  | .local _ .vmem, ⟨20, _⟩ => ⟨S528x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S32768x1024 : Shape := ⟨2, ![32768, 1024]⟩
abbrev S32768x512 : Shape := ⟨2, ![32768, 512]⟩
abbrev S32768x3072 : Shape := ⟨2, ![32768, 3072]⟩
abbrev S4x4x128x128 : Shape := ⟨4, ![4, 4, 128, 128]⟩
abbrev S4x512 : Shape := ⟨2, ![4, 512]⟩
abbrev S4x1024x1024 : Shape := ⟨3, ![4, 1024, 1024]⟩
abbrev S4x512x1024 : Shape := ⟨3, ![4, 512, 1024]⟩
abbrev S8x4096x4x128 : Shape := ⟨4, ![8, 4096, 4, 128]⟩
abbrev S4096 : Shape := ⟨1, ![4096]⟩
abbrev S_ : Shape := ⟨0, ![]⟩
abbrev S8x4096x1x128 : Shape := ⟨4, ![8, 4096, 1, 128]⟩
abbrev S8x4096x128 : Shape := ⟨3, ![8, 4096, 128]⟩
abbrev S1x4096x1 : Shape := ⟨3, ![1, 4096, 1]⟩
abbrev S1x4x128x128 : Shape := ⟨4, ![1, 4, 128, 128]⟩
abbrev S4x128x128 : Shape := ⟨3, ![4, 128, 128]⟩
abbrev S4x128x8x4096 : Shape := ⟨4, ![4, 128, 8, 4096]⟩
abbrev S1x512 : Shape := ⟨2, ![1, 512]⟩
abbrev S512 : Shape := ⟨1, ![512]⟩
abbrev S32768x3x1024 : Shape := ⟨3, ![32768, 3, 1024]⟩
abbrev S32768x1x1024 : Shape := ⟨3, ![32768, 1, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 116
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S32768x512, .f32⟩
  | .hbm, ⟨3, _⟩ => ⟨S32768x3072, .bf16⟩
  | .hbm, ⟨4, _⟩ => ⟨S32768x1024, .f32⟩
  | .hbm, ⟨5, _⟩ => ⟨S4x4x128x128, .f32⟩
  | .hbm, ⟨6, _⟩ => ⟨S4x512, .f32⟩
  | .hbm, ⟨7, _⟩ => ⟨S4x1024x1024, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | .hbm, ⟨11, _⟩ => ⟨S8x4096x4x128, .f32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .f32⟩
  | .hbm, ⟨17, _⟩ => ⟨S8x4096x1x128, .f32⟩
  | .hbm, ⟨18, _⟩ => ⟨S8x4096x128, .f32⟩
  | .hbm, ⟨19, _⟩ => ⟨S_, .f32⟩
  | .hbm, ⟨20, _⟩ => ⟨S_, .f32⟩
  | .hbm, ⟨21, _⟩ => ⟨S8x4096x128, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S1x4096x1, .f32⟩
  | .hbm, ⟨26, _⟩ => ⟨S8x4096x128, .f32⟩
  | .hbm, ⟨27, _⟩ => ⟨S8x4096x128, .f32⟩
  | .hbm, ⟨28, _⟩ => ⟨S8x4096x128, .f32⟩
  | .hbm, ⟨29, _⟩ => ⟨S8x4096x1x128, .f32⟩
  | .hbm, ⟨30, _⟩ => ⟨S8x4096x128, .f32⟩
  | .hbm, ⟨31, _⟩ => ⟨S_, .f32⟩
  | .hbm, ⟨32, _⟩ => ⟨S_, .f32⟩
  | .hbm, ⟨33, _⟩ => ⟨S8x4096x128, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S1x4096x1, .f32⟩
  | .hbm, ⟨38, _⟩ => ⟨S8x4096x128, .f32⟩
  | .hbm, ⟨39, _⟩ => ⟨S8x4096x128, .f32⟩
  | .hbm, ⟨40, _⟩ => ⟨S8x4096x128, .f32⟩
  | .hbm, ⟨41, _⟩ => ⟨S8x4096x1x128, .f32⟩
  | .hbm, ⟨42, _⟩ => ⟨S8x4096x128, .f32⟩
  | .hbm, ⟨43, _⟩ => ⟨S_, .f32⟩
  | .hbm, ⟨44, _⟩ => ⟨S_, .f32⟩
  | .hbm, ⟨45, _⟩ => ⟨S8x4096x128, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S1x4096x1, .f32⟩
  | .hbm, ⟨50, _⟩ => ⟨S8x4096x128, .f32⟩
  | .hbm, ⟨51, _⟩ => ⟨S8x4096x128, .f32⟩
  | .hbm, ⟨52, _⟩ => ⟨S8x4096x128, .f32⟩
  | .hbm, ⟨53, _⟩ => ⟨S8x4096x1x128, .f32⟩
  | .hbm, ⟨54, _⟩ => ⟨S8x4096x128, .f32⟩
  | .hbm, ⟨55, _⟩ => ⟨S_, .f32⟩
  | .hbm, ⟨56, _⟩ => ⟨S_, .f32⟩
  | .hbm, ⟨57, _⟩ => ⟨S8x4096x128, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S1x4096x1, .f32⟩
  | .hbm, ⟨62, _⟩ => ⟨S8x4096x128, .f32⟩
  | .hbm, ⟨63, _⟩ => ⟨S8x4096x128, .f32⟩
  | .hbm, ⟨64, _⟩ => ⟨S8x4096x128, .f32⟩
  | .hbm, ⟨65, _⟩ => ⟨S8x4096x1x128, .f32⟩
  | .hbm, ⟨66, _⟩ => ⟨S8x4096x1x128, .f32⟩
  | .hbm, ⟨67, _⟩ => ⟨S8x4096x1x128, .f32⟩
  | .hbm, ⟨68, _⟩ => ⟨S8x4096x1x128, .f32⟩
  | .hbm, ⟨69, _⟩ => ⟨S8x4096x4x128, .f32⟩
  | .hbm, ⟨70, _⟩ => ⟨S1x4x128x128, .f32⟩
  | .hbm, ⟨71, _⟩ => ⟨S4x128x128, .f32⟩
  | .hbm, ⟨72, _⟩ => ⟨S4x128x8x4096, .f32⟩
  | .hbm, ⟨73, _⟩ => ⟨S8x4096x4x128, .f32⟩
  | .hbm, ⟨74, _⟩ => ⟨S32768x512, .f32⟩
  | .hbm, ⟨75, _⟩ => ⟨S1x512, .f32⟩
  | .hbm, ⟨76, _⟩ => ⟨S512, .f32⟩
  | .hbm, ⟨77, _⟩ => ⟨S1x512, .f32⟩
  | .hbm, ⟨78, _⟩ => ⟨S32768x512, .f32⟩
  | .hbm, ⟨79, _⟩ => ⟨S32768x512, .f32⟩
  | .hbm, ⟨80, _⟩ => ⟨S32768x3072, .f32⟩
  | .hbm, ⟨81, _⟩ => ⟨S32768x3x1024, .f32⟩
  | .hbm, ⟨82, _⟩ => ⟨S32768x3x1024, .f32⟩
  | .hbm, ⟨83, _⟩ => ⟨S32768x3x1024, .f32⟩
  | .hbm, ⟨84, _⟩ => ⟨S_, .f32⟩
  | .hbm, ⟨85, _⟩ => ⟨S32768x3x1024, .f32⟩
  | .hbm, ⟨86, _⟩ => ⟨S32768x3x1024, .f32⟩
  | .hbm, ⟨87, _⟩ => ⟨S_, .f32⟩
  | .hbm, ⟨88, _⟩ => ⟨S32768x3x1024, .f32⟩
  | .hbm, ⟨89, _⟩ => ⟨S32768x3x1024, .f32⟩
  | .hbm, ⟨90, _⟩ => ⟨S32768x1x1024, .f32⟩
  | .hbm, ⟨91, _⟩ => ⟨S32768x1024, .f32⟩
  | .hbm, ⟨92, _⟩ => ⟨S32768x1024, .f32⟩
  | .hbm, ⟨93, _⟩ => ⟨S1x1024x1024, .f32⟩
  | .hbm, ⟨94, _⟩ => ⟨S1024x1024, .f32⟩
  | .hbm, ⟨95, _⟩ => ⟨S32768x1024, .f32⟩
  | .hbm, ⟨96, _⟩ => ⟨S32768x1024, .f32⟩
  | .hbm, ⟨97, _⟩ => ⟨S32768x1x1024, .f32⟩
  | .hbm, ⟨98, _⟩ => ⟨S32768x1024, .f32⟩
  | .hbm, ⟨99, _⟩ => ⟨S32768x512, .f32⟩
  | .hbm, ⟨100, _⟩ => ⟨S1x512x1024, .f32⟩
  | .hbm, ⟨101, _⟩ => ⟨S512x1024, .f32⟩
  | .hbm, ⟨102, _⟩ => ⟨S32768x1024, .f32⟩
  | .hbm, ⟨103, _⟩ => ⟨S32768x1024, .f32⟩
  | .hbm, ⟨104, _⟩ => ⟨S32768x1024, .f32⟩
  | .hbm, ⟨105, _⟩ => ⟨S32768x1x1024, .f32⟩
  | .hbm, ⟨106, _⟩ => ⟨S32768x1024, .f32⟩
  | .hbm, ⟨107, _⟩ => ⟨S1x512x1024, .f32⟩
  | .hbm, ⟨108, _⟩ => ⟨S512x1024, .f32⟩
  | .hbm, ⟨109, _⟩ => ⟨S32768x1024, .f32⟩
  | .hbm, ⟨110, _⟩ => ⟨S32768x1024, .f32⟩
  | .hbm, ⟨111, _⟩ => ⟨S32768x1024, .f32⟩
  | .hbm, ⟨112, _⟩ => ⟨S1x1024x1024, .f32⟩
  | .hbm, ⟨113, _⟩ => ⟨S1024x1024, .f32⟩
  | .hbm, ⟨114, _⟩ => ⟨S32768x1024, .f32⟩
  | .hbm, ⟨115, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_cst_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩

abbrev nD : Nat := 1
abbrev τ : Topo := Topo.v7x

variable {F : FTy → Type} [FloatOps F]
-- ==== Inproj.lean ====
abbrev S8x4096x1024 : Shape := ⟨3, ![8, 4096, 1024]⟩
abbrev S4x1024 : Shape := ⟨2, ![4, 1024]⟩
abbrev S4x1024x7252 : Shape := ⟨3, ![4, 1024, 7252]⟩
abbrev S4x1024x1024 : Shape := ⟨3, ![4, 1024, 1024]⟩
abbrev S4x1024x1536 : Shape := ⟨3, ![4, 1024, 1536]⟩
abbrev S4x1024x16 : Shape := ⟨3, ![4, 1024, 16]⟩
abbrev S4x1024x512 : Shape := ⟨3, ![4, 1024, 512]⟩
abbrev S4x1024x128 : Shape := ⟨3, ![4, 1024, 128]⟩
abbrev S4x1024x256 : Shape := ⟨3, ![4, 1024, 256]⟩
abbrev S4x1024x64 : Shape := ⟨3, ![4, 1024, 64]⟩
abbrev S4x1024x4 : Shape := ⟨3, ![4, 1024, 4]⟩
abbrev S4x1024x3072 : Shape := ⟨3, ![4, 1024, 3072]⟩
abbrev S_ : Shape := ⟨0, ![]⟩
abbrev S4x1024x108 : Shape := ⟨3, ![4, 1024, 108]⟩
abbrev S4x1024x3988 : Shape := ⟨3, ![4, 1024, 3988]⟩
abbrev S4x1024x3692 : Shape := ⟨3, ![4, 1024, 3692]⟩
abbrev S4x1024x7680 : Shape := ⟨3, ![4, 1024, 7680]⟩
abbrev S4x1x1024 : Shape := ⟨3, ![4, 1, 1024]⟩
abbrev S32768x1024 : Shape := ⟨2, ![32768, 1024]⟩
abbrev S32768x1536 : Shape := ⟨2, ![32768, 1536]⟩
abbrev S32768x512 : Shape := ⟨2, ![32768, 512]⟩
abbrev S32768x256 : Shape := ⟨2, ![32768, 256]⟩
abbrev S64x256x512 : Shape := ⟨3, ![64, 256, 512]⟩
abbrev S32768x128 : Shape := ⟨2, ![32768, 128]⟩
abbrev S32768x3072 : Shape := ⟨2, ![32768, 3072]⟩
abbrev S512x1024 : Shape := ⟨2, ![512, 1024]⟩
abbrev S1x1x1024 : Shape := ⟨3, ![1, 1, 1024]⟩
abbrev S1x1024x7680 : Shape := ⟨3, ![1, 1024, 7680]⟩
abbrev S512x1536 : Shape := ⟨2, ![512, 1536]⟩
abbrev S512x512 : Shape := ⟨2, ![512, 512]⟩
abbrev S512x256 : Shape := ⟨2, ![512, 256]⟩
abbrev S1x256x512 : Shape := ⟨3, ![1, 256, 512]⟩
abbrev S512x128 : Shape := ⟨2, ![512, 128]⟩
abbrev S512x3072 : Shape := ⟨2, ![512, 3072]⟩
abbrev S1x1024 : Shape := ⟨2, ![1, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S256x512 : Shape := ⟨2, ![256, 512]⟩
abbrev S1x1024x128 : Shape := ⟨3, ![1, 1024, 128]⟩
abbrev S1024x128 : Shape := ⟨2, ![1024, 128]⟩
abbrev S1x1024x3072 : Shape := ⟨3, ![1, 1024, 3072]⟩
abbrev S1024x3072 : Shape := ⟨2, ![1024, 3072]⟩

abbrev nBuf : Space → Nat
  | .hbm => 47
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x7252, .f32⟩
  | .hbm, ⟨3, _⟩ => ⟨S4x1024x1024, .f32⟩
  | .hbm, ⟨4, _⟩ => ⟨S4x1024x1536, .f32⟩
  | .hbm, ⟨5, _⟩ => ⟨S4x1024x16, .f32⟩
  | .hbm, ⟨6, _⟩ => ⟨S4x1024x512, .f32⟩
  | .hbm, ⟨7, _⟩ => ⟨S4x1024x128, .f32⟩
  | .hbm, ⟨8, _⟩ => ⟨S4x1024x128, .f32⟩
  | .hbm, ⟨9, _⟩ => ⟨S4x1024x256, .f32⟩
  | .hbm, ⟨10, _⟩ => ⟨S4x1024x64, .f32⟩
  | .hbm, ⟨11, _⟩ => ⟨S4x1024x4, .f32⟩
  | .hbm, ⟨12, _⟩ => ⟨S4x1024x512, .f32⟩
  | .hbm, ⟨13, _⟩ => ⟨S4x1024x3072, .f32⟩
  | .hbm, ⟨14, _⟩ => ⟨S_, .f32⟩
  | .hbm, ⟨15, _⟩ => ⟨S4x1024x512, .f32⟩
  | .hbm, ⟨16, _⟩ => ⟨S4x1024x512, .f32⟩
  | .hbm, ⟨17, _⟩ => ⟨S4x1024x64, .f32⟩
  | .hbm, ⟨18, _⟩ => ⟨S4x1024x64, .f32⟩
  | .hbm, ⟨19, _⟩ => ⟨S4x1024x64, .f32⟩
  | .hbm, ⟨20, _⟩ => ⟨S4x1024x64, .f32⟩
  | .hbm, ⟨21, _⟩ => ⟨S4x1024x64, .f32⟩
  | .hbm, ⟨22, _⟩ => ⟨S4x1024x64, .f32⟩
  | .hbm, ⟨23, _⟩ => ⟨S_, .f32⟩
  | .hbm, ⟨24, _⟩ => ⟨S4x1024x64, .f32⟩
  | .hbm, ⟨25, _⟩ => ⟨S4x1024x64, .f32⟩
  | .hbm, ⟨26, _⟩ => ⟨S4x1024x64, .f32⟩
  | .hbm, ⟨27, _⟩ => ⟨S_, .f32⟩
  | .hbm, ⟨28, _⟩ => ⟨S4x1024x64, .f32⟩
  | .hbm, ⟨29, _⟩ => ⟨S_, .f32⟩
  | .hbm, ⟨30, _⟩ => ⟨S4x1024x108, .f32⟩
  | .hbm, ⟨31, _⟩ => ⟨S4x1024x3988, .f32⟩
  | .hbm, ⟨32, _⟩ => ⟨S4x1024x3692, .f32⟩
  | .hbm, ⟨33, _⟩ => ⟨S4x1024x7680, .f32⟩
  | .hbm, ⟨34, _⟩ => ⟨S4x1024x7680, .bf16⟩
  | .hbm, ⟨35, _⟩ => ⟨S4x1x1024, .f32⟩
  | .hbm, ⟨36, _⟩ => ⟨S32768x1024, .f32⟩
  | .hbm, ⟨37, _⟩ => ⟨S32768x1024, .f32⟩
  | .hbm, ⟨38, _⟩ => ⟨S32768x1536, .f32⟩
  | .hbm, ⟨39, _⟩ => ⟨S32768x512, .bf16⟩
  | .hbm, ⟨40, _⟩ => ⟨S32768x256, .bf16⟩
  | .hbm, ⟨41, _⟩ => ⟨S64x256x512, .bf16⟩
  | .hbm, ⟨42, _⟩ => ⟨S32768x256, .bf16⟩
  | .hbm, ⟨43, _⟩ => ⟨S32768x128, .bf16⟩
  | .hbm, ⟨44, _⟩ => ⟨S32768x128, .f32⟩
  | .hbm, ⟨45, _⟩ => ⟨S32768x512, .f32⟩
  | .hbm, ⟨46, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x7680, .bf16⟩
  | .local _ .vmem, ⟨4, _⟩ => ⟨S512x1024, .f32⟩
  | .local _ .vmem, ⟨5, _⟩ => ⟨S512x1024, .f32⟩
  | .local _ .vmem, ⟨6, _⟩ => ⟨S512x1536, .f32⟩
  | .local _ .vmem, ⟨7, _⟩ => ⟨S512x1536, .f32⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S1x256x512, .bf16⟩
  | .local _ .vmem, ⟨13, _⟩ => ⟨S1x256x512, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | .local _ .vmem, ⟨20, _⟩ => ⟨S512x512, .f32⟩
  | .local _ .vmem, ⟨21, _⟩ => ⟨S512x512, .f32⟩
  | .local _ .vmem, ⟨22, _⟩ => ⟨S512x3072, .bf16⟩
  | .local _ .vmem, ⟨23, _⟩ => ⟨S512x3072, .bf16⟩
  | .local _ .vmem, ⟨24, _⟩ => ⟨S512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v30_5 : Ref sig .tc := ⟨.hbm, 42, rfl⟩
abbrev main_v30_6 : Ref sig .tc := ⟨.hbm, 43, rfl⟩
abbrev main_v30_7 : Ref sig .tc := ⟨.hbm, 44, rfl⟩
abbrev main_v30_8 : Ref sig .tc := ⟨.hbm, 45, rfl⟩
abbrev main_v30_9 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojReferenceIdeal.lean ====
abbrev S8x4096x1024 : Shape := ⟨3, ![8, 4096, 1024]⟩
abbrev S4x1024 : Shape := ⟨2, ![4, 1024]⟩
abbrev S4x1024x7252 : Shape := ⟨3, ![4, 1024, 7252]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1x1024x7252 : Shape := ⟨3, ![1, 1024, 7252]⟩
abbrev S1024x7252 : Shape := ⟨2, ![1024, 7252]⟩
abbrev S32768x7252 : Shape := ⟨2, ![32768, 7252]⟩
abbrev S32768x1536 : Shape := ⟨2, ![32768, 1536]⟩
abbrev S32768x16 : Shape := ⟨2, ![32768, 16]⟩
abbrev S32768x512 : Shape := ⟨2, ![32768, 512]⟩
abbrev S32768x128 : Shape := ⟨2, ![32768, 128]⟩
abbrev S32768x256 : Shape := ⟨2, ![32768, 256]⟩
abbrev S32768x64 : Shape := ⟨2, ![32768, 64]⟩
abbrev S32768x4 : Shape := ⟨2, ![32768, 4]⟩
abbrev S32768x3072 : Shape := ⟨2, ![32768, 3072]⟩
abbrev S64x512x256 : Shape := ⟨3, ![64, 512, 256]⟩
abbrev S64x256x512 : Shape := ⟨3, ![64, 256, 512]⟩
abbrev S32768x108 : Shape := ⟨2, ![32768, 108]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4x1024, .f32⟩
  | .hbm, ⟨2, _⟩ => ⟨S4x1024x7252, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S1x1024x7252, .f32⟩
  | .hbm, ⟨23, _⟩ => ⟨S1024x7252, .f32⟩
  | .hbm, ⟨24, _⟩ => ⟨S32768x7252, .f32⟩
  | .hbm, ⟨25, _⟩ => ⟨S32768x1024, .f32⟩
  | .hbm, ⟨26, _⟩ => ⟨S32768x1536, .f32⟩
  | .hbm, ⟨27, _⟩ => ⟨S32768x16, .f32⟩
  | .hbm, ⟨28, _⟩ => ⟨S32768x512, .f32⟩
  | .hbm, ⟨29, _⟩ => ⟨S32768x128, .f32⟩
  | .hbm, ⟨30, _⟩ => ⟨S32768x128, .f32⟩
  | .hbm, ⟨31, _⟩ => ⟨S32768x256, .f32⟩
  | .hbm, ⟨32, _⟩ => ⟨S32768x64, .f32⟩
  | .hbm, ⟨33, _⟩ => ⟨S32768x4, .f32⟩
  | .hbm, ⟨34, _⟩ => ⟨S32768x512, .f32⟩
  | .hbm, ⟨35, _⟩ => ⟨S32768x3072, .f32⟩
  | .hbm, ⟨36, _⟩ => ⟨S32768x64, .f32⟩
  | .hbm, ⟨37, _⟩ => ⟨S32768x64, .f32⟩
  | .hbm, ⟨38, _⟩ => ⟨S32768x64, .f32⟩
  | .hbm, ⟨39, _⟩ => ⟨S32768x64, .f32⟩
  | .hbm, ⟨40, _⟩ => ⟨S_, .f32⟩
  | .hbm, ⟨41, _⟩ => ⟨S32768x64, .f32⟩
  | .hbm, ⟨42, _⟩ => ⟨S32768x256, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S32768x512, .bf16⟩
  | .hbm, ⟨47, _⟩ => ⟨S32768x256, .f32⟩
  | .hbm, ⟨48, _⟩ => ⟨S32768x256, .bf16⟩
  | .hbm, ⟨49, _⟩ => ⟨S64x512x256, .f32⟩
  | .hbm, ⟨50, _⟩ => ⟨S64x256x512, .f32⟩
  | .hbm, ⟨51, _⟩ => ⟨S64x256x512, .bf16⟩
  | .hbm, ⟨52, _⟩ => ⟨S32768x256, .bf16⟩
  | .hbm, ⟨53, _⟩ => ⟨S32768x128, .f32⟩
  | .hbm, ⟨54, _⟩ => ⟨S32768x128, .bf16⟩
  | .hbm, ⟨55, _⟩ => ⟨S_, .f32⟩
  | .hbm, ⟨56, _⟩ => ⟨S32768x108, .f32⟩
  | .hbm, ⟨57, _⟩ => ⟨S32768x128, .f32⟩
  | .hbm, ⟨58, _⟩ => ⟨S32768x3072, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Proof.Body.lean ====
/-
  The sparse attention kernel's body, run once: from the eight windows' staging buffers and the five scratch buffers
  at anything, the body of one grid point runs to its return, every load and store inside its buffer, and hands each
  buffer back: the seven inputs as they were, the output and the scratch at some contents.
-/
module

public import proofs.«01_k».proof.Proof.Gen.Kernel.Loops
public import proofs.«01_k».proof.Proof.Gen.Kernel.Skeleton
public import proofs.«01_k».proof.Proof.Gen.Kernel.Frame
public import Idealize.ShloMosaic.Lib.Pipeline.Frame
public import Idealize.ShloMosaic.Lib.Tactic

@[expose] public section

set_option maxRecDepth 16384

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The body's triple, for any continuation. -/
theorem kernelRun (c : Dev nD) (i : grid0.Coords)
    (arg2 : Memref sig .tc .vmem S256x512 .bf16) (harg2 : arg2.IsWhole)
    (arg3 : Memref sig .tc .vmem S256x256 .bf16) (harg3 : arg3.IsWhole)
    (arg4 : Memref sig .tc .vmem S256x128 .f32) (harg4 : arg4.IsWhole)
    (arg5 : Memref sig .tc .vmem S4096x256 .bf16) (harg5 : arg5.IsWhole)
    (arg6 : Memref sig .tc .vmem S8x256x512 .bf16) (harg6 : arg6.IsWhole)
    (arg7 : Memref sig .tc .vmem S4096x128 .bf16) (harg7 : arg7.IsWhole)
    (arg8 : Memref sig .tc .vmem S256x256 .bf16) (harg8 : arg8.IsWhole)
    (arg9 : Memref sig .tc .vmem S256x512 .bf16) (harg9 : arg9.IsWhole)
    (arg10 : Memref sig .tc .vmem S32x16x8x256 .i32) (harg10 : arg10.IsWhole)
    (arg11 : Memref sig .tc .vmem S2x16x8x256 .i32) (harg11 : arg11.IsWhole)
    (arg12 : Memref sig .tc .vmem S2x2x256x1024 .f32) (harg12 : arg12.IsWhole)
    (arg13 : Memref sig .tc .vmem S2x1x1024 .f32) (harg13 : arg13.IsWhole)
    (arg14 : Memref sig .tc .vmem S2x128x1024 .f32) (harg14 : arg14.IsWhole)
    (d2 : S256x512.Idx → Elt F .bf16) (d3 : S256x256.Idx → Elt F .bf16) (d4 : S256x128.Idx → Elt F .f32)
    (d5 : S4096x256.Idx → Elt F .bf16) (d6 : S8x256x512.Idx → Elt F .bf16) (d7 : S4096x128.Idx → Elt F .bf16)
    (d8 : S256x256.Idx → Elt F .bf16) (E : Set ℕ) (K : PUnit → sProp 𝕄) :
    iprop(owns (c : Thread nD τ) arg2 fullShare d2 ∗ owns (c : Thread nD τ) arg3 fullShare d3
        ∗ owns (c : Thread nD τ) arg4 fullShare d4 ∗ owns (c : Thread nD τ) arg5 fullShare d5
        ∗ owns (c : Thread nD τ) arg6 fullShare d6 ∗ owns (c : Thread nD τ) arg7 fullShare d7
        ∗ owns (c : Thread nD τ) arg8 fullShare d8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare d2 ∗ owns (c : Thread nD τ) arg3 fullShare d3
        ∗ owns (c : Thread nD τ) arg4 fullShare d4 ∗ owns (c : Thread nD τ) arg5 fullShare d5
        ∗ owns (c : Thread nD τ) arg6 fullShare d6 ∗ owns (c : Thread nD τ) arg7 fullShare d7
        ∗ owns (c : Thread nD τ) arg8 fullShare d8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d))
            -∗ K ⟨⟩))
      ⊢ wp frame (wpE (defs₀ (F := F)) Variants.none c none) E
          (cc0_dsa i arg2 harg2 arg3 harg3 arg4 harg4 arg5 harg5 arg6 harg6 arg7 harg7 arg8 harg8 arg9 harg9
            arg10 harg10 arg11 harg11 arg12 harg12 arg13 harg13 arg14 harg14) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%d9, %f9, -, H9⟩, ⟨%d10, %f10, -, H10⟩, ⟨%d11, %f11, -, H11⟩, ⟨%d12, %f12, -, H12⟩, ⟨%d13, %f13, -, H13⟩,
    ⟨%d14, %f14, -, H14⟩, Hk⟩
  sl_exec_parts
  sl_step
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.Proof.Dsa

end
-- ==== Proof.Frame.lean ====
/-
  The sparse attention call's frame: the pipeline's proof data with the output forgotten, the body obligation from the
  body's run (`Body.lean`), and the launch.
-/
module

public import proofs.«01_k».proof.Proof.Body

@[expose] public section

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output (window 7) is forgotten: the frame reads nothing of it. -/
def forgets0 : Fin 8 → Bool := fun w => w == 7

/-- The proof data on core `c`: every array as the region finds it; each input's buffer at its block after the body, the
    output's unnamed; the scratch at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d
theorem before_3 (c : Dev nD) (t : Fin cfg0.N) (d) : (dats m 0 c).before 3 t d = iblk m c 3 t :=
  before0_3_of m (dats m 0 c) rfl (after_3 m c) t d
theorem before_4 (c : Dev nD) (t : Fin cfg0.N) (d) : (dats m 0 c).before 4 t d = iblk m c 4 t :=
  before0_4_of m (dats m 0 c) rfl (after_4 m c) t d
theorem before_5 (c : Dev nD) (t : Fin cfg0.N) (d) : (dats m 0 c).before 5 t d = iblk m c 5 t :=
  before0_5_of m (dats m 0 c) rfl (after_5 m c) t d
theorem before_6 (c : Dev nD) (t : Fin cfg0.N) (d) : (dats m 0 c).before 6 t d = iblk m c 6 t :=
  before0_6_of m (dats m 0 c) rfl (after_6 m c) t d

/-- What the body is called with at point `t`, window by window, and what it returns. -/
def bodyPre (c : Dev nD) (t : Fin cfg0.N) : sProp 𝕄 :=
  iprop((dats m 0 c).Φ t.castSucc ∗ (dats m 0 c).owesAt () t.castSucc
    ∗ ((∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ X, owns (c : Thread nD τ) (st0_7 t) fullShare X)))
def bodyPost (c : Dev nD) (t : Fin cfg0.N) : sProp 𝕄 :=
  iprop((dats m 0 c).Φ t.succ ∗ (dats m 0 c).owesAt () t.succ
    ∗ (owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ (∃ X, owns (c : Thread nD τ) (st0_7 t) fullShare X)))

/-- The scratch buffers and the generator register, one by one, each scratch buffer owned at some contents. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ ∃ r, prngReg c r) := by
  unfold Pipeline.ΦA
  rw [scopedRest0_eq]; simp only [owns_whole]; try rfl

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before_0, before_1, before_2, before_3, before_4, before_5, before_6,
    after_0, after_1, after_2, after_3, after_4, after_5, after_6]
  iintro ⟨⟨⟨HS0, HS1, HS2, HS3, HS4⟩, Hg⟩, HO, ⟨%_, H0⟩, ⟨%_, H1⟩, ⟨%_, H2⟩, ⟨%_, H3⟩, ⟨%_, H4⟩, ⟨%_, H5⟩, ⟨%_, H6⟩, H7⟩
  iapply (kernelRun c (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- At the compiled mesh, from any memory with zero counters: every weakly fair execution of @main terminates, every
    argument array ends as launched and every semaphore counter at zero; nothing is said of the output. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: termination, the six argument arrays unchanged, every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => by
    refine ⟨fun c => ?_, h.2⟩
    have hin : ∀ w : Fin cfg0.W, forgets0 w = false → (cfg0.win w).isOut = false →
        r.2.mem ((cfg0.spec w).arr.view.loc (c.tc : Thread nD τ)) = V m c (Pipeline.arrRef spec0 w) := fun w hw hi =>
      ((Dat.toRForget_arrAt_iff (dat := dats m 0 c) hw _ _).mp ((h.1 c).1 w)).trans
        (((dats m 0 c).arrAt_in w hi _).trans (A_eq m c w))
    exact ⟨(hin 0 rfl rfl).trans (V_main_arg0 m c), (hin 1 rfl rfl).trans (V_main_arg1 m c),
      (hin 2 rfl rfl).trans (V_main_arg2 m c), (hin 3 rfl rfl).trans (V_main_arg3 m c),
      (hin 4 rfl rfl).trans (V_main_arg4 m c), (hin 5 rfl rfl).trans (V_main_arg5 m c)⟩) (run_main m ρ)

end Cert.Proof.Dsa

end
-- ==== Proof.Ffn.lean ====
/-
  The feed-forward call of the last layer, at the extended reals: the kernel's result array and the reference's are one
  function of the arguments, `result`, whose rows are `ffnRow`. The kernel takes the 2816 hidden entries in two blocks, of
  1536 and of 1280, and adds the two partial products to the row in turn; the reference takes the whole sum.
-/
module

public import proofs.«01_k».proof.Defs
public import proofs.«01_k».proof.Proof.Gen.Ffn.Frame
public import proofs.«01_k».proof.Proof.Gen.FfnIdeal.Value
public import proofs.«01_k».proof.Proof.Gen.FfnReferenceIdeal.Run
public import Idealize.ShloMosaic.Lib.Pointwise
public import Idealize.ShloMosaic.Lib.Pipeline.ValueKit.Geometry
public import Idealize.ShloMosaic.Lib.Quiescent

@[expose] public section

noncomputable section

namespace Cert.Proof.Ffn

open Idealize.ShloMosaic Idealize.SL.Sem
open scoped BigOperators

/-- A row scaled by the reciprocal root of its mean square (plus epsilon), times the weights. -/
def normRow (x w : Fin 1024 → EReal) (j : Fin 1024) : EReal :=
  x j * Ideal.rsqrt (Ideal.div (∑ k, x k * x k) (Ideal.ofBits .f32 0x44800000#32) + Ideal.ofBits .f32 0x358637BD#32) * w j

/-- The gated product `a * sigmoid(a) * b`. -/
def gate (a b : EReal) : EReal := a * Ideal.div 1 (1 + Ideal.exp (-a)) * b

/-- Entry `f` of the hidden row: the gate of columns `f` and `2816 + f` of the row's product with the input weights. -/
def hidden (x : Fin 1024 → EReal) (wi : Fin 1024 → Fin 5632 → EReal) (f : Fin 2816) : EReal :=
  gate (∑ k, x k * wi k ⟨f.val, by omega⟩) (∑ k, x k * wi k ⟨2816 + f.val, by omega⟩)

/-- One row of the call's result: the row plus the product of its hidden row with the output weights, normalised. -/
def ffnRow (h nw : Fin 1024 → EReal) (wi : Fin 1024 → Fin 5632 → EReal) (wo : Fin 2816 → Fin 1024 → EReal)
    (fw : Fin 1024 → EReal) : Fin 1024 → EReal :=
  normRow (fun j => h j + ∑ f, hidden (normRow h nw) wi f * wo f j) fw

/-- The sum over the 2816 hidden entries is the sum over the first 1536 and the sum over the last 1280. -/
theorem sum_split (g : Fin 2816 → EReal) :
    ∑ f, g f = (∑ f : Fin 1536, g ⟨f.val, by omega⟩) + ∑ f : Fin 1280, g ⟨1536 + f.val, by omega⟩ :=
  Fin.sum_univ_add (a := 1536) (b := 1280) g

section Kernel
open Cert.FfnIdeal Cert.FfnIdeal.Gen

/-- The kernel's normalised tile, at an index. -/
theorem pay2_at (v0 : Vec Ideal S512x1024 .f32) (v2 : Vec Ideal S1x1x1024 .f32) (r : Fin 512) (j : Fin 1024) :
    k0_pay2 (F := Ideal) v0 v2 (ix2 r j) = normRow (fun k => v0 (ix2 r k)) (fun k => v2 (ix3 0 0 k)) j := by
  pointwise [k0_pay2, k0_pay1]
  rfl

/-- The kernel's first partial product, over 1536 hidden entries, at an index. -/
theorem pay3_at (v0 : Vec Ideal S512x1024 .f32) (v2 : Vec Ideal S1x1x1024 .f32) (v17 v20 : Vec Ideal S1x1024x1536 .bf16)
    (v33 : Vec Ideal S1x1536x1024 .bf16) (r : Fin 512) (j : Fin 1024) :
    k0_pay3 (F := Ideal) v0 v2 v17 v20 v33 (ix2 r j)
      = ∑ f : Fin 1536, gate (∑ k, k0_pay2 v0 v2 (ix2 r k) * v17 (ix3 0 k f)) (∑ k, k0_pay2 v0 v2 (ix2 r k) * v20 (ix3 0 k f))
          * v33 (ix3 0 f j) := by
  pointwise [k0_pay3]
  simp only [gate, zero_sub]

/-- The kernel's stored tile, from the first partial product, at an index. -/
theorem pay4_at (v1 : Vec Ideal S512x1024 .f32) (v16 : FVec Ideal S512x1024 .bf16) (v35 : FVec Ideal S512x1024 .f32) (v37 v40 : Vec Ideal S1x1024x1280 .bf16)
    (v53 : Vec Ideal S1x1280x1024 .bf16) (v57 : Vec Ideal S1x1024 .f32) (r : Fin 512) (j : Fin 1024) :
    k0_pay4 (F := Ideal) v1 v16 v35 v37 v40 v53 v57 (ix2 r j)
      = normRow (fun j => v1 (ix2 r j) + v35 (ix2 r j)
          + ∑ f : Fin 1280, gate (∑ k, v16 (ix2 r k) * v37 (ix3 0 k f)) (∑ k, v16 (ix2 r k) * v40 (ix3 0 k f)) * v53 (ix3 0 f j))
          (fun k => v57 (ix2 0 k)) j := by
  pointwise [k0_pay4]
  simp only [gate, zero_sub, normRow]

/-- What the body leaves in the output tile: each row is `ffnRow` of the input tile's row and the weights. -/
theorem out_at (x0 : Vec Ideal S512x1024 .f32) (x1 : Vec Ideal S1x1x1024 .f32) (x2 : Vec Ideal S1x1024x5632 .bf16)
    (x3 : Vec Ideal S1x2816x1024 .bf16) (x4 : Vec Ideal S1x1024 .f32) (r : Fin 512) (j : Fin 1024) :
    out0_5 (F := Ideal) x0 x1 x2 x3 x4 (ix2 r j)
      = ffnRow (fun k => x0 (ix2 r k)) (fun k => x1 (ix3 0 0 k)) (fun k f => x2 (ix3 0 k f)) (fun f k => x3 (ix3 0 f k))
          (fun k => x4 (ix2 0 k)) j := by
  unfold out0_5 r0_0 r0_1 r0_2 r0_3 r0_4 r0_5 r0_6 r0_7 r0_8
  rw [View.canon_unit_zero (by decide)]
  simp only [View.ld_unit]
  rw [pay4_at]
  simp only [pay3_at, pay2_at]
  pointwise [k0_pay1]
  simp only [ffnRow, sum_split, ← add_assoc, hidden]

/-- The hidden state the kernel reads is the argument with its first two axes folded. -/
theorem V_v4 (m : (ℓ : Loc nD τ sig) → Buf (Elt Ideal) ℓ) (c : Dev nD) :
    V m c main_v4 = shapeCast S32768x1024 (m ((c.tc : Thread nD τ).loc main_arg0)) shapeCasts_S8x4096x1024_S32768x1024 := by
  show StableHlo.after hostOps0 _ _ = _
  after_results_simp
  rfl
/-- The norm weights the kernel reads are the argument with a unit axis. -/
theorem V_v0 (m : (ℓ : Loc nD τ sig) → Buf (Elt Ideal) ℓ) (c : Dev nD) :
    V m c main_v0 = shapeCast S4x1x1024 (m ((c.tc : Thread nD τ).loc main_arg1)) shapeCasts_S4x1024_S4x1x1024 := by
  show StableHlo.after hostOps0 _ _ = _
  after_results_simp
  rfl
/-- The final norm weights the kernel reads are the argument with a unit axis. -/
theorem V_v1 (m : (ℓ : Loc nD τ sig) → Buf (Elt Ideal) ℓ) (c : Dev nD) :
    V m c main_v1 = shapeCast S1x1024 (m ((c.tc : Thread nD τ).loc main_arg4)) shapeCasts_S1024_S1x1024 := by
  show StableHlo.after hostOps0 _ _ = _
  after_results_simp
  rfl
/-- The narrowed input weights are the argument: a format change is the identity on extended reals. -/
theorem V_v2 (m : (ℓ : Loc nD τ sig) → Buf (Elt Ideal) ℓ) (c : Dev nD) :
    V m c main_v2 = m ((c.tc : Thread nD τ).loc main_arg2) := by
  show StableHlo.after hostOps0 _ _ = _
  after_results_simp
  rfl
/-- The narrowed output weights are the argument. -/
theorem V_v3 (m : (ℓ : Loc nD τ sig) → Buf (Elt Ideal) ℓ) (c : Dev nD) :
    V m c main_v3 = m ((c.tc : Thread nD τ).loc main_arg3) := by
  show StableHlo.after hostOps0 _ _ = _
  after_results_simp
  rfl

/-- The call's result as a function of its arguments: row `i` is `ffnRow` of row `i` of the hidden state and layer 3's weights. -/
def result (h : Vec Ideal S8x4096x1024 .f32) (nw : Vec Ideal S4x1024 .f32) (wi : Vec Ideal S4x1024x5632 .f32)
    (wo : Vec Ideal S4x2816x1024 .f32) (fw : Vec Ideal S1024 .f32) : Vec Ideal S32768x1024 .f32 := fun i =>
  ffnRow (fun k => h (ix3 ⟨(i 0).val / 4096, by have := (i 0).isLt; change (i 0).val < 32768 at this; omega⟩ ⟨(i 0).val % 4096, Nat.mod_lt _ (by omega)⟩ k))
    (fun k => nw (ix2 3 k)) (fun k f => wi (ix3 3 k f)) (fun f k => wo (ix3 3 f k)) (fun k => fw (ix1 k)) (i 1)

/-- The windows' block indices at every point: the tiles move with the point, the weights stay at layer 3. -/
theorem e0 : ∀ t : Fin cfg0.N, win0_0.index t = ![t.val, 0] := (by decide +kernel : ∀ t : Fin grid0.N, _)
theorem e1 : ∀ t : Fin cfg0.N, win0_1.index t = ![3, 0, 0] := (by decide +kernel : ∀ t : Fin grid0.N, _)
theorem e2 : ∀ t : Fin cfg0.N, win0_2.index t = ![3, 0, 0] := (by decide +kernel : ∀ t : Fin grid0.N, _)
theorem e3 : ∀ t : Fin cfg0.N, win0_3.index t = ![3, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)

/-- The folded hidden state, at an index. -/
theorem fold_at (x : Vec Ideal S8x4096x1024 .f32) (h : S8x4096x1024.ShapeCasts S32768x1024) (r : Fin 32768) (j : Fin 1024) :
    shapeCast S32768x1024 x h (ix2 r j)
      = x (ix3 (⟨r.val / 4096, by omega⟩ : Fin 8) (⟨r.val % 4096, Nat.mod_lt _ (by omega)⟩ : Fin 4096) j) := by
  pointwise

/-- The hidden state's tile at point `t`, at an index. -/
theorem blk0 (m : (ℓ : Loc nD τ sig) → Buf (Elt Ideal) ℓ) (c : Dev nD) (t : Fin cfg0.N) (r : Fin 512) (k : Fin 1024) :
    iblk m c 0 t (ix2 r k) = m ((c.tc : Thread nD τ).loc main_arg0)
      (ix3 (⟨(t.val * 512 + r.val) / 4096, by have := t.isLt; change t.val < 64 at this; omega⟩ : Fin 8) (⟨(t.val * 512 + r.val) % 4096, Nat.mod_lt _ (by omega)⟩ : Fin 4096) k) := by
  blk_simp [iblk]
  rw [V_v4]
  have e : (win0_0.blk t).view.emb (ix2 r k) = (ix2 (⟨t.val * 512 + r.val, by have := t.isLt; change t.val < 64 at this; omega⟩ : Fin 32768) k : S32768x1024.Idx) := by
    funext a
    apply Fin.ext
    match a with
    | ⟨0, _⟩ => blk_simp [e0]
    | ⟨1, _⟩ => blk_simp [e0]
  rw [e]
  exact fold_at _ _ _ _

/-- The norm weights' block, at an index. -/
theorem blk1 (m : (ℓ : Loc nD τ sig) → Buf (Elt Ideal) ℓ) (c : Dev nD) (t : Fin cfg0.N) (k : Fin 1024) :
    iblk m c 1 t (ix3 0 0 k) = m ((c.tc : Thread nD τ).loc main_arg1) (ix2 3 k) := by
  blk_simp [iblk]
  rw [V_v0]
  have e : (win0_1.blk t).view.emb (ix3 0 0 k) = (ix3 3 0 k : S4x1x1024.Idx) := by
    funext a
    apply Fin.ext
    match a with
    | ⟨0, _⟩ => blk_simp [e1]; rfl
    | ⟨1, _⟩ => blk_simp [e1]
    | ⟨2, _⟩ => blk_simp [e1]
  rw [e]
  pointwise

/-- The input weights' block, at an index. -/
theorem blk2 (m : (ℓ : Loc nD τ sig) → Buf (Elt Ideal) ℓ) (c : Dev nD) (t : Fin cfg0.N) (k : Fin 1024) (f : Fin 5632) :
    iblk m c 2 t (ix3 0 k f) = m ((c.tc : Thread nD τ).loc main_arg2) (ix3 3 k f) := by
  blk_simp [iblk]
  rw [V_v2]
  have e : (win0_2.blk t).view.emb (ix3 0 k f) = (ix3 3 k f : S4x1024x5632.Idx) := by
    funext a
    apply Fin.ext
    match a with
    | ⟨0, _⟩ => blk_simp [e2]; rfl
    | ⟨1, _⟩ => blk_simp [e2]
    | ⟨2, _⟩ => blk_simp [e2]
  rw [e]

/-- The output weights' block, at an index. -/
theorem blk3 (m : (ℓ : Loc nD τ sig) → Buf (Elt Ideal) ℓ) (c : Dev nD) (t : Fin cfg0.N) (f : Fin 2816) (k : Fin 1024) :
    iblk m c 3 t (ix3 0 f k) = m ((c.tc : Thread nD τ).loc main_arg3) (ix3 3 f k) := by
  blk_simp [iblk]
  rw [V_v3]
  have e : (win0_3.blk t).view.emb (ix3 0 f k) = (ix3 3 f k : S4x2816x1024.Idx) := by
    funext a
    apply Fin.ext
    match a with
    | ⟨0, _⟩ => blk_simp [e3]; rfl
    | ⟨1, _⟩ => blk_simp [e3]
    | ⟨2, _⟩ => blk_simp [e3]
  rw [e]

/-- The final norm weights' block, at an index. -/
theorem blk4 (m : (ℓ : Loc nD τ sig) → Buf (Elt Ideal) ℓ) (c : Dev nD) (t : Fin cfg0.N) (k : Fin 1024) :
    iblk m c 4 t (ix2 0 k) = m ((c.tc : Thread nD τ).loc main_arg4) (ix1 k) := by
  blk_simp [iblk]
  rw [V_v1]
  have e : (win0_4.blk t).view.emb (ix2 0 k) = (ix2 0 k : S1x1024.Idx) := by
    funext a
    apply Fin.ext
    match a with
    | ⟨0, _⟩ => blk_simp [e4]
    | ⟨1, _⟩ => blk_simp [e4]
  rw [e]
  pointwise

/-- The kernel's result array is `result` of the arguments. -/
theorem final (m : (ℓ : Loc nD τ sig) → Buf (Elt Ideal) ℓ) (c : Dev nD) :
    (dats m 0 c).arrAt 5 cfg0.N = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  blk_simp
  rw [after0_5]
  refine (out_at _ _ _ _ _ r j).trans ?_
  simp only [blk0, blk1, blk2, blk3, blk4]
  have e : (win0_5.blk t).view.emb (ix2 r j) = (ix2 (⟨t.val * 512 + r.val, by have := t.isLt; change t.val < 64 at this; omega⟩ : Fin 32768) j : S32768x1024.Idx) := by
    funext a
    apply Fin.ext
    match a with
    | ⟨0, _⟩ => blk_simp [e5]
    | ⟨1, _⟩ => blk_simp [e5]
  rw [e]
  rfl

end Kernel
section Reference
open Cert.FfnReferenceIdeal Cert.FfnReferenceIdeal.Gen

/-- The reference's normalisation, as its operations. -/
def hostNorm (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

/-- The reference's normalisation, at an index. -/
theorem hostNorm_at (x : FVec Ideal S8x4096x1024 .f32) (w : FVec Ideal S1024 .f32) (b : Fin 8) (s : Fin 4096) (j : Fin 1024) :
    hostNorm x w (ix3 b s j) = normRow (fun k => x (ix3 b s k)) (fun k => w (ix1 k)) j := by
  pointwise [hostNorm]
  rfl

/-- The reference's gated hidden array, as its operations. -/
def hostHidden (y : FVec Ideal S8x4096x5632 .f32) : FVec Ideal S8x4096x2816 .f32 :=
  mulf (mulf (extractStridedSlice S8x4096x2816 ![0, 0, 0] y slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] y slices_S8x4096x5632_S8x4096x2816_0_0_0)))))) (extractStridedSlice S8x4096x2816 ![0, 0, 2816] y slices_S8x4096x5632_S8x4096x2816_0_0_2816)

/-- The reference's gated hidden array, at an index. -/
theorem hostHidden_at (y : FVec Ideal S8x4096x5632 .f32) (b : Fin 8) (s : Fin 4096) (f : Fin 2816) :
    hostHidden y (ix3 b s f) = gate (y (ix3 b s ⟨f.val, by omega⟩)) (y (ix3 b s ⟨2816 + f.val, by omega⟩)) := by
  pointwise [hostHidden]
  rfl

/-- The reference's result array is `result` of the arguments. -/
theorem ref_eq (m : (ℓ : Loc nD τ sig) → Buf (Elt Ideal) ℓ) (c : Dev nD) :
   Value.res_main_v39 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  have e : Value.res_main_v39 m c = shapeCast S32768x1024 (hostNorm (addf (m ((c.tc : Thread nD τ).loc main_arg0) : FVec Ideal S8x4096x1024 .f32)
      (Host.dotGeneral dot_S8x4096x2816_S2816x1024_S8x4096x1024_2_0_01_1_n_n none
        (hostHidden (Host.dotGeneral dot_S8x4096x1024_S1024x5632_S8x4096x5632_2_0_01_1_n_n none
          (hostNorm (m ((c.tc : Thread nD τ).loc main_arg0)) (shapeCast _ (extractStridedSlice S1x1024 ![3, 0] (m ((c.tc : Thread nD τ).loc main_arg1)) slices_S4x1024_S1x1024_3_0) shapeCasts_S1x1024_S1024))
          (shapeCast _ (extractStridedSlice S1x1024x5632 ![3, 0, 0] (m ((c.tc : Thread nD τ).loc main_arg2)) slices_S4x1024x5632_S1x1024x5632_3_0_0) shapeCasts_S1x1024x5632_S1024x5632)))
        (shapeCast _ (extractStridedSlice S1x2816x1024 ![3, 0, 0] (m ((c.tc : Thread nD τ).loc main_arg3)) slices_S4x2816x1024_S1x2816x1024_3_0_0) shapeCasts_S1x2816x1024_S2816x1024)))
      (m ((c.tc : Thread nD τ).loc main_arg4))) shapeCasts_S8x4096x1024_S32768x1024 := rfl
  rw [e]
  funext i
  obtain ⟨r, j, rfl⟩ : ∃ (r : Fin 32768) (j : Fin 1024), i = (ix2 r j : S32768x1024.Idx) :=
    ⟨i 0, i 1, by funext a; match a with | ⟨0, _⟩ => rfl | ⟨1, _⟩ => rfl⟩
  pointwise
  simp only [hostNorm_at]
  pointwise
  simp only [hostHidden_at]
  pointwise
  simp only [hostNorm_at]
  pointwise
  rfl
end Reference
/-! ## The claims -/

/-- The reference's frame. -/
theorem reference_frame : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The kernel and the reference leave equal results. -/
theorem algebraic : Cert.algebraic_FfnIdeal_FfnReferenceIdeal (hFfnIdeal := Cert.FfnIdeal.Gen.facts)
    (hFfnReferenceIdeal := Cert.FfnReferenceIdeal.Gen.facts) := by
  intro m ρ m' ρ' _ hagree
  refine ⟨_, Cert.FfnIdeal.Value.run_blocks (F := Ideal) m ρ, ?_⟩
  refine (θ_run Cert.FfnReferenceIdeal.defs _ _).mono (fun _ h c => ⟨(h c).1.trans ?_, (h c).2⟩)
    (Cert.FfnReferenceIdeal.Value.run (F := Ideal) m' ρ')
  obtain ⟨h0, h1, h2, h3, h4⟩ := hagree c
  rw [ref_eq, final, h0, h1, h2, h3, h4]

end Cert.Proof.Ffn

end
-- ==== Proof.FfnMid.lean ====
/-
  The feed-forward call of a layer before the last, at the extended reals: as the last layer's (`Ffn`), without the
  final normalisation; the final norm's weights are an argument the result does not depend on.
-/
module

public import proofs.«01_k».proof.Defs
public import proofs.«01_k».proof.Proof.Ffn
public import proofs.«01_k».proof.Proof.Gen.FfnMid.Frame
public import proofs.«01_k».proof.Proof.Gen.FfnMidIdeal.Value
public import proofs.«01_k».proof.Proof.Gen.FfnMidReferenceIdeal.Run
public import Idealize.ShloMosaic.Lib.Pointwise
public import Idealize.ShloMosaic.Lib.Pipeline.ValueKit.Geometry
public import Idealize.ShloMosaic.Lib.Quiescent

@[expose] public section

noncomputable section

namespace Cert.Proof.FfnMid

open Idealize.ShloMosaic Idealize.SL.Sem
open scoped BigOperators

open Cert.Proof.Ffn (normRow gate hidden sum_split)

/-- One row of the call's result: the row plus the product of its hidden row with the output weights. -/
def ffnRow (h nw : Fin 1024 → EReal) (wi : Fin 1024 → Fin 5632 → EReal) (wo : Fin 2816 → Fin 1024 → EReal) (j : Fin 1024) :
    EReal :=
  h j + ∑ f, hidden (normRow h nw) wi f * wo f j

section Kernel
open Cert.FfnMidIdeal Cert.FfnMidIdeal.Gen

/-- The kernel's normalised tile, at an index. -/
theorem pay3_at (v0 : Vec Ideal S512x1024 .f32) (v2 : Vec Ideal S1x1x1024 .f32) (r : Fin 512) (j : Fin 1024) :
    k0_pay3 (F := Ideal) v0 v2 (ix2 r j) = normRow (fun k => v0 (ix2 r k)) (fun k => v2 (ix3 0 0 k)) j := by
  pointwise [k0_pay3, k0_pay2]
  rfl

/-- The kernel's first partial product, over 1536 hidden entries, at an index. -/
theorem pay4_at (v0 : Vec Ideal S512x1024 .f32) (v2 : Vec Ideal S1x1x1024 .f32) (v17 v20 : Vec Ideal S1x1024x1536 .bf16)
    (v33 : Vec Ideal S1x1536x1024 .bf16) (r : Fin 512) (j : Fin 1024) :
    k0_pay4 (F := Ideal) v0 v2 v17 v20 v33 (ix2 r j)
      = ∑ f : Fin 1536, gate (∑ k, k0_pay3 v0 v2 (ix2 r k) * v17 (ix3 0 k f)) (∑ k, k0_pay3 v0 v2 (ix2 r k) * v20 (ix3 0 k f))
          * v33 (ix3 0 f j) := by
  pointwise [k0_pay4]
  simp only [gate, zero_sub]

/-- The kernel's stored tile, from the first partial product, at an index. -/
theorem pay1_at (v1 : Vec Ideal S512x1024 .f32) (v16 : FVec Ideal S512x1024 .bf16) (v35 : FVec Ideal S512x1024 .f32)
    (v37 v40 : Vec Ideal S1x1024x1280 .bf16) (v53 : Vec Ideal S1x1280x1024 .bf16) (r : Fin 512) (j : Fin 1024) :
    k0_pay1 (F := Ideal) v1 v16 v35 v37 v40 v53 (ix2 r j)
      = v1 (ix2 r j) + v35 (ix2 r j)
          + ∑ f : Fin 1280, gate (∑ k, v16 (ix2 r k) * v37 (ix3 0 k f)) (∑ k, v16 (ix2 r k) * v40 (ix3 0 k f)) * v53 (ix3 0 f j) := by
  pointwise [k0_pay1]
  simp only [gate, zero_sub]

/-- What the body leaves in the output tile: each row is `ffnRow` of the input tile's row and the weights. -/
theorem out_at (x0 : Vec Ideal S512x1024 .f32) (x1 : Vec Ideal S1x1x1024 .f32) (x2 : Vec Ideal S1x1024x5632 .bf16)
    (x3 : Vec Ideal S1x2816x1024 .bf16) (x4 : Vec Ideal S1x1024 .f32) (r : Fin 512) (j : Fin 1024) :
    out0_5 (F := Ideal) x0 x1 x2 x3 x4 (ix2 r j)
      = ffnRow (fun k => x0 (ix2 r k)) (fun k => x1 (ix3 0 0 k)) (fun k f => x2 (ix3 0 k f)) (fun f k => x3 (ix3 0 f k)) j := by
  unfold out0_5 r0_0 r0_1 r0_2 r0_3 r0_4 r0_5 r0_6 r0_7
  rw [View.canon_unit_zero (by decide)]
  simp only [View.ld_unit]
  rw [pay1_at]
  simp only [pay4_at, pay3_at]
  pointwise [k0_pay2]
  simp only [ffnRow, sum_split, ← add_assoc, Cert.Proof.Ffn.hidden]

/-- The hidden state the kernel reads is the argument with its first two axes folded. -/
theorem V_v4 (m : (ℓ : Loc nD τ sig) → Buf (Elt Ideal) ℓ) (c : Dev nD) :
    V m c main_v4 = shapeCast S32768x1024 (m ((c.tc : Thread nD τ).loc main_arg0)) shapeCasts_S8x4096x1024_S32768x1024 := by
  show StableHlo.after hostOps0 _ _ = _
  after_results_simp
  rfl
/-- The norm weights the kernel reads are the argument with a unit axis. -/
theorem V_v0 (m : (ℓ : Loc nD τ sig) → Buf (Elt Ideal) ℓ) (c : Dev nD) :
    V m c main_v0 = shapeCast S4x1x1024 (m ((c.tc : Thread nD τ).loc main_arg1)) shapeCasts_S4x1024_S4x1x1024 := by
  show StableHlo.after hostOps0 _ _ = _
  after_results_simp
  rfl
/-- The narrowed input weights are the argument: a format change is the identity on extended reals. -/
theorem V_v2 (m : (ℓ : Loc nD τ sig) → Buf (Elt Ideal) ℓ) (c : Dev nD) :
    V m c main_v2 = m ((c.tc : Thread nD τ).loc main_arg2) := by
  show StableHlo.after hostOps0 _ _ = _
  after_results_simp
  rfl
/-- The narrowed output weights are the argument. -/
theorem V_v3 (m : (ℓ : Loc nD τ sig) → Buf (Elt Ideal) ℓ) (c : Dev nD) :
    V m c main_v3 = m ((c.tc : Thread nD τ).loc main_arg3) := by
  show StableHlo.after hostOps0 _ _ = _
  after_results_simp
  rfl

/-- The call's result as a function of its arguments: row `i` is `ffnRow` of row `i` of the hidden state and layer 0's weights. -/
def result (h : Vec Ideal S8x4096x1024 .f32) (nw : Vec Ideal S4x1024 .f32) (wi : Vec Ideal S4x1024x5632 .f32)
    (wo : Vec Ideal S4x2816x1024 .f32) : Vec Ideal S32768x1024 .f32 := fun i =>
  ffnRow (fun k => h (ix3 ⟨(i 0).val / 4096, by have := (i 0).isLt; change (i 0).val < 32768 at this; omega⟩ ⟨(i 0).val % 4096, Nat.mod_lt _ (by omega)⟩ k))
    (fun k => nw (ix2 0 k)) (fun k f => wi (ix3 0 k f)) (fun f k => wo (ix3 0 f k)) (i 1)

/-- The windows' block indices at every point: the tiles move with the point, the weights stay at layer 0. -/
theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e5 : ∀ t : Fin cfg0.N, win0_5.index t = ![t.val, 0] := (by decide +kernel : ∀ t : Fin grid0.N, _)

/-- The folded hidden state, at an index. -/
theorem fold_at (x : Vec Ideal S8x4096x1024 .f32) (h : S8x4096x1024.ShapeCasts S32768x1024) (r : Fin 32768) (j : Fin 1024) :
    shapeCast S32768x1024 x h (ix2 r j)
      = x (ix3 (⟨r.val / 4096, by omega⟩ : Fin 8) (⟨r.val % 4096, Nat.mod_lt _ (by omega)⟩ : Fin 4096) j) := by
  pointwise

/-- The hidden state's tile at point `t`, at an index. -/
theorem blk0 (m : (ℓ : Loc nD τ sig) → Buf (Elt Ideal) ℓ) (c : Dev nD) (t : Fin cfg0.N) (r : Fin 512) (k : Fin 1024) :
    iblk m c 0 t (ix2 r k) = m ((c.tc : Thread nD τ).loc main_arg0)
      (ix3 (⟨(t.val * 512 + r.val) / 4096, by have := t.isLt; change t.val < 64 at this; omega⟩ : Fin 8) (⟨(t.val * 512 + r.val) % 4096, Nat.mod_lt _ (by omega)⟩ : Fin 4096) k) := by
  blk_simp [iblk]
  rw [V_v4]
  have e : (win0_0.blk t).view.emb (ix2 r k) = (ix2 (⟨t.val * 512 + r.val, by have := t.isLt; change t.val < 64 at this; omega⟩ : Fin 32768) k : S32768x1024.Idx) := by
    funext a
    apply Fin.ext
    match a with
    | ⟨0, _⟩ => blk_simp [e0]
    | ⟨1, _⟩ => blk_simp [e0]
  rw [e]
  exact fold_at _ _ _ _

/-- The norm weights' block, at an index. -/
theorem blk1 (m : (ℓ : Loc nD τ sig) → Buf (Elt Ideal) ℓ) (c : Dev nD) (t : Fin cfg0.N) (k : Fin 1024) :
    iblk m c 1 t (ix3 0 0 k) = m ((c.tc : Thread nD τ).loc main_arg1) (ix2 0 k) := by
  blk_simp [iblk]
  rw [V_v0]
  have e : (win0_1.blk t).view.emb (ix3 0 0 k) = (ix3 0 0 k : S4x1x1024.Idx) := by
    funext a
    apply Fin.ext
    match a with
    | ⟨0, _⟩ => blk_simp [e1]; rfl
    | ⟨1, _⟩ => blk_simp [e1]
    | ⟨2, _⟩ => blk_simp [e1]
  rw [e]
  pointwise

/-- The input weights' block, at an index. -/
theorem blk2 (m : (ℓ : Loc nD τ sig) → Buf (Elt Ideal) ℓ) (c : Dev nD) (t : Fin cfg0.N) (k : Fin 1024) (f : Fin 5632) :
    iblk m c 2 t (ix3 0 k f) = m ((c.tc : Thread nD τ).loc main_arg2) (ix3 0 k f) := by
  blk_simp [iblk]
  rw [V_v2]
  have e : (win0_2.blk t).view.emb (ix3 0 k f) = (ix3 0 k f : S4x1024x5632.Idx) := by
    funext a
    apply Fin.ext
    match a with
    | ⟨0, _⟩ => blk_simp [e2]; rfl
    | ⟨1, _⟩ => blk_simp [e2]
    | ⟨2, _⟩ => blk_simp [e2]
  rw [e]

/-- The output weights' block, at an index. -/
theorem blk3 (m : (ℓ : Loc nD τ sig) → Buf (Elt Ideal) ℓ) (c : Dev nD) (t : Fin cfg0.N) (f : Fin 2816) (k : Fin 1024) :
    iblk m c 3 t (ix3 0 f k) = m ((c.tc : Thread nD τ).loc main_arg3) (ix3 0 f k) := by
  blk_simp [iblk]
  rw [V_v3]
  have e : (win0_3.blk t).view.emb (ix3 0 f k) = (ix3 0 f k : S4x2816x1024.Idx) := by
    funext a
    apply Fin.ext
    match a with
    | ⟨0, _⟩ => blk_simp [e3]; rfl
    | ⟨1, _⟩ => blk_simp [e3]
    | ⟨2, _⟩ => blk_simp [e3]
  rw [e]

/-- The kernel's result array is `result` of the arguments. -/
theorem final (m : (ℓ : Loc nD τ sig) → Buf (Elt Ideal) ℓ) (c : Dev nD) :
    (dats m 0 c).arrAt 5 cfg0.N = result (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  blk_simp
  rw [after0_5]
  refine (out_at _ _ _ _ _ r j).trans ?_
  simp only [blk0, blk1, blk2, blk3]
  have e : (win0_5.blk t).view.emb (ix2 r j) = (ix2 (⟨t.val * 512 + r.val, by have := t.isLt; change t.val < 64 at this; omega⟩ : Fin 32768) j : S32768x1024.Idx) := by
    funext a
    apply Fin.ext
    match a with
    | ⟨0, _⟩ => blk_simp [e5]
    | ⟨1, _⟩ => blk_simp [e5]
  rw [e]
  rfl

end Kernel
section Reference
open Cert.FfnMidReferenceIdeal Cert.FfnMidReferenceIdeal.Gen

/-- The reference's normalisation, as its operations. -/
def hostNorm (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

/-- The reference's normalisation, at an index. -/
theorem hostNorm_at (x : FVec Ideal S8x4096x1024 .f32) (w : FVec Ideal S1024 .f32) (b : Fin 8) (s : Fin 4096) (j : Fin 1024) :
    hostNorm x w (ix3 b s j) = normRow (fun k => x (ix3 b s k)) (fun k => w (ix1 k)) j := by
  pointwise [hostNorm]
  rfl

/-- The reference's gated hidden array, as its operations. -/
def hostHidden (y : FVec Ideal S8x4096x5632 .f32) : FVec Ideal S8x4096x2816 .f32 :=
  mulf (mulf (extractStridedSlice S8x4096x2816 ![0, 0, 0] y slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] y slices_S8x4096x5632_S8x4096x2816_0_0_0)))))) (extractStridedSlice S8x4096x2816 ![0, 0, 2816] y slices_S8x4096x5632_S8x4096x2816_0_0_2816)

/-- The reference's gated hidden array, at an index. -/
theorem hostHidden_at (y : FVec Ideal S8x4096x5632 .f32) (b : Fin 8) (s : Fin 4096) (f : Fin 2816) :
    hostHidden y (ix3 b s f) = gate (y (ix3 b s ⟨f.val, by omega⟩)) (y (ix3 b s ⟨2816 + f.val, by omega⟩)) := by
  pointwise [hostHidden]
  rfl

/-- The reference's result array is `result` of the arguments. -/
theorem ref_eq (m : (ℓ : Loc nD τ sig) → Buf (Elt Ideal) ℓ) (c : Dev nD) :
   Value.res_main_v26 m c = result (m ((c.tc : Thread nD τ).loc main_arg0)) (m ((c.tc : Thread nD τ).loc main_arg1))
      (m ((c.tc : Thread nD τ).loc main_arg2)) (m ((c.tc : Thread nD τ).loc main_arg3)) := by
  have e : Value.res_main_v26 m c = shapeCast S32768x1024 (addf (m ((c.tc : Thread nD τ).loc main_arg0) : FVec Ideal S8x4096x1024 .f32)
      (Host.dotGeneral dot_S8x4096x2816_S2816x1024_S8x4096x1024_2_0_01_1_n_n none
        (hostHidden (Host.dotGeneral dot_S8x4096x1024_S1024x5632_S8x4096x5632_2_0_01_1_n_n none
          (hostNorm (m ((c.tc : Thread nD τ).loc main_arg0)) (shapeCast _ (extractStridedSlice S1x1024 ![0, 0] (m ((c.tc : Thread nD τ).loc main_arg1)) slices_S4x1024_S1x1024_0_0) shapeCasts_S1x1024_S1024))
          (shapeCast _ (extractStridedSlice S1x1024x5632 ![0, 0, 0] (m ((c.tc : Thread nD τ).loc main_arg2)) slices_S4x1024x5632_S1x1024x5632_0_0_0) shapeCasts_S1x1024x5632_S1024x5632)))
        (shapeCast _ (extractStridedSlice S1x2816x1024 ![0, 0, 0] (m ((c.tc : Thread nD τ).loc main_arg3)) slices_S4x2816x1024_S1x2816x1024_0_0_0) shapeCasts_S1x2816x1024_S2816x1024))) shapeCasts_S8x4096x1024_S32768x1024 := rfl
  rw [e]
  funext i
  obtain ⟨r, j, rfl⟩ : ∃ (r : Fin 32768) (j : Fin 1024), i = (ix2 r j : S32768x1024.Idx) :=
    ⟨i 0, i 1, by funext a; match a with | ⟨0, _⟩ => rfl | ⟨1, _⟩ => rfl⟩
  pointwise
  simp only [hostHidden_at]
  pointwise
  simp only [hostNorm_at]
  pointwise
  rfl
end Reference
/-! ## The claims -/

/-- The reference's frame. -/
theorem reference_frame : Cert.quiescent_FfnMidReferenceIdeal (hFfnMidReferenceIdeal := Cert.FfnMidReferenceIdeal.Gen.facts) := fun m ρ _ =>
  (θ_run Cert.FfnMidReferenceIdeal.defs _ _).mono (fun r h => ⟨fun c => (h c).2, sem_eq_zero_of_no_sems (by decide) r.2⟩)
    (Cert.FfnMidReferenceIdeal.Value.run (F := Ideal) m ρ)

/-- The kernel and the reference leave equal results. -/
theorem algebraic : Cert.algebraic_FfnMidIdeal_FfnMidReferenceIdeal (hFfnMidIdeal := Cert.FfnMidIdeal.Gen.facts)
    (hFfnMidReferenceIdeal := Cert.FfnMidReferenceIdeal.Gen.facts) := by
  intro m ρ m' ρ' _ hagree
  refine ⟨_, Cert.FfnMidIdeal.Value.run_blocks (F := Ideal) m ρ, ?_⟩
  refine (θ_run Cert.FfnMidReferenceIdeal.defs _ _).mono (fun _ h c => ⟨(h c).1.trans ?_, (h c).2⟩)
    (Cert.FfnMidReferenceIdeal.Value.run (F := Ideal) m' ρ')
  obtain ⟨h0, h1, h2, h3, _⟩ := hagree c
  rw [ref_eq, final, h0, h1, h2, h3]

end Cert.Proof.FfnMid

end
-- ==== Proof.Merge.lean ====
/-
  The merge call of layer 0 at the extended reals. The pooled branch sums each group's last 2, 4, 8 or 16 tokens of the
  sequence, divides by the number of tokens there are, subtracts the token, mixes the group by its weights and scales
  it; the three branches are projected up, gated by logistic functions of the gates, summed, projected once more and
  added to the hidden state. The kernel keeps a tile of 512 tokens with the sixteen before it (zeros at a sequence's
  first tile) and adds shifted reads of them; the reference sums over windows of the padded sequence.
-/
module

public import proofs.«01_k».proof.Defs
public import proofs.«01_k».proof.Proof.Gen.Merge.Frame
public import proofs.«01_k».proof.Proof.Gen.MergeIdeal.Value
public import proofs.«01_k».proof.Proof.Gen.MergeReferenceIdeal.Run
public import Idealize.ShloMosaic.Lib.Pointwise
public import Idealize.ShloMosaic.Lib.Pipeline.ValueKit.Geometry
public import Idealize.ShloMosaic.Lib.Quiescent
public import Idealize.ShloMosaic.Lib.WritesUnit
public import Idealize.ShloMosaic.Lib.WholeRead

@[expose] public section

noncomputable section

namespace Cert.Proof.Merge

open Idealize.ShloMosaic Idealize.SL.Sem
open scoped BigOperators

/-- The pooling windows' lengths, -/
def win (g : Fin 4) : ℕ := ![2, 4, 8, 16] g
/-- and the same as f32 words. -/
def winWord (g : Fin 4) : BitVec 32 := ![0x40000000#32, 0x40800000#32, 0x41000000#32, 0x41800000#32] g

/-- The token `d` places back, summed over a group's window, divided by the count, minus the token. -/
def pool (tk : ℕ → Fin 512 → EReal) (cnt : EReal) (g : Fin 4) (x : Fin 128) : EReal :=
  Ideal.div (∑ d : Fin (win g), tk d.val ⟨128 * g.val + x.val, by omega⟩) (min cnt (Ideal.ofBits .f32 (winWord g)))
    - tk 0 ⟨128 * g.val + x.val, by omega⟩

/-- The pooled groups mixed and scaled. -/
def mixed (tk : ℕ → Fin 512 → EReal) (cnt : EReal) (pw : Fin 4 → Fin 128 → Fin 128 → EReal) (ps : Fin 512 → EReal)
    (j : Fin 512) : EReal :=
  (∑ x, pool tk cnt ⟨j.val / 128, by omega⟩ x * pw ⟨j.val / 128, by omega⟩ x ⟨j.val % 128, by omega⟩) * ps j

def gateOf (x : EReal) : EReal := Ideal.div 1 (1 + Ideal.exp (-x))

/-- The three branches' up-projections, gated and summed. -/
def merged (ys : Fin 1024 → EReal) (ya : Fin 512 → EReal) (yp : Fin 512 → EReal) (g : Fin 3072 → EReal)
    (wus : Fin 1024 → Fin 1024 → EReal) (wua wup : Fin 512 → Fin 1024 → EReal) (j : Fin 1024) : EReal :=
  gateOf (g ⟨j.val, by omega⟩) * (∑ k, ys k * wus k j) + gateOf (g ⟨1024 + j.val, by omega⟩) * (∑ k, ya k * wua k j)
    + gateOf (g ⟨2048 + j.val, by omega⟩) * ∑ k, yp k * wup k j

/-- One row of the call's result. -/
def mergeRow (ys : Fin 1024 → EReal) (ya : Fin 512 → EReal) (tk : ℕ → Fin 512 → EReal) (cnt : EReal) (g : Fin 3072 → EReal)
    (h : Fin 1024 → EReal) (pw : Fin 4 → Fin 128 → Fin 128 → EReal) (ps : Fin 512 → EReal) (wus : Fin 1024 → Fin 1024 → EReal)
    (wua wup : Fin 512 → Fin 1024 → EReal) (wo : Fin 1024 → Fin 1024 → EReal) (j : Fin 1024) : EReal :=
  h j + ∑ k, merged ys ya (mixed tk cnt pw ps) g wus wua wup k * wo k j

section
open Cert.MergeIdeal Cert.MergeIdeal.Gen

/-- The token `d` places before row `r` of the tile, from the tile and the sixteen rows kept before it. -/
def back (A : Vec Ideal S512x512 .f32) (B : Vec Ideal S16x512 .f32) (r : Fin 512) (d : ℕ) (c : Fin 512) : EReal :=
  if h : d ≤ r.val then A (ix2 ⟨r.val - d, by omega⟩ c)
  else if h' : d ≤ 16 then B (ix2 ⟨16 + r.val - d, by omega⟩ c) else 0

theorem scratch_at (v : View sig .tc .vmem S528x512 .f32) (A : Vec Ideal S512x512 .f32) (B : Vec Ideal S16x512 .f32)
    {o k : ℕ} (inb : ∀ a, (![o, k] : Fin 2 → ℕ) a + S512x128.size a ≤ S528x512.size a)
    (ia : ∀ a, (![16, 0] : Fin 2 → ℕ) a + S512x512.size a ≤ S528x512.size a)
    (ib : ∀ a, (![0, 0] : Fin 2 → ℕ) a + S16x512.size a ≤ S528x512.size a)
    (d : ℕ) (hd : o + d = 16) (g : Fin 4) (hk : k = 128 * g.val) (r : Fin 512) (x : Fin 128) :
    v.readCov [(⟨Rect.unit ![0, 0] S16x512.size ib, B⟩ : View.Piece (Elt Ideal) S528x512 .f32), ⟨Rect.unit ![16, 0] S512x512.size ia, A⟩]
      (Rect.unit (s := S528x512) ![o, k] S512x128.size inb).toLoadRect (ix2 r x) = back A B r d ⟨128 * g.val + x.val, by omega⟩ := by
  rw [View.readCov_eq_canon', ← View.read_writes_junk_eq_canon v]
  unfold back
  split
  · rename_i h
    refine (View.read_writes_cons_unit_of_not_mem v _ ib B _ _ rfl 0 (Or.inr ?_)).trans ?_
    · show 0 + 16 ≤ o + 1 * r.val; omega
    · refine View.read_writes_cons_unit_of_mem v _ ia A [] _ (ix2 ⟨r.val - d, by omega⟩ ⟨128 * g.val + x.val, by omega⟩) rfl ?_
      intro a
      match a with
      | ⟨0, _⟩ => show o + 1 * r.val = 16 + (r.val - d); omega
      | ⟨1, _⟩ => show k + 1 * x.val = 0 + (128 * g.val + x.val); omega
  · rename_i h
    rw [dif_pos (by omega)]
    refine View.read_writes_cons_unit_of_mem v _ ib B _ _ (ix2 ⟨16 + r.val - d, by omega⟩ ⟨128 * g.val + x.val, by omega⟩) rfl ?_
    intro a
    match a with
    | ⟨0, _⟩ => show o + 1 * r.val = 0 + (16 + r.val - d); omega
    | ⟨1, _⟩ => show k + 1 * x.val = 0 + (128 * g.val + x.val); omega
end

section
open Cert.MergeIdeal Cert.MergeIdeal.Gen

/-- A load of a whole memref held at the contents that read `X` reads `X`. -/
theorem load_whole {κ : Kind} {sp : Space} {s : Shape} {e : EltTy} {mm : Memref sig κ sp s e} (h : mm.IsWhole) (X : s.Idx → Elt Ideal e)
    (off : Fin s.rank → ℕ) (h0 : ∀ a, off a = 0) (inb : ∀ a, off a + s.size a ≤ s.size a) :
    View.readAt (Elt Ideal) mm.view (Rect.unit off s.size inb).toLoadRect (h.unread X) = X := by
  funext x
  refine (h.readAt_unread X _ x).trans (congrArg X ?_)
  funext a
  apply Fin.ext
  show off a + 1 * (x a).val = (x a).val
  rw [h0 a]; omega

/-- A load of one group's mixing weights reads that group's slab. -/
theorem load_slab {mm : Memref sig .tc .vmem S1x4x128x128 .bf16} (h : mm.IsWhole) (X : S1x4x128x128.Idx → Elt Ideal .bf16)
    (k : ℕ) (hk : k < 4) (inb : ∀ a, (![0, k, 0, 0] : Fin 4 → ℕ) a + S1x1x128x128.size a ≤ S1x4x128x128.size a) (x j : Fin 128) :
    View.readAt (Elt Ideal) mm.view (Rect.unit (s := S1x4x128x128) ![0, k, 0, 0] S1x1x128x128.size inb).toLoadRect (h.unread X) (ix4 0 0 x j)
      = X (ix4 0 ⟨k, hk⟩ x j) := by
  refine (h.readAt_unread X _ _).trans (congrArg X ?_)
  funext a
  apply Fin.ext
  match a with
  | ⟨0, _⟩ => rfl
  | ⟨1, _⟩ => rfl
  | ⟨2, _⟩ => show 0 + 1 * x.val = x.val; omega
  | ⟨3, _⟩ => show 0 + 1 * j.val = j.val; omega

/-- The tile's place in its sequence, as the kernel computes it. -/
def place (n : ℕ) : BitVec 32 :=
  Scalar.select
    (Scalar.andi
      (Scalar.xori
        (Scalar.cmpi CmpIPredicate.slt (Scalar.remsi (BitVec.ofNat 32 n) (Scalar.select (Scalar.cmpi CmpIPredicate.eq 8#32 0#32) 1#32 8#32)) 0#32)
        (Scalar.cmpi CmpIPredicate.slt (Scalar.select (Scalar.cmpi CmpIPredicate.eq 8#32 0#32) 1#32 8#32) 0#32))
      (Scalar.cmpi CmpIPredicate.ne (Scalar.remsi (BitVec.ofNat 32 n) (Scalar.select (Scalar.cmpi CmpIPredicate.eq 8#32 0#32) 1#32 8#32)) 0#32))
    (Scalar.addi (Scalar.remsi (BitVec.ofNat 32 n) (Scalar.select (Scalar.cmpi CmpIPredicate.eq 8#32 0#32) 1#32 8#32)) (Scalar.select (Scalar.cmpi CmpIPredicate.eq 8#32 0#32) 1#32 8#32))
    (Scalar.remsi (BitVec.ofNat 32 n) (Scalar.select (Scalar.cmpi CmpIPredicate.eq 8#32 0#32) 1#32 8#32))

/-- It is the tile's number modulo the eight tiles of a sequence. -/
theorem place_eq : ∀ n : Fin 64, place n.val = BitVec.ofNat 32 (n.val % 8) := by decide +kernel

/-- The count of tokens up to row `r` of tile `t`, in its sequence. -/
def count (n : ℕ) : EReal := FloatOps.sitofp (F := Ideal) FTy.f32 (BitVec.ofNat 32 (n % 4096 + 1))

theorem coords_eq : ∀ t : Fin cfg0.N, ((grid0.coords t) 0).val = t.val := (by decide +kernel : ∀ t : Fin grid0.N, _)

/-- The kernel's counts, at an index. -/
theorem pay4_at (t : Fin cfg0.N) (r : Fin 512) (j : Fin 128) :
    k0_pay4 (F := Ideal) (grid0.coords t) (ix2 r j) = count (t.val * 512 + r.val) := by
  pointwise [k0_pay4]
  have ht : t.val < 64 := t.isLt
  show FloatOps.sitofp (F := Ideal) FTy.f32 (IntOp.addi (Scalar.addi (Scalar.muli (place ((grid0.coords t) 0).val) 512#32) 1#32) (BitVec.ofNat 32 r.val)) = _
  rw [coords_eq, place_eq ⟨t.val, ht⟩]
  unfold count
  congr 1
  apply BitVec.eq_of_toNat_eq
  show ((BitVec.ofNat 32 (t.val % 8) * 512#32 + 1#32) + BitVec.ofNat 32 r.val).toNat = _
  simp only [BitVec.toNat_add, BitVec.toNat_mul, BitVec.toNat_ofNat]
  omega

/-- The kept rows: the rows before the tile, or zero at a sequence's first tile. -/
theorem pay3_at (t : Fin cfg0.N) (v : Vec Ideal S16x512 .f32) (r : Fin 16) (j : Fin 512) :
    k0_pay3 (F := Ideal) (grid0.coords t) v (ix2 r j) = if t.val % 8 = 0 then 0 else v (ix2 r j) := by
  pointwise [k0_pay3]
  have ht : t.val < 64 := t.isLt
  show Scalar.select (Scalar.cmpi CmpIPredicate.eq (place ((grid0.coords t) 0).val) 0#32) (0 : EReal) (v (ix2 r j)) = _
  rw [coords_eq, place_eq ⟨t.val, ht⟩]
  have key : ∀ k : Fin 8, Scalar.cmpi CmpIPredicate.eq (BitVec.ofNat 32 k.val) 0#32 = if k.val = 0 then 1#1 else 0#1 := by decide
  rw [show Scalar.cmpi CmpIPredicate.eq (BitVec.ofNat 32 (t.val % 8)) 0#32 = _ from key ⟨t.val % 8, by omega⟩]
  show Scalar.select (if t.val % 8 = 0 then 1#1 else 0#1) _ _ = _
  split <;> rfl

theorem pay2_eq (v : Vec Ideal S512x512 .f32) : k0_pay2 (F := Ideal) v = v := by
  funext i
  obtain ⟨r, j, rfl⟩ : ∃ (r : Fin 512) (j : Fin 512), i = (ix2 r j : S512x512.Idx) :=
    ⟨i 0, i 1, by funext a; match a with | ⟨0, _⟩ => rfl | ⟨1, _⟩ => rfl⟩
  pointwise [k0_pay2]
end

section
open Cert.MergeIdeal Cert.MergeIdeal.Gen
/-- The output tile, from the merged rows. -/
theorem pay1_at (v162 v163 v165) (r : Fin 512) (j : Fin 1024) : k0_pay1 (F := Ideal) v162 v163 v165 (ix2 r j)
   = v163 (ix2 r j) + ∑ k : Fin 1024, v162 (ix2 r k) * v165 (ix3 0 k j) := by
  pointwise [k0_pay1]
/-- The merged rows, from the pooled branch and the loads. -/
theorem pay15_at (v120 v121 v131 v132 v144 v145 v158) (r : Fin 512) (j : Fin 1024) :
   k0_pay15 (F := Ideal) v120 (k0_pay12 v121) (k0_pay13 v121) k0_pay14 v131 v132 v144 v145 v158 (ix2 r j)
    = merged (fun k => v131 (ix2 r k)) (fun k => v144 (ix2 r k)) (fun k => v120 (ix2 r k)) (fun k => v121 (ix2 r k))
        (fun k f => v132 (ix3 0 k f)) (fun k f => v145 (ix3 0 k f)) (fun k f => v158 (ix3 0 k f)) j := by
  pointwise [k0_pay15, k0_pay12, k0_pay13, k0_pay14]
  simp only [merged, gateOf, zero_sub]
/-- The pooled branch, from the reads of the kept rows. -/
theorem pay11_at (t : Fin cfg0.N) (T : Fin 4 → ℕ → Vec Ideal S512x128 .f32) (W0 W1 W2 W3 : Vec Ideal S1x1x128x128 .bf16) (v116) (r : Fin 512) (j : Fin 512)
   (tk : ℕ → Fin 512 → EReal) (hT : ∀ (g : Fin 4) (d : ℕ) (x : Fin 128), T g d (ix2 r x) = tk d ⟨128 * g.val + x.val, by omega⟩)
   (pw : Fin 4 → Fin 128 → Fin 128 → EReal) (h0 : ∀ x y, W0 (ix4 0 0 x y) = pw 0 x y) (h1 : ∀ x y, W1 (ix4 0 0 x y) = pw 1 x y)
   (h2 : ∀ x y, W2 (ix4 0 0 x y) = pw 2 x y) (h3 : ∀ x y, W3 (ix4 0 0 x y) = pw 3 x y) :
   k0_pay11 (F := Ideal) (k0_pay4 (grid0.coords t)) (k0_pay6 (k0_pay5 (grid0.coords t) (T 0 0) (T 0 1)) W0)
     (k0_pay7 (k0_pay4 (grid0.coords t)) (T 1 0) (T 1 1) (T 1 2) (T 1 3) W1)
     (k0_pay9 (k0_pay4 (grid0.coords t)) (T 2 0) (k0_pay8 (T 2 0) (T 2 1) (T 2 2) (T 2 3) (T 2 4)) (T 2 5) (T 2 6) (T 2 7) W2)
     (T 3 0) (k0_pay10 (T 3 0) (T 3 1) (T 3 2) (T 3 3) (T 3 4) (T 3 5) (T 3 6) (T 3 7) (T 3 8)) (T 3 9) (T 3 10) (T 3 11) (T 3 12)
     (T 3 13) (T 3 14) (T 3 15) W3 v116 (ix2 r j)
     = mixed tk (count (t.val * 512 + r.val)) pw (fun k => v116 (ix3 0 0 k)) j := by
  pointwise [k0_pay11, k0_pay10, k0_pay9, k0_pay8, k0_pay7, k0_pay6, k0_pay5]
  simp only [pay4_at, hT, h0, h1, h2, h3]
  unfold mixed
  congr 1
  have hj := j.isLt
  split
  · rename_i h
    have e1 : (⟨j.val / 128, by omega⟩ : Fin 4) = 0 := Fin.ext (by show j.val / 128 = 0; omega)
    have e2 : (⟨j.val % 128, by omega⟩ : Fin 128) = ⟨j.val, h⟩ := Fin.ext (by show j.val % 128 = j.val; omega)
    rw [e1, e2]
    refine Finset.sum_congr rfl fun x _ => ?_
    congr 1
    show _ = Ideal.div (∑ d : Fin 2, _) (min _ (Ideal.ofBits .f32 1073741824#32)) - _
    rw [Fin.sum_univ_two]; rfl
  split
  · rename_i h' h
    have e1 : (⟨j.val / 128, by omega⟩ : Fin 4) = 1 := Fin.ext (by show j.val / 128 = 1; omega)
    have e2 : (⟨j.val % 128, by omega⟩ : Fin 128) = ⟨j.val - 128, h⟩ := Fin.ext (by show j.val % 128 = j.val - 128; omega)
    rw [e1, e2]
    refine Finset.sum_congr rfl fun x _ => ?_
    congr 1
    show _ = Ideal.div (∑ d : Fin 4, _) (min _ (Ideal.ofBits .f32 0x40800000#32)) - _
    rw [Fin.sum_univ_four]; rfl
  split
  · rename_i h'' h' h
    have e1 : (⟨j.val / 128, by omega⟩ : Fin 4) = 2 := Fin.ext (by show j.val / 128 = 2; omega)
    have e2 : (⟨j.val % 128, by omega⟩ : Fin 128) = ⟨j.val - 128 - 128, h⟩ := Fin.ext (by show j.val % 128 = j.val - 128 - 128; omega)
    rw [e1, e2]
    refine Finset.sum_congr rfl fun x _ => ?_
    congr 1
    show _ = Ideal.div (∑ d : Fin 8, _) (min _ (Ideal.ofBits .f32 0x41000000#32)) - _
    rw [Fin.sum_univ_eight]; rfl
  · rename_i h'' h' h
    have e1 : (⟨j.val / 128, by omega⟩ : Fin 4) = 3 := Fin.ext (by show j.val / 128 = 3; omega)
    have e2 : (⟨j.val % 128, by omega⟩ : Fin 128) = ⟨j.val - 128 - 128 - 128, by omega⟩ := Fin.ext (by show j.val % 128 = j.val - 128 - 128 - 128; omega)
    rw [e1, e2]
    refine Finset.sum_congr rfl fun x _ => ?_
    congr 1
    show _ = Ideal.div (∑ d : Fin (8 + 8), _) (min _ (Ideal.ofBits .f32 0x41800000#32)) - _
    rw [Fin.sum_univ_add, Fin.sum_univ_eight, Fin.sum_univ_eight]
    simp only [← add_assoc]; rfl

/-- The read `d` rows back of group `g`, as a block. -/
def backs (A : Vec Ideal S512x512 .f32) (B : Vec Ideal S16x512 .f32) (g : Fin 4) (d : ℕ) : Vec Ideal S512x128 .f32 := fun y =>
  back A B (y 0) d ⟨128 * g.val + (y 1 : Fin 128).val, by have : (y 1 : Fin 128).val < 128 := (y 1 : Fin 128).isLt; omega⟩

/-- Such a block, at an index. -/
theorem backs_at (A : Vec Ideal S512x512 .f32) (B : Vec Ideal S16x512 .f32) (g : Fin 4) (d : ℕ) (r : Fin 512) (x : Fin 128) :
    backs A B g d (ix2 r x) = back A B r d ⟨128 * g.val + x.val, by omega⟩ := rfl

/-- Each read of the kept rows is such a block. -/
theorem reads (i : grid0.Coords) (c : Dev nD) (m2 : Memref sig .tc .vmem S512x512 .f32) (h2 : m2.IsWhole) (m3 : Memref sig .tc .vmem S16x512 .f32) (h3 : m3.IsWhole)
    (X2 : Vec Ideal S512x512 .f32) (X3 : Vec Ideal S16x512 .f32) {o k : ℕ} (inb : ∀ a, (![o, k] : Fin 2 → ℕ) a + S512x128.size a ≤ S528x512.size a)
    (d : ℕ) (hd : o + d = 16) (g : Fin 4) (hk : k = 128 * g.val) :
    scM0_0.view.readCov (kernelRun0_A.sl.HS0_2 c i m2 h2 m3 h3 X2 X3) (Rect.unit (s := S528x512) ![o, k] S512x128.size inb).toLoadRect
      = backs X2 (k0_pay3 i X3) g d := by
  funext y
  obtain ⟨r, x, rfl⟩ : ∃ (r : Fin 512) (x : Fin 128), y = (ix2 r x : S512x128.Idx) :=
    ⟨y 0, y 1, by funext a; match a with | ⟨0, _⟩ => rfl | ⟨1, _⟩ => rfl⟩
  have w2 : ∀ a : Fin 2, (![0, 0] : Fin 2 → ℕ) a = 0 := by decide
  unfold kernelRun0_A.sl.HS0_2
  dsimp only
  rw [load_whole h2 X2 ![0, 0] w2, load_whole h3 X3 ![0, 0] w2, pay2_eq]
  exact scratch_at _ X2 (k0_pay3 i X3) inb _ _ d hd g hk r x

/-- What the body leaves in the output tile. -/
theorem out_at (m : (ℓ : Loc nD τ sig) → Buf (Elt Ideal) ℓ) (c : Dev nD) (t : Fin cfg0.N) (r : Fin 512) (j : Fin 1024) :
    outsAt0 m c t (ix2 r j) = mergeRow (fun k => iblk m c 0 t (ix2 r k)) (fun k => iblk m c 1 t (ix2 r k))
      (back (iblk m c 2 t) (k0_pay3 (grid0.coords t) (iblk m c 3 t)) r) (count (t.val * 512 + r.val)) (fun k => iblk m c 4 t (ix2 r k))
      (fun k => iblk m c 5 t (ix2 r k)) (fun g x y => iblk m c 6 t (ix4 0 g x y)) (fun k => iblk m c 7 t (ix3 0 0 k))
      (fun k f => iblk m c 8 t (ix3 0 k f)) (fun k f => iblk m c 9 t (ix3 0 k f)) (fun k f => iblk m c 10 t (ix3 0 k f))
      (fun k f => iblk m c 11 t (ix3 0 k f)) j := by
  unfold outsAt0 out0_A_12 kernelRun0_A
  dsimp only
  rw [View.read_writes_junk_eq_canon, View.canon_unit_zero (by decide), pay1_at]
  unfold kernelRun0_A.sl.r_9 kernelRun0_A.sl.r_8 kernelRun0_A.sl.r_7
  simp only [pay15_at]
  have w2 : ∀ a : Fin 2, (![0, 0] : Fin 2 → ℕ) a = 0 := by decide
  have w3 : ∀ a : Fin 3, (![0, 0, 0] : Fin 3 → ℕ) a = 0 := by decide
  rw [load_whole (hs0_0 t) _ ![0, 0] w2, load_whole (hs0_1 t) _ ![0, 0] w2, load_whole (hs0_4 t) _ ![0, 0] w2, load_whole (hs0_5 t) _ ![0, 0] w2,
    load_whole (hs0_8 t) _ ![0, 0, 0] w3, load_whole (hs0_9 t) _ ![0, 0, 0] w3, load_whole (hs0_10 t) _ ![0, 0, 0] w3, load_whole (hs0_11 t) _ ![0, 0, 0] w3]
  unfold kernelRun0_A.sl.r_6 kernelRun0_A.sl.r_5 kernelRun0_A.sl.r_4 kernelRun0_A.sl.r_3 kernelRun0_A.sl.r_2 kernelRun0_A.sl.r_1 kernelRun0_A.sl.r
  rw [show kernelRun0_A.sl.v27 c (grid0.coords t) (ms0_2 t) (hs0_2 t) (ms0_3 t) (hs0_3 t) scM0_0 (iblk m c 2 t) (iblk m c 3 t) = backs (iblk m c 2 t) (k0_pay3 (grid0.coords t) (iblk m c 3 t)) 0 0 from reads (grid0.coords t) c (ms0_2 t) (hs0_2 t) (ms0_3 t) (hs0_3 t) _ _ _ 0 rfl 0 rfl]
  rw [show kernelRun0_A.sl.v28 c (grid0.coords t) (ms0_2 t) (hs0_2 t) (ms0_3 t) (hs0_3 t) scM0_0 (iblk m c 2 t) (iblk m c 3 t) = backs (iblk m c 2 t) (k0_pay3 (grid0.coords t) (iblk m c 3 t)) 0 1 from reads (grid0.coords t) c (ms0_2 t) (hs0_2 t) (ms0_3 t) (hs0_3 t) _ _ _ 1 rfl 0 rfl]
  rw [show kernelRun0_A.sl.v38 c (grid0.coords t) (ms0_2 t) (hs0_2 t) (ms0_3 t) (hs0_3 t) scM0_0 (iblk m c 2 t) (iblk m c 3 t) = backs (iblk m c 2 t) (k0_pay3 (grid0.coords t) (iblk m c 3 t)) 1 0 from reads (grid0.coords t) c (ms0_2 t) (hs0_2 t) (ms0_3 t) (hs0_3 t) _ _ _ 0 rfl 1 rfl]
  rw [show kernelRun0_A.sl.v39 c (grid0.coords t) (ms0_2 t) (hs0_2 t) (ms0_3 t) (hs0_3 t) scM0_0 (iblk m c 2 t) (iblk m c 3 t) = backs (iblk m c 2 t) (k0_pay3 (grid0.coords t) (iblk m c 3 t)) 1 1 from reads (grid0.coords t) c (ms0_2 t) (hs0_2 t) (ms0_3 t) (hs0_3 t) _ _ _ 1 rfl 1 rfl]
  rw [show kernelRun0_A.sl.v41 c (grid0.coords t) (ms0_2 t) (hs0_2 t) (ms0_3 t) (hs0_3 t) scM0_0 (iblk m c 2 t) (iblk m c 3 t) = backs (iblk m c 2 t) (k0_pay3 (grid0.coords t) (iblk m c 3 t)) 1 2 from reads (grid0.coords t) c (ms0_2 t) (hs0_2 t) (ms0_3 t) (hs0_3 t) _ _ _ 2 rfl 1 rfl]
  rw [show kernelRun0_A.sl.v43 c (grid0.coords t) (ms0_2 t) (hs0_2 t) (ms0_3 t) (hs0_3 t) scM0_0 (iblk m c 2 t) (iblk m c 3 t) = backs (iblk m c 2 t) (k0_pay3 (grid0.coords t) (iblk m c 3 t)) 1 3 from reads (grid0.coords t) c (ms0_2 t) (hs0_2 t) (ms0_3 t) (hs0_3 t) _ _ _ 3 rfl 1 rfl]
  rw [show kernelRun0_A.sl.v53 c (grid0.coords t) (ms0_2 t) (hs0_2 t) (ms0_3 t) (hs0_3 t) scM0_0 (iblk m c 2 t) (iblk m c 3 t) = backs (iblk m c 2 t) (k0_pay3 (grid0.coords t) (iblk m c 3 t)) 2 0 from reads (grid0.coords t) c (ms0_2 t) (hs0_2 t) (ms0_3 t) (hs0_3 t) _ _ _ 0 rfl 2 rfl]
  rw [show kernelRun0_A.sl.v54 c (grid0.coords t) (ms0_2 t) (hs0_2 t) (ms0_3 t) (hs0_3 t) scM0_0 (iblk m c 2 t) (iblk m c 3 t) = backs (iblk m c 2 t) (k0_pay3 (grid0.coords t) (iblk m c 3 t)) 2 1 from reads (grid0.coords t) c (ms0_2 t) (hs0_2 t) (ms0_3 t) (hs0_3 t) _ _ _ 1 rfl 2 rfl]
  rw [show kernelRun0_A.sl.v56 c (grid0.coords t) (ms0_2 t) (hs0_2 t) (ms0_3 t) (hs0_3 t) scM0_0 (iblk m c 2 t) (iblk m c 3 t) = backs (iblk m c 2 t) (k0_pay3 (grid0.coords t) (iblk m c 3 t)) 2 2 from reads (grid0.coords t) c (ms0_2 t) (hs0_2 t) (ms0_3 t) (hs0_3 t) _ _ _ 2 rfl 2 rfl]
  rw [show kernelRun0_A.sl.v58 c (grid0.coords t) (ms0_2 t) (hs0_2 t) (ms0_3 t) (hs0_3 t) scM0_0 (iblk m c 2 t) (iblk m c 3 t) = backs (iblk m c 2 t) (k0_pay3 (grid0.coords t) (iblk m c 3 t)) 2 3 from reads (grid0.coords t) c (ms0_2 t) (hs0_2 t) (ms0_3 t) (hs0_3 t) _ _ _ 3 rfl 2 rfl]
  rw [show kernelRun0_A.sl.v60 c (grid0.coords t) (ms0_2 t) (hs0_2 t) (ms0_3 t) (hs0_3 t) scM0_0 (iblk m c 2 t) (iblk m c 3 t) = backs (iblk m c 2 t) (k0_pay3 (grid0.coords t) (iblk m c 3 t)) 2 4 from reads (grid0.coords t) c (ms0_2 t) (hs0_2 t) (ms0_3 t) (hs0_3 t) _ _ _ 4 rfl 2 rfl]
  rw [show kernelRun0_A.sl.v62 c (grid0.coords t) (ms0_2 t) (hs0_2 t) (ms0_3 t) (hs0_3 t) scM0_0 (iblk m c 2 t) (iblk m c 3 t) = backs (iblk m c 2 t) (k0_pay3 (grid0.coords t) (iblk m c 3 t)) 2 5 from reads (grid0.coords t) c (ms0_2 t) (hs0_2 t) (ms0_3 t) (hs0_3 t) _ _ _ 5 rfl 2 rfl]
  rw [show kernelRun0_A.sl.v64 c (grid0.coords t) (ms0_2 t) (hs0_2 t) (ms0_3 t) (hs0_3 t) scM0_0 (iblk m c 2 t) (iblk m c 3 t) = backs (iblk m c 2 t) (k0_pay3 (grid0.coords t) (iblk m c 3 t)) 2 6 from reads (grid0.coords t) c (ms0_2 t) (hs0_2 t) (ms0_3 t) (hs0_3 t) _ _ _ 6 rfl 2 rfl]
  rw [show kernelRun0_A.sl.v66 c (grid0.coords t) (ms0_2 t) (hs0_2 t) (ms0_3 t) (hs0_3 t) scM0_0 (iblk m c 2 t) (iblk m c 3 t) = backs (iblk m c 2 t) (k0_pay3 (grid0.coords t) (iblk m c 3 t)) 2 7 from reads (grid0.coords t) c (ms0_2 t) (hs0_2 t) (ms0_3 t) (hs0_3 t) _ _ _ 7 rfl 2 rfl]
  rw [show kernelRun0_A.sl.v76 c (grid0.coords t) (ms0_2 t) (hs0_2 t) (ms0_3 t) (hs0_3 t) scM0_0 (iblk m c 2 t) (iblk m c 3 t) = backs (iblk m c 2 t) (k0_pay3 (grid0.coords t) (iblk m c 3 t)) 3 0 from reads (grid0.coords t) c (ms0_2 t) (hs0_2 t) (ms0_3 t) (hs0_3 t) _ _ _ 0 rfl 3 rfl]
  rw [show kernelRun0_A.sl.v77 c (grid0.coords t) (ms0_2 t) (hs0_2 t) (ms0_3 t) (hs0_3 t) scM0_0 (iblk m c 2 t) (iblk m c 3 t) = backs (iblk m c 2 t) (k0_pay3 (grid0.coords t) (iblk m c 3 t)) 3 1 from reads (grid0.coords t) c (ms0_2 t) (hs0_2 t) (ms0_3 t) (hs0_3 t) _ _ _ 1 rfl 3 rfl]
  rw [show kernelRun0_A.sl.v79 c (grid0.coords t) (ms0_2 t) (hs0_2 t) (ms0_3 t) (hs0_3 t) scM0_0 (iblk m c 2 t) (iblk m c 3 t) = backs (iblk m c 2 t) (k0_pay3 (grid0.coords t) (iblk m c 3 t)) 3 2 from reads (grid0.coords t) c (ms0_2 t) (hs0_2 t) (ms0_3 t) (hs0_3 t) _ _ _ 2 rfl 3 rfl]
  rw [show kernelRun0_A.sl.v81 c (grid0.coords t) (ms0_2 t) (hs0_2 t) (ms0_3 t) (hs0_3 t) scM0_0 (iblk m c 2 t) (iblk m c 3 t) = backs (iblk m c 2 t) (k0_pay3 (grid0.coords t) (iblk m c 3 t)) 3 3 from reads (grid0.coords t) c (ms0_2 t) (hs0_2 t) (ms0_3 t) (hs0_3 t) _ _ _ 3 rfl 3 rfl]
  rw [show kernelRun0_A.sl.v83 c (grid0.coords t) (ms0_2 t) (hs0_2 t) (ms0_3 t) (hs0_3 t) scM0_0 (iblk m c 2 t) (iblk m c 3 t) = backs (iblk m c 2 t) (k0_pay3 (grid0.coords t) (iblk m c 3 t)) 3 4 from reads (grid0.coords t) c (ms0_2 t) (hs0_2 t) (ms0_3 t) (hs0_3 t) _ _ _ 4 rfl 3 rfl]
  rw [show kernelRun0_A.sl.v85 c (grid0.coords t) (ms0_2 t) (hs0_2 t) (ms0_3 t) (hs0_3 t) scM0_0 (iblk m c 2 t) (iblk m c 3 t) = backs (iblk m c 2 t) (k0_pay3 (grid0.coords t) (iblk m c 3 t)) 3 5 from reads (grid0.coords t) c (ms0_2 t) (hs0_2 t) (ms0_3 t) (hs0_3 t) _ _ _ 5 rfl 3 rfl]
  rw [show kernelRun0_A.sl.v87 c (grid0.coords t) (ms0_2 t) (hs0_2 t) (ms0_3 t) (hs0_3 t) scM0_0 (iblk m c 2 t) (iblk m c 3 t) = backs (iblk m c 2 t) (k0_pay3 (grid0.coords t) (iblk m c 3 t)) 3 6 from reads (grid0.coords t) c (ms0_2 t) (hs0_2 t) (ms0_3 t) (hs0_3 t) _ _ _ 6 rfl 3 rfl]
  rw [show kernelRun0_A.sl.v89 c (grid0.coords t) (ms0_2 t) (hs0_2 t) (ms0_3 t) (hs0_3 t) scM0_0 (iblk m c 2 t) (iblk m c 3 t) = backs (iblk m c 2 t) (k0_pay3 (grid0.coords t) (iblk m c 3 t)) 3 7 from reads (grid0.coords t) c (ms0_2 t) (hs0_2 t) (ms0_3 t) (hs0_3 t) _ _ _ 7 rfl 3 rfl]
  rw [show kernelRun0_A.sl.v91 c (grid0.coords t) (ms0_2 t) (hs0_2 t) (ms0_3 t) (hs0_3 t) scM0_0 (iblk m c 2 t) (iblk m c 3 t) = backs (iblk m c 2 t) (k0_pay3 (grid0.coords t) (iblk m c 3 t)) 3 8 from reads (grid0.coords t) c (ms0_2 t) (hs0_2 t) (ms0_3 t) (hs0_3 t) _ _ _ 8 rfl 3 rfl]
  rw [show kernelRun0_A.sl.v93 c (grid0.coords t) (ms0_2 t) (hs0_2 t) (ms0_3 t) (hs0_3 t) scM0_0 (iblk m c 2 t) (iblk m c 3 t) = backs (iblk m c 2 t) (k0_pay3 (grid0.coords t) (iblk m c 3 t)) 3 9 from reads (grid0.coords t) c (ms0_2 t) (hs0_2 t) (ms0_3 t) (hs0_3 t) _ _ _ 9 rfl 3 rfl]
  rw [show kernelRun0_A.sl.v95 c (grid0.coords t) (ms0_2 t) (hs0_2 t) (ms0_3 t) (hs0_3 t) scM0_0 (iblk m c 2 t) (iblk m c 3 t) = backs (iblk m c 2 t) (k0_pay3 (grid0.coords t) (iblk m c 3 t)) 3 10 from reads (grid0.coords t) c (ms0_2 t) (hs0_2 t) (ms0_3 t) (hs0_3 t) _ _ _ 10 rfl 3 rfl]
  rw [show kernelRun0_A.sl.v97 c (grid0.coords t) (ms0_2 t) (hs0_2 t) (ms0_3 t) (hs0_3 t) scM0_0 (iblk m c 2 t) (iblk m c 3 t) = backs (iblk m c 2 t) (k0_pay3 (grid0.coords t) (iblk m c 3 t)) 3 11 from reads (grid0.coords t) c (ms0_2 t) (hs0_2 t) (ms0_3 t) (hs0_3 t) _ _ _ 11 rfl 3 rfl]
  rw [show kernelRun0_A.sl.v99 c (grid0.coords t) (ms0_2 t) (hs0_2 t) (ms0_3 t) (hs0_3 t) scM0_0 (iblk m c 2 t) (iblk m c 3 t) = backs (iblk m c 2 t) (k0_pay3 (grid0.coords t) (iblk m c 3 t)) 3 12 from reads (grid0.coords t) c (ms0_2 t) (hs0_2 t) (ms0_3 t) (hs0_3 t) _ _ _ 12 rfl 3 rfl]
  rw [show kernelRun0_A.sl.v101 c (grid0.coords t) (ms0_2 t) (hs0_2 t) (ms0_3 t) (hs0_3 t) scM0_0 (iblk m c 2 t) (iblk m c 3 t) = backs (iblk m c 2 t) (k0_pay3 (grid0.coords t) (iblk m c 3 t)) 3 13 from reads (grid0.coords t) c (ms0_2 t) (hs0_2 t) (ms0_3 t) (hs0_3 t) _ _ _ 13 rfl 3 rfl]
  rw [show kernelRun0_A.sl.v103 c (grid0.coords t) (ms0_2 t) (hs0_2 t) (ms0_3 t) (hs0_3 t) scM0_0 (iblk m c 2 t) (iblk m c 3 t) = backs (iblk m c 2 t) (k0_pay3 (grid0.coords t) (iblk m c 3 t)) 3 14 from reads (grid0.coords t) c (ms0_2 t) (hs0_2 t) (ms0_3 t) (hs0_3 t) _ _ _ 14 rfl 3 rfl]
  rw [show kernelRun0_A.sl.v105 c (grid0.coords t) (ms0_2 t) (hs0_2 t) (ms0_3 t) (hs0_3 t) scM0_0 (iblk m c 2 t) (iblk m c 3 t) = backs (iblk m c 2 t) (k0_pay3 (grid0.coords t) (iblk m c 3 t)) 3 15 from reads (grid0.coords t) c (ms0_2 t) (hs0_2 t) (ms0_3 t) (hs0_3 t) _ _ _ 15 rfl 3 rfl]
  rw [load_whole (hs0_7 t) _ ![0, 0, 0] w3]
  unfold mergeRow
  refine congrArg₂ (· + ·) rfl (Finset.sum_congr rfl fun k _ => ?_)
  refine congrArg₂ (· * ·) ?_ rfl
  refine congrArg (fun z => merged _ _ z _ _ _ _ k) ?_
  funext k'
  have q0 := fun (x y : Fin 128) => load_slab (hs0_6 t) (iblk m c 6 t) 0 (by omega) inb_S1x4x128x128_S1x1x128x128_0_0_0_0 x y
  have q1 := fun (x y : Fin 128) => load_slab (hs0_6 t) (iblk m c 6 t) 1 (by omega) inb_S1x4x128x128_S1x1x128x128_0_1_0_0 x y
  have q2 := fun (x y : Fin 128) => load_slab (hs0_6 t) (iblk m c 6 t) 2 (by omega) inb_S1x4x128x128_S1x1x128x128_0_2_0_0 x y
  have q3 := fun (x y : Fin 128) => load_slab (hs0_6 t) (iblk m c 6 t) 3 (by omega) inb_S1x4x128x128_S1x1x128x128_0_3_0_0 x y
  have hp := pay11_at t (backs (iblk m c 2 t) (k0_pay3 (grid0.coords t) (iblk m c 3 t)))
    (View.readAt (Elt Ideal) (ms0_6 t).view (Rect.unit (s := S1x4x128x128) ![0, 0, 0, 0] S1x1x128x128.size inb_S1x4x128x128_S1x1x128x128_0_0_0_0).toLoadRect ((hs0_6 t).unread (iblk m c 6 t)))
    (View.readAt (Elt Ideal) (ms0_6 t).view (Rect.unit (s := S1x4x128x128) ![0, 1, 0, 0] S1x1x128x128.size inb_S1x4x128x128_S1x1x128x128_0_1_0_0).toLoadRect ((hs0_6 t).unread (iblk m c 6 t)))
    (View.readAt (Elt Ideal) (ms0_6 t).view (Rect.unit (s := S1x4x128x128) ![0, 2, 0, 0] S1x1x128x128.size inb_S1x4x128x128_S1x1x128x128_0_2_0_0).toLoadRect ((hs0_6 t).unread (iblk m c 6 t)))
    (View.readAt (Elt Ideal) (ms0_6 t).view (Rect.unit (s := S1x4x128x128) ![0, 3, 0, 0] S1x1x128x128.size inb_S1x4x128x128_S1x1x128x128_0_3_0_0).toLoadRect ((hs0_6 t).unread (iblk m c 6 t)))
    (iblk m c 7 t) r k' (back (iblk m c 2 t) (k0_pay3 (grid0.coords t) (iblk m c 3 t)) r) (fun g d x => backs_at _ _ g d r x)
    (fun g x y => iblk m c 6 t (ix4 0 g x y)) q0 q1 q2 q3
  exact hp
end

section
open Cert.MergeIdeal Cert.MergeIdeal.Gen
theorem V_arg0 (m : (ℓ : Loc nD τ sig) → Buf (Elt Ideal) ℓ) (c : Dev nD) : V m c main_arg0 = m ((c.tc : Thread nD τ).loc main_arg0) := by
  show StableHlo.after hostOps0 _ _ = _
  after_results_simp
theorem V_arg1 (m : (ℓ : Loc nD τ sig) → Buf (Elt Ideal) ℓ) (c : Dev nD) : V m c main_arg1 = m ((c.tc : Thread nD τ).loc main_arg1) := by
  show StableHlo.after hostOps0 _ _ = _
  after_results_simp
theorem V_arg2 (m : (ℓ : Loc nD τ sig) → Buf (Elt Ideal) ℓ) (c : Dev nD) : V m c main_arg2 = m ((c.tc : Thread nD τ).loc main_arg2) := by
  show StableHlo.after hostOps0 _ _ = _
  after_results_simp
theorem V_arg3 (m : (ℓ : Loc nD τ sig) → Buf (Elt Ideal) ℓ) (c : Dev nD) : V m c main_arg3 = m ((c.tc : Thread nD τ).loc main_arg3) := by
  show StableHlo.after hostOps0 _ _ = _
  after_results_simp
theorem V_arg4 (m : (ℓ : Loc nD τ sig) → Buf (Elt Ideal) ℓ) (c : Dev nD) : V m c main_arg4 = m ((c.tc : Thread nD τ).loc main_arg4) := by
  show StableHlo.after hostOps0 _ _ = _
  after_results_simp
theorem V_v0 (m : (ℓ : Loc nD τ sig) → Buf (Elt Ideal) ℓ) (c : Dev nD) :
    V m c main_v0 = shapeCast S4x1x512 (m ((c.tc : Thread nD τ).loc main_arg6)) shapeCasts_S4x512_S4x1x512 := by
  show StableHlo.after hostOps0 _ _ = _
  after_results_simp
  rfl
theorem V_v1 (m : (ℓ : Loc nD τ sig) → Buf (Elt Ideal) ℓ) (c : Dev nD) : V m c main_v1 = m ((c.tc : Thread nD τ).loc main_arg5) := by
  show StableHlo.after hostOps0 _ _ = _
  after_results_simp
  rfl
theorem V_v2 (m : (ℓ : Loc nD τ sig) → Buf (Elt Ideal) ℓ) (c : Dev nD) : V m c main_v2 = m ((c.tc : Thread nD τ).loc main_arg7) := by
  show StableHlo.after hostOps0 _ _ = _
  after_results_simp
  rfl
theorem V_v3 (m : (ℓ : Loc nD τ sig) → Buf (Elt Ideal) ℓ) (c : Dev nD) : V m c main_v3 = m ((c.tc : Thread nD τ).loc main_arg8) := by
  show StableHlo.after hostOps0 _ _ = _
  after_results_simp
  rfl
theorem V_v4 (m : (ℓ : Loc nD τ sig) → Buf (Elt Ideal) ℓ) (c : Dev nD) : V m c main_v4 = m ((c.tc : Thread nD τ).loc main_arg9) := by
  show StableHlo.after hostOps0 _ _ = _
  after_results_simp
  rfl
theorem V_v5 (m : (ℓ : Loc nD τ sig) → Buf (Elt Ideal) ℓ) (c : Dev nD) : V m c main_v5 = m ((c.tc : Thread nD τ).loc main_arg10) := by
  show StableHlo.after hostOps0 _ _ = _
  after_results_simp
  rfl
/-- The windows' block indices at every point. -/
theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![32 * t.val - 1, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0, 0, 0] := (by decide +kernel : ∀ t : Fin grid0.N, _)
theorem e7 : ∀ t : Fin cfg0.N, win0_7.index t = ![0, 0, 0] := (by decide +kernel : ∀ t : Fin grid0.N, _)
theorem e8 : ∀ t : Fin cfg0.N, win0_8.index t = ![0, 0, 0] := (by decide +kernel : ∀ t : Fin grid0.N, _)
theorem e9 : ∀ t : Fin cfg0.N, win0_9.index t = ![0, 0, 0] := (by decide +kernel : ∀ t : Fin grid0.N, _)
theorem e10 : ∀ t : Fin cfg0.N, win0_10.index t = ![0, 0, 0] := (by decide +kernel : ∀ t : Fin grid0.N, _)
theorem e11 : ∀ t : Fin cfg0.N, win0_11.index t = ![0, 0, 0] := (by decide +kernel : ∀ t : Fin grid0.N, _)
theorem e12 : ∀ t : Fin cfg0.N, win0_12.index t = ![t.val, 0] := (by decide +kernel : ∀ t : Fin grid0.N, _)
theorem blk0 (m : (ℓ : Loc nD τ sig) → Buf (Elt Ideal) ℓ) (c : Dev nD) (t : Fin cfg0.N) (r : Fin 512) (k : Fin 1024) :
    iblk m c 0 t (ix2 r k) = m ((c.tc : Thread nD τ).loc main_arg0) (ix2 (⟨t.val * 512 + r.val, by have := t.isLt; change t.val < 64 at this; omega⟩ : Fin 32768) k) := by
  blk_simp [iblk]
  rw [V_arg0]
  have e : (win0_0.blk t).view.emb (ix2 r k) = (ix2 (⟨t.val * 512 + r.val, by have := t.isLt; change t.val < 64 at this; omega⟩ : Fin 32768) k : S32768x1024.Idx) := by
    funext a
    apply Fin.ext
    match a with
    | ⟨0, _⟩ => blk_simp [e0]
    | ⟨1, _⟩ => blk_simp [e0]
  rw [e]
theorem blk1 (m : (ℓ : Loc nD τ sig) → Buf (Elt Ideal) ℓ) (c : Dev nD) (t : Fin cfg0.N) (r : Fin 512) (k : Fin 512) :
    iblk m c 1 t (ix2 r k) = m ((c.tc : Thread nD τ).loc main_arg1) (ix2 (⟨t.val * 512 + r.val, by have := t.isLt; change t.val < 64 at this; omega⟩ : Fin 32768) k) := by
  blk_simp [iblk]
  rw [V_arg1]
  have e : (win0_1.blk t).view.emb (ix2 r k) = (ix2 (⟨t.val * 512 + r.val, by have := t.isLt; change t.val < 64 at this; omega⟩ : Fin 32768) k : S32768x512.Idx) := by
    funext a
    apply Fin.ext
    match a with
    | ⟨0, _⟩ => blk_simp [e1]
    | ⟨1, _⟩ => blk_simp [e1]
  rw [e]
theorem blk2 (m : (ℓ : Loc nD τ sig) → Buf (Elt Ideal) ℓ) (c : Dev nD) (t : Fin cfg0.N) (r : Fin 512) (k : Fin 512) :
    iblk m c 2 t (ix2 r k) = m ((c.tc : Thread nD τ).loc main_arg2) (ix2 (⟨t.val * 512 + r.val, by have := t.isLt; change t.val < 64 at this; omega⟩ : Fin 32768) k) := by
  blk_simp [iblk]
  rw [V_arg2]
  have e : (win0_2.blk t).view.emb (ix2 r k) = (ix2 (⟨t.val * 512 + r.val, by have := t.isLt; change t.val < 64 at this; omega⟩ : Fin 32768) k : S32768x512.Idx) := by
    funext a
    apply Fin.ext
    match a with
    | ⟨0, _⟩ => blk_simp [e2]
    | ⟨1, _⟩ => blk_simp [e2]
  rw [e]
theorem blk4 (m : (ℓ : Loc nD τ sig) → Buf (Elt Ideal) ℓ) (c : Dev nD) (t : Fin cfg0.N) (r : Fin 512) (k : Fin 3072) :
    iblk m c 4 t (ix2 r k) = m ((c.tc : Thread nD τ).loc main_arg3) (ix2 (⟨t.val * 512 + r.val, by have := t.isLt; change t.val < 64 at this; omega⟩ : Fin 32768) k) := by
  blk_simp [iblk]
  rw [V_arg3]
  have e : (win0_4.blk t).view.emb (ix2 r k) = (ix2 (⟨t.val * 512 + r.val, by have := t.isLt; change t.val < 64 at this; omega⟩ : Fin 32768) k : S32768x3072.Idx) := by
    funext a
    apply Fin.ext
    match a with
    | ⟨0, _⟩ => blk_simp [e4]
    | ⟨1, _⟩ => blk_simp [e4]
  rw [e]
theorem blk5 (m : (ℓ : Loc nD τ sig) → Buf (Elt Ideal) ℓ) (c : Dev nD) (t : Fin cfg0.N) (r : Fin 512) (k : Fin 1024) :
    iblk m c 5 t (ix2 r k) = m ((c.tc : Thread nD τ).loc main_arg4) (ix2 (⟨t.val * 512 + r.val, by have := t.isLt; change t.val < 64 at this; omega⟩ : Fin 32768) k) := by
  blk_simp [iblk]
  rw [V_arg4]
  have e : (win0_5.blk t).view.emb (ix2 r k) = (ix2 (⟨t.val * 512 + r.val, by have := t.isLt; change t.val < 64 at this; omega⟩ : Fin 32768) k : S32768x1024.Idx) := by
    funext a
    apply Fin.ext
    match a with
    | ⟨0, _⟩ => blk_simp [e5]
    | ⟨1, _⟩ => blk_simp [e5]
  rw [e]
theorem blk3 (m : (ℓ : Loc nD τ sig) → Buf (Elt Ideal) ℓ) (c : Dev nD) (t : Fin cfg0.N) (r : Fin 16) (k : Fin 512) :
    iblk m c 3 t (ix2 r k) = m ((c.tc : Thread nD τ).loc main_arg2) (ix2 (⟨(32 * t.val - 1) * 16 + r.val, by have := t.isLt; change t.val < 64 at this; omega⟩ : Fin 32768) k) := by
  blk_simp [iblk]
  rw [V_arg2]
  have e : (win0_3.blk t).view.emb (ix2 r k) = (ix2 (⟨(32 * t.val - 1) * 16 + r.val, by have := t.isLt; change t.val < 64 at this; omega⟩ : Fin 32768) k : S32768x512.Idx) := by
    funext a
    apply Fin.ext
    match a with
    | ⟨0, _⟩ => blk_simp [e3]
    | ⟨1, _⟩ => blk_simp [e3]
  rw [e]
theorem blk8 (m : (ℓ : Loc nD τ sig) → Buf (Elt Ideal) ℓ) (c : Dev nD) (t : Fin cfg0.N) (k : Fin 1024) (f : Fin 1024) :
    iblk m c 8 t (ix3 0 k f) = m ((c.tc : Thread nD τ).loc main_arg7) (ix3 0 k f) := by
  blk_simp [iblk]
  rw [V_v2]
  have e : (win0_8.blk t).view.emb (ix3 0 k f) = (ix3 0 k f : S4x1024x1024.Idx) := by
    funext a
    apply Fin.ext
    match a with
    | ⟨0, _⟩ => blk_simp [e8]; rfl
    | ⟨1, _⟩ => blk_simp [e8]
    | ⟨2, _⟩ => blk_simp [e8]
  rw [e]
theorem blk9 (m : (ℓ : Loc nD τ sig) → Buf (Elt Ideal) ℓ) (c : Dev nD) (t : Fin cfg0.N) (k : Fin 512) (f : Fin 1024) :
    iblk m c 9 t (ix3 0 k f) = m ((c.tc : Thread nD τ).loc main_arg8) (ix3 0 k f) := by
  blk_simp [iblk]
  rw [V_v3]
  have e : (win0_9.blk t).view.emb (ix3 0 k f) = (ix3 0 k f : S4x512x1024.Idx) := by
    funext a
    apply Fin.ext
    match a with
    | ⟨0, _⟩ => blk_simp [e9]; rfl
    | ⟨1, _⟩ => blk_simp [e9]
    | ⟨2, _⟩ => blk_simp [e9]
  rw [e]
theorem blk10 (m : (ℓ : Loc nD τ sig) → Buf (Elt Ideal) ℓ) (c : Dev nD) (t : Fin cfg0.N) (k : Fin 512) (f : Fin 1024) :
    iblk m c 10 t (ix3 0 k f) = m ((c.tc : Thread nD τ).loc main_arg9) (ix3 0 k f) := by
  blk_simp [iblk]
  rw [V_v4]
  have e : (win0_10.blk t).view.emb (ix3 0 k f) = (ix3 0 k f : S4x512x1024.Idx) := by
    funext a
    apply Fin.ext
    match a with
    | ⟨0, _⟩ => blk_simp [e10]; rfl
    | ⟨1, _⟩ => blk_simp [e10]
    | ⟨2, _⟩ => blk_simp [e10]
  rw [e]
theorem blk11 (m : (ℓ : Loc nD τ sig) → Buf (Elt Ideal) ℓ) (c : Dev nD) (t : Fin cfg0.N) (k : Fin 1024) (f : Fin 1024) :
    iblk m c 11 t (ix3 0 k f) = m ((c.tc : Thread nD τ).loc main_arg10) (ix3 0 k f) := by
  blk_simp [iblk]
  rw [V_v5]
  have e : (win0_11.blk t).view.emb (ix3 0 k f) = (ix3 0 k f : S4x1024x1024.Idx) := by
    funext a
    apply Fin.ext
    match a with
    | ⟨0, _⟩ => blk_simp [e11]; rfl
    | ⟨1, _⟩ => blk_simp [e11]
    | ⟨2, _⟩ => blk_simp [e11]
  rw [e]
theorem blk6 (m : (ℓ : Loc nD τ sig) → Buf (Elt Ideal) ℓ) (c : Dev nD) (t : Fin cfg0.N) (g : Fin 4) (x y : Fin 128) :
    iblk m c 6 t (ix4 0 g x y) = m ((c.tc : Thread nD τ).loc main_arg5) (ix4 0 g x y) := by
  blk_simp [iblk]
  rw [V_v1]
  have e : (win0_6.blk t).view.emb (ix4 0 g x y) = (ix4 0 g x y : S4x4x128x128.Idx) := by
    funext a
    apply Fin.ext
    match a with
    | ⟨0, _⟩ => blk_simp [e6]; rfl
    | ⟨1, _⟩ => blk_simp [e6]
    | ⟨2, _⟩ => blk_simp [e6]
    | ⟨3, _⟩ => blk_simp [e6]
  rw [e]
theorem blk7 (m : (ℓ : Loc nD τ sig) → Buf (Elt Ideal) ℓ) (c : Dev nD) (t : Fin cfg0.N) (k : Fin 512) :
    iblk m c 7 t (ix3 0 0 k) = m ((c.tc : Thread nD τ).loc main_arg6) (ix2 0 k) := by
  blk_simp [iblk]
  rw [V_v0]
  have e : (win0_7.blk t).view.emb (ix3 0 0 k) = (ix3 0 0 k : S4x1x512.Idx) := by
    funext a
    apply Fin.ext
    match a with
    | ⟨0, _⟩ => blk_simp [e7]; rfl
    | ⟨1, _⟩ => blk_simp [e7]
    | ⟨2, _⟩ => blk_simp [e7]
  rw [e]
  pointwise

/-- The token `d` places before token `n` in its sequence, zero before the sequence's start. -/
def tok (u : Vec Ideal S32768x512 .f32) (n : Fin 32768) (d : ℕ) (x : Fin 512) : EReal :=
  if d ≤ n.val % 4096 then u (ix2 ⟨n.val - d, by omega⟩ x) else 0

/-- The mixed groups depend on the fifteen tokens back only. -/
theorem mixed_congr {tk tk' : ℕ → Fin 512 → EReal} (h : ∀ d < 16, tk d = tk' d) (cnt pw ps) : mixed tk cnt pw ps = mixed tk' cnt pw ps := by
  have hw : ∀ g : Fin 4, win g ≤ 16 := by decide
  have hp : ∀ g x, pool tk cnt g x = pool tk' cnt g x := by
    intro g x
    unfold pool
    rw [h 0 (by omega)]
    congr 2
    exact Finset.sum_congr rfl fun d _ => by rw [h d.val (lt_of_lt_of_le d.isLt (hw g))]
  funext j
  unfold mixed
  simp only [hp]

/-- The reads of the kept rows are the sequence's tokens. -/
theorem back_tok (m : (ℓ : Loc nD τ sig) → Buf (Elt Ideal) ℓ) (c : Dev nD) (t : Fin cfg0.N) (r : Fin 512) (d : ℕ) (hd : d < 16) :
    back (iblk m c 2 t) (k0_pay3 (grid0.coords t) (iblk m c 3 t)) r d = tok (m ((c.tc : Thread nD τ).loc main_arg2))
      ⟨t.val * 512 + r.val, by have := t.isLt; change t.val < 64 at this; omega⟩ d := by
  have ht : t.val < 64 := t.isLt
  funext x
  unfold back tok
  split
  · rename_i h
    rw [if_pos (show d ≤ (t.val * 512 + r.val) % 4096 by omega), blk2]
    congr 2
    apply Fin.ext
    show t.val * 512 + (r.val - d) = t.val * 512 + r.val - d
    omega
  · rename_i h
    rw [dif_pos (by omega), pay3_at, blk3]
    by_cases h0 : t.val % 8 = 0
    · rw [if_pos h0, if_neg (show ¬ d ≤ (t.val * 512 + r.val) % 4096 by omega)]
    · rw [if_neg h0, if_pos (show d ≤ (t.val * 512 + r.val) % 4096 by omega)]
      congr 2
      apply Fin.ext
      show (32 * t.val - 1) * 16 + (16 + r.val - d) = t.val * 512 + r.val - d
      omega

/-- The call's result as a function of its arguments. -/
def result (ys : Vec Ideal S32768x1024 .bf16) (ya : Vec Ideal S32768x512 .bf16) (u : Vec Ideal S32768x512 .f32) (g : Vec Ideal S32768x3072 .bf16)
    (h : Vec Ideal S32768x1024 .f32) (pw : Vec Ideal S4x4x128x128 .f32) (ps : Vec Ideal S4x512 .f32) (wus : Vec Ideal S4x1024x1024 .f32)
    (wua wup : Vec Ideal S4x512x1024 .f32) (wo : Vec Ideal S4x1024x1024 .f32) : Vec Ideal S32768x1024 .f32 := fun i =>
  mergeRow (fun k => ys (ix2 (i 0 : Fin 32768) k)) (fun k => ya (ix2 (i 0 : Fin 32768) k)) (tok u (i 0)) (count (i 0 : Fin 32768).val) (fun k => g (ix2 (i 0 : Fin 32768) k))
    (fun k => h (ix2 (i 0 : Fin 32768) k)) (fun g x y => pw (ix4 0 g x y)) (fun k => ps (ix2 0 k)) (fun k f => wus (ix3 0 k f))
    (fun k f => wua (ix3 0 k f)) (fun k f => wup (ix3 0 k f)) (fun k f => wo (ix3 0 k f)) (i 1)

/-- The kernel's result array is `result` of the arguments. -/
theorem final (m : (ℓ : Loc nD τ sig) → Buf (Elt Ideal) ℓ) (c : Dev nD) :
    (dats m 0 c).arrAt 12 cfg0.N = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  refine (dats m 0 c).arrAt_eq_of_covers 12 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  blk_simp
  rw [after0_12]
  refine (out_at m c t r j).trans ?_
  unfold mergeRow
  rw [mixed_congr (fun d hd => back_tok m c t r d hd)]
  simp only [blk0, blk1, blk4, blk5, blk6, blk7, blk8, blk9, blk10, blk11]
  have e : (win0_12.blk t).view.emb (ix2 r j) = (ix2 (⟨t.val * 512 + r.val, by have := t.isLt; change t.val < 64 at this; omega⟩ : Fin 32768) j : S32768x1024.Idx) := by
    funext a
    apply Fin.ext
    match a with
    | ⟨0, _⟩ => blk_simp [e12]
    | ⟨1, _⟩ => blk_simp [e12]
  rw [e]
  rfl
end

section
open Cert.MergeReferenceIdeal Cert.MergeReferenceIdeal.Gen
theorem window_at (w : ℕ) (x : FVec Ideal S8x4096x128 .f32) (u : FVec Ideal S_ .f32)
   (h : S8x4096x128.ReduceWindows ![1, w, 1] ![1, 1, 1] ![0, w - 1, 0] ![0, 0, 0] S8x4096x128) (hu : 0 < S_.numel) (h0 : ∀ i, u i = 0)
    (b : Fin 8) (s : Fin 4096) (j : Fin 128) :
    Host.reduceWindowAdd ![1, w, 1] ![1, 1, 1] ![0, w - 1, 0] ![0, 0, 0] x u h hu (ix3 b s j)
     = ∑ d : Fin w, if d.val ≤ s.val then x (ix3 b ⟨s.val - d.val, by omega⟩ j) else 0 := by
  show (List.finRange _).foldl _ _ = _
  have key : ∀ (n : ℕ) (f : Fin n → EReal) (z : EReal), (List.finRange n).foldl (fun r i => r + f i) z = z + ∑ i, f i := by
    intro n f z
    rw [Fin.sum_univ_def, ← List.foldl_map (f := f) (g := (· + ·))]
    generalize (List.finRange n).map f = l
    induction l generalizing z with
    | nil => simp
    | cons a l ih => simp [ih, add_assoc]
  rw [key, h0, zero_add]
  let e : (⟨3, ![1, w, 1]⟩ : Shape).Idx ≃ Fin w :=
    ⟨fun p => Fin.rev (p 1 : Fin w), fun d => ix3 0 (Fin.rev d) 0, fun p => by
      funext a
      match a with
      | ⟨0, _⟩ => exact (Fin.eq_zero (p 0 : Fin 1)).symm
      | ⟨1, _⟩ => exact Fin.rev_rev (p 1 : Fin w)
      | ⟨2, _⟩ => exact (Fin.eq_zero (p 2 : Fin 1)).symm, fun d => Fin.rev_rev d⟩
  refine Fintype.sum_equiv ((Shape.rowMajor (⟨3, ![1, w, 1]⟩ : Shape)).symm.trans e) _ _ fun i => ?_
  let p : (⟨3, ![1, w, 1]⟩ : Shape).Idx := (Shape.rowMajor (⟨3, ![1, w, 1]⟩ : Shape)).symm i
  show _ = if (Fin.rev (p 1 : Fin w)).val ≤ s.val then x (ix3 b ⟨s.val - (Fin.rev (p 1 : Fin w)).val, _⟩ j) else 0
  have p0 : (p 0).val = 0 := congrArg Fin.val (Fin.eq_zero (p 0 : Fin 1))
  have p2 : (p 2).val = 0 := congrArg Fin.val (Fin.eq_zero (p 2 : Fin 1))
  have p1 : (p 1).val < w := (p 1).isLt
  have pr : (Fin.rev (p 1 : Fin w)).val = w - 1 - (p 1).val := by
    show w - ((p 1).val + 1) = w - 1 - (p 1).val; omega
  have hs := s.isLt
  by_cases hc : w - 1 ≤ s.val + (p 1).val
  · rw [if_pos (by omega), dif_pos ?_]
    · congr 1; funext a; apply Fin.ext
      match a with
      | ⟨0, _⟩ => show b.val * 1 + (p 0).val - 0 = b.val; omega
      | ⟨1, _⟩ => show s.val * 1 + (p 1).val - (w - 1) = s.val - (Fin.rev (p 1 : Fin w)).val; omega
      | ⟨2, _⟩ => show j.val * 1 + (p 2).val - 0 = j.val; omega
    · intro a
      match a with
      | ⟨0, _⟩ => show 0 ≤ b.val * 1 + (p 0).val ∧ b.val * 1 + (p 0).val - 0 < 8; omega
      | ⟨1, _⟩ => show w - 1 ≤ s.val * 1 + (p 1).val ∧ s.val * 1 + (p 1).val - (w - 1) < 4096; omega
      | ⟨2, _⟩ => show 0 ≤ j.val * 1 + (p 2).val ∧ j.val * 1 + (p 2).val - 0 < 128; omega
  · rw [if_neg (by omega), dif_neg ?_]
    intro hh
    have h1 : w - 1 ≤ s.val * 1 + (p 1).val := (hh 1).1
    omega

/-- One group's pooled tokens, as the reference's operations. -/
def hostGroup (w : ℕ) (h : S8x4096x128.ReduceWindows ![1, w, 1] ![1, 1, 1] ![0, w - 1, 0] ![0, 0, 0] S8x4096x128) (word : BitVec 32)
    (x : FVec Ideal S8x4096x128 .f32) : FVec Ideal S8x4096x1x128 .f32 :=
  broadcastInDim S8x4096x1x128 ![0, 1, 3] bcast_S8x4096x128_S8x4096x1x128_0_1_3 (subf (Host.divf (Host.reduceWindowAdd ![1, w, 1] ![1, 1, 1] ![0, w - 1, 0] ![0, 0, 0] x (broadcastInDim S_ ![] bcast_S_S_ (constant S_ .f32 0x00000000#32)) h h_S_) (broadcastInDim S8x4096x128 ![0, 1, 2] bcast_S1x4096x1_S8x4096x128_0_1_2 (broadcastInDim S1x4096x1 ![1] bcast_S4096_S1x4096x1_1 (minimumf (sitofp .f32 (addi (broadcastInDim S4096 ![] bcast_S_S4096 (constantI S_ 32 1#32)) (iotaInDim S4096 32 0))) (broadcastInDim S4096 ![] bcast_S_S4096 (constant S_ .f32 word)))))) x)

/-- One group's pooled tokens, at an index. -/
theorem hostGroup_at (w : ℕ) (h : S8x4096x128.ReduceWindows ![1, w, 1] ![1, 1, 1] ![0, w - 1, 0] ![0, 0, 0] S8x4096x128) (word : BitVec 32)
    (x : FVec Ideal S8x4096x128 .f32) (b : Fin 8) (s : Fin 4096) (z : Fin 1) (j : Fin 128) :
    hostGroup w h word x (ix4 b s z j) = Ideal.div (∑ d : Fin w, if d.val ≤ s.val then x (ix3 b ⟨s.val - d.val, by omega⟩ j) else 0)
      (min (count (b.val * 4096 + s.val)) (Ideal.ofBits .f32 word)) - x (ix3 b s j) := by
  pointwise [hostGroup]
  rw [window_at w x _ h h_S_ (fun i => by
    have : i = ix0 := by funext a; exact a.elim0
    subst this; pointwise)]
  have e : count (b.val * 4096 + s.val) = FloatOps.sitofp (F := Ideal) FTy.f32 (IntOp.addi 1#32 (BitVec.ofNat 32 s.val)) := by
    unfold count
    congr 1
    apply BitVec.eq_of_toNat_eq
    show _ = (1#32 + BitVec.ofNat 32 s.val).toNat
    simp only [BitVec.toNat_add, BitVec.toNat_ofNat]
    omega
  rw [e]

/-- One group's tokens. -/
theorem slice_at (u : FVec Ideal S32768x512 .f32) (g : Fin 4) (n : ℕ) (hn : n = g.val) (hs : S8x4096x4x128.Slices ![0, 0, n, 0] S8x4096x1x128) (b : Fin 8) (s : Fin 4096) (j : Fin 128) :
    shapeCast S8x4096x128 (extractStridedSlice S8x4096x1x128 ![0, 0, n, 0] (shapeCast S8x4096x4x128 u shapeCasts_S32768x512_S8x4096x4x128) hs) shapeCasts_S8x4096x1x128_S8x4096x128 (ix3 b s j)
      = u (ix2 ⟨b.val * 4096 + s.val, by omega⟩ ⟨128 * g.val + j.val, by omega⟩) := by
  subst hn
  pointwise
  congr 2
  apply Fin.ext
  show g.val * 128 + j.val = 128 * g.val + j.val
  omega

/-- The pooled groups, as the reference's operations. -/
def hostPool (A2 : FVec Ideal S32768x512 .f32) : FVec Ideal S8x4096x4x128 .f32 :=
  let U4 := shapeCast S8x4096x4x128 A2 shapeCasts_S32768x512_S8x4096x4x128
  concatenate S8x4096x4x128 2 [
    ⟨S8x4096x1x128, hostGroup 2 reduceWindows_S8x4096x128_S8x4096x128_w1s1p0_0_w2s1p1_0_w1s1p0_0 0x40000000#32 (shapeCast S8x4096x128 (extractStridedSlice S8x4096x1x128 ![0, 0, 0, 0] U4 slices_S8x4096x4x128_S8x4096x1x128_0_0_0_0) shapeCasts_S8x4096x1x128_S8x4096x128)⟩,
    ⟨S8x4096x1x128, hostGroup 4 reduceWindows_S8x4096x128_S8x4096x128_w1s1p0_0_w4s1p3_0_w1s1p0_0 0x40800000#32 (shapeCast S8x4096x128 (extractStridedSlice S8x4096x1x128 ![0, 0, 1, 0] U4 slices_S8x4096x4x128_S8x4096x1x128_0_0_1_0) shapeCasts_S8x4096x1x128_S8x4096x128)⟩,
    ⟨S8x4096x1x128, hostGroup 8 reduceWindows_S8x4096x128_S8x4096x128_w1s1p0_0_w8s1p7_0_w1s1p0_0 0x41000000#32 (shapeCast S8x4096x128 (extractStridedSlice S8x4096x1x128 ![0, 0, 2, 0] U4 slices_S8x4096x4x128_S8x4096x1x128_0_0_2_0) shapeCasts_S8x4096x1x128_S8x4096x128)⟩,
    ⟨S8x4096x1x128, hostGroup 16 reduceWindows_S8x4096x128_S8x4096x128_w1s1p0_0_w16s1p15_0_w1s1p0_0 0x41800000#32 (shapeCast S8x4096x128 (extractStridedSlice S8x4096x1x128 ![0, 0, 3, 0] U4 slices_S8x4096x4x128_S8x4096x1x128_0_0_3_0) shapeCasts_S8x4096x1x128_S8x4096x128)⟩]
    concatenates_S8x4096x1x128_S8x4096x1x128_S8x4096x1x128_S8x4096x1x128_S8x4096x4x128_d2

/-- The pooled groups, at an index. -/
theorem hostPool_at (u : FVec Ideal S32768x512 .f32) (b : Fin 8) (s : Fin 4096) (g : Fin 4) (j : Fin 128) :
    hostPool u (ix4 b s g j) = pool (tok u ⟨b.val * 4096 + s.val, by omega⟩) (count (b.val * 4096 + s.val)) g j := by
  have hm : (b.val * 4096 + s.val) % 4096 = s.val := by have := s.isLt; omega
  have key : ∀ g : Fin 4, (∑ d : Fin (win g), if d.val ≤ s.val then u (ix2 ⟨b.val * 4096 + (s.val - d.val), by omega⟩ ⟨128 * g.val + j.val, by omega⟩) else 0)
      = ∑ d : Fin (win g), tok u ⟨b.val * 4096 + s.val, by omega⟩ d.val ⟨128 * g.val + j.val, by omega⟩ := by
    intro g
    refine Finset.sum_congr rfl fun d _ => ?_
    unfold tok
    simp only [hm]
    split
    · congr 2; apply Fin.ext; show b.val * 4096 + (s.val - d.val) = b.val * 4096 + s.val - d.val; omega
    · rfl
  have key0 : ∀ g : Fin 4, u (ix2 ⟨b.val * 4096 + s.val, by omega⟩ ⟨128 * g.val + j.val, by omega⟩) = tok u ⟨b.val * 4096 + s.val, by omega⟩ 0 ⟨128 * g.val + j.val, by omega⟩ := by
    intro g; unfold tok; rw [if_pos (by omega)]; rfl
  unfold pool
  rw [← key, ← key0]
  pointwise [hostPool]
  match g with
  | 0 =>
    rw [dif_pos (by decide)]
    refine (hostGroup_at _ _ _ _ b s _ j).trans ?_
    simp only [slice_at u 0 0 rfl]
    rfl
  | 1 =>
    rw [dif_neg (by decide), dif_pos (by decide)]
    refine (hostGroup_at _ _ _ _ b s _ j).trans ?_
    simp only [slice_at u 1 1 rfl]
    rfl
  | 2 =>
    rw [dif_neg (by decide), dif_neg (by decide), dif_pos (by decide)]
    refine (hostGroup_at _ _ _ _ b s _ j).trans ?_
    simp only [slice_at u 2 2 rfl]
    rfl
  | 3 =>
    rw [dif_neg (by decide), dif_neg (by decide), dif_neg (by decide)]
    refine (hostGroup_at _ _ _ _ b s _ j).trans ?_
    simp only [slice_at u 3 3 rfl]
    rfl

/-- The gates, as the reference's operations. -/
def hostGate (A3 : FVec Ideal S32768x3072 .bf16) : FVec Ideal S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32)) (Host.exp (Host.negf (shapeCast _ (extf .f32 A3 bitsLt_bf16_f32) shapeCasts_S32768x3072_S32768x3x1024))))

/-- The gates, at an index. -/
theorem hostGate_at (x : FVec Ideal S32768x3072 .bf16) (r : Fin 32768) (k : Fin 3) (j : Fin 1024) :
    hostGate x (ix3 r k j) = gateOf (x (ix2 r ⟨k.val * 1024 + j.val, by omega⟩)) := by
  pointwise [hostGate]
  rfl

/-- The mixed groups, as the reference's operations. -/
def hostMix (p : FVec Ideal S8x4096x4x128 .f32) (A5 : FVec Ideal S4x4x128x128 .f32) (A6 : FVec Ideal S4x512 .f32) : FVec Ideal S32768x512 .f32 :=
  mulf (shapeCast _ (transpose S8x4096x4x128 [2, 3, 0, 1] (Host.dotGeneral dot_S4x128x128_S8x4096x4x128_S4x128x8x4096_1_3_2_01_0_2 none (shapeCast _ (extractStridedSlice S1x4x128x128 ![0, 0, 0, 0] A5 slices_S4x4x128x128_S1x4x128x128_0_0_0_0) shapeCasts_S1x4x128x128_S4x128x128) p) transposes_S4x128x8x4096_S8x4096x4x128_2_3_0_1) shapeCasts_S8x4096x4x128_S32768x512) (broadcastInDim S32768x512 ![0, 1] bcast_S1x512_S32768x512_0_1 (broadcastInDim S1x512 ![1] bcast_S512_S1x512_1 (shapeCast _ (extractStridedSlice S1x512 ![0, 0] A6 slices_S4x512_S1x512_0_0) shapeCasts_S1x512_S512)))

/-- The mixed groups, at an index. -/
theorem hostMix_at (p : FVec Ideal S8x4096x4x128 .f32) (A5 : FVec Ideal S4x4x128x128 .f32) (A6 : FVec Ideal S4x512 .f32) (r : Fin 32768) (j : Fin 512) :
    hostMix p A5 A6 (ix2 r j) = (∑ x : Fin 128, p (ix4 (⟨r.val / 4096, by omega⟩ : Fin 8) (⟨r.val % 4096, by omega⟩ : Fin 4096) (⟨j.val / 128, by omega⟩ : Fin 4) x)
      * A5 (ix4 0 (⟨j.val / 128, by omega⟩ : Fin 4) x (⟨j.val % 128, by omega⟩ : Fin 128))) * A6 (ix2 0 j) := by
  pointwise [hostMix]
  congr 1
  exact Finset.sum_congr rfl fun x _ => mul_comm _ _

/-- The row of a folded array from its batch and token, -/
theorem row_val (r : Fin 32768) : r.val / 4096 * 4096 + r.val % 4096 = r.val := Nat.div_add_mod' r.val 4096
theorem row_eq (r : Fin 32768) (h : r.val / 4096 * 4096 + r.val % 4096 < 32768) : (⟨r.val / 4096 * 4096 + r.val % 4096, h⟩ : Fin 32768) = r :=
  Fin.ext (row_val r)
/-- and the gates' columns. -/
theorem col0 (x : Fin 1024) (h : (0 : Fin 3).val * 1024 + x.val < 3072) : (⟨(0 : Fin 3).val * 1024 + x.val, h⟩ : Fin 3072) = ⟨x.val, by omega⟩ :=
  Fin.ext (by have : (0 : Fin 3).val = 0 := rfl; show (0 : Fin 3).val * 1024 + x.val = x.val; omega)
theorem col1 (x : Fin 1024) (h : (1 : Fin 3).val * 1024 + x.val < 3072) : (⟨(1 : Fin 3).val * 1024 + x.val, h⟩ : Fin 3072) = ⟨1024 + x.val, by omega⟩ :=
  Fin.ext (by have : (1 : Fin 3).val = 1 := rfl; show (1 : Fin 3).val * 1024 + x.val = 1024 + x.val; omega)
theorem col2 (x : Fin 1024) (h : (2 : Fin 3).val * 1024 + x.val < 3072) : (⟨(2 : Fin 3).val * 1024 + x.val, h⟩ : Fin 3072) = ⟨2048 + x.val, by omega⟩ :=
  Fin.ext (by have : (2 : Fin 3).val = 2 := rfl; show (2 : Fin 3).val * 1024 + x.val = 2048 + x.val; omega)

/-- The reference's result array is `result` of the arguments. -/
theorem ref_eq (m : (ℓ : Loc nD τ sig) → Buf (Elt Ideal) ℓ) (c : Dev nD) :
    Value.res_main_v93 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have e : Value.res_main_v93 m c = addf ((m ((c.tc : Thread nD τ).loc main_arg4)) : FVec Ideal S32768x1024 .f32) (Host.dotGeneral dot_S32768x1024_S1024x1024_S32768x1024_1_0_0_1_n_n none (addf (addf (mulf (shapeCast _ (extractStridedSlice S32768x1x1024 ![0, 0, 0] (hostGate (m ((c.tc : Thread nD τ).loc main_arg3))) slices_S32768x3x1024_S32768x1x1024_0_0_0) shapeCasts_S32768x1x1024_S32768x1024) (Host.dotGeneral dot_S32768x1024_S1024x1024_S32768x1024_1_0_0_1_n_n none (extf .f32 (m ((c.tc : Thread nD τ).loc main_arg0)) bitsLt_bf16_f32) (shapeCast _ (extractStridedSlice S1x1024x1024 ![0, 0, 0] (m ((c.tc : Thread nD τ).loc main_arg7)) slices_S4x1024x1024_S1x1024x1024_0_0_0) shapeCasts_S1x1024x1024_S1024x1024))) (mulf (shapeCast _ (extractStridedSlice S32768x1x1024 ![0, 1, 0] (hostGate (m ((c.tc : Thread nD τ).loc main_arg3))) slices_S32768x3x1024_S32768x1x1024_0_1_0) shapeCasts_S32768x1x1024_S32768x1024) (Host.dotGeneral dot_S32768x512_S512x1024_S32768x1024_1_0_0_1_n_n none (extf .f32 (m ((c.tc : Thread nD τ).loc main_arg1)) bitsLt_bf16_f32) (shapeCast _ (extractStridedSlice S1x512x1024 ![0, 0, 0] (m ((c.tc : Thread nD τ).loc main_arg8)) slices_S4x512x1024_S1x512x1024_0_0_0) shapeCasts_S1x512x1024_S512x1024)))) (mulf (shapeCast _ (extractStridedSlice S32768x1x1024 ![0, 2, 0] (hostGate (m ((c.tc : Thread nD τ).loc main_arg3))) slices_S32768x3x1024_S32768x1x1024_0_2_0) shapeCasts_S32768x1x1024_S32768x1024) (Host.dotGeneral dot_S32768x512_S512x1024_S32768x1024_1_0_0_1_n_n none (hostMix (hostPool (m ((c.tc : Thread nD τ).loc main_arg2))) (m ((c.tc : Thread nD τ).loc main_arg5)) (m ((c.tc : Thread nD τ).loc main_arg6))) (shapeCast _ (extractStridedSlice S1x512x1024 ![0, 0, 0] (m ((c.tc : Thread nD τ).loc main_arg9)) slices_S4x512x1024_S1x512x1024_0_0_0) shapeCasts_S1x512x1024_S512x1024)))) (shapeCast _ (extractStridedSlice S1x1024x1024 ![0, 0, 0] (m ((c.tc : Thread nD τ).loc main_arg10)) slices_S4x1024x1024_S1x1024x1024_0_0_0) shapeCasts_S1x1024x1024_S1024x1024)) := rfl
  rw [e]
  funext i
  obtain ⟨r, j, rfl⟩ : ∃ (r : Fin 32768) (j : Fin 1024), i = (ix2 r j : S32768x1024.Idx) :=
    ⟨i 0, i 1, by funext a; match a with | ⟨0, _⟩ => rfl | ⟨1, _⟩ => rfl⟩
  pointwise
  simp only [hostGate_at, hostMix_at, hostPool_at]
  simp only [row_eq, row_val, col0, col1, col2]
  rfl
end

/-! ## The claims -/

/-- The reference's frame. -/
theorem reference_frame : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The kernel and the reference leave equal results. -/
theorem algebraic : Cert.algebraic_MergeIdeal_MergeReferenceIdeal (hMergeIdeal := Cert.MergeIdeal.Gen.facts)
    (hMergeReferenceIdeal := Cert.MergeReferenceIdeal.Gen.facts) := by
  intro m ρ m' ρ' _ hagree
  refine ⟨_, Cert.MergeIdeal.Value.run_blocks (F := Ideal) m ρ, ?_⟩
  refine (θ_run Cert.MergeReferenceIdeal.defs _ _).mono (fun _ h c => ⟨(h c).1.trans ?_, (h c).2⟩)
    (Cert.MergeReferenceIdeal.Value.run (F := Ideal) m' ρ')
  obtain ⟨h0, h1, h2, h3, h4, h5, h6, h7, h8, h9, h10⟩ := hagree c
  rw [ref_eq, final, h0, h1, h2, h3, h4, h5, h6, h7, h8, h9, h10]

end Cert.Proof.Merge

end
-- ==== Proof.InprojTile.lean ====
/-
  The input projection call at the extended reals. The kernel multiplies each normalised row with weights whose columns the
  host code has put in the order of the results: query columns scaled, key columns twice, value columns with zero columns
  between them. The reference takes one product with the weights as they are given and cuts, scales and doubles its columns.
  This file reads the kernel: what its body leaves in each tile, and what each packed column is.
-/
module

public import proofs.«01_k».proof.Defs
public import proofs.«01_k».proof.Proof.Ffn
public import proofs.«01_k».proof.Proof.Gen.InprojIdeal.Value
public import Idealize.ShloMosaic.Lib.Pointwise
public import Idealize.ShloMosaic.Lib.WholeRead
public import Idealize.ShloMosaic.Lib.WritesUnit
public import Idealize.ShloMosaic.Lib.Pipeline.ValueKit.Geometry
public import Idealize.ShloMosaic.Lib.Quiescent

@[expose] public section

noncomputable section

namespace Cert.Proof.Inproj

open Idealize.ShloMosaic Idealize.SL.Sem
open Cert.Proof.Ffn (normRow)
open scoped BigOperators

/-- The product of the normalised row with one column. -/
def entry (x nw w : Fin 1024 → EReal) : EReal := ∑ k, normRow x nw k * w k

/-- The scale of the query columns. -/
def scale : EReal := Ideal.ofBits .f32 0x3E38AA3B#32

/-- A product with a zero column is zero. -/
theorem entry_zero (x nw : Fin 1024 → EReal) : entry x nw (fun _ => 0) = 0 := by
  simp [entry]

/-- The scale is a nonnegative real number. -/
theorem scale_real : 0 ≤ scale ∧ scale ≠ ⊤ := by
  have h : scale = (((12102203 : ℝ) / 2 ^ 26 : ℝ) : EReal) := by
    unfold scale
    simp [Ideal.ofBits, Ideal.ieee, -EReal.coe_mul]; norm_num
  rw [h]
  exact ⟨EReal.coe_nonneg.mpr (by positivity), EReal.coe_ne_top _⟩

/-- A product with a scaled column is the scaled product: the scale is a nonnegative real, so it distributes. -/
theorem entry_scale (x nw w : Fin 1024 → EReal) : entry x nw (fun k => w k * scale) = entry x nw w * scale := by
  have hs := scale_real
  have h : ∀ s : Finset (Fin 1024), ∑ k ∈ s, normRow x nw k * (w k * scale) = (∑ k ∈ s, normRow x nw k * w k) * scale := by
    intro s
    induction s using Finset.induction_on with
    | empty => simp
    | insert a s ha ih =>
      rw [Finset.sum_insert ha, Finset.sum_insert ha, ih, EReal.right_distrib_of_nonneg_of_ne_top hs.1 hs.2, mul_assoc]
  exact h _

/-- Row `i` of the folded hidden state. -/
def row (h : (⟨3, ![8, 4096, 1024]⟩ : Shape).Idx → EReal) (i : ℕ) (hi : i < 32768) (k : Fin 1024) : EReal :=
  h (ix3 (⟨i / 4096, by omega⟩ : Fin 8) (⟨i % 4096, Nat.mod_lt _ (by omega)⟩ : Fin 4096) k)

section Kernel
open Cert.InprojIdeal Cert.InprojIdeal.Gen

/-- A load of a whole memref held at the contents that read `X` reads `X`. -/
theorem load_whole {κ : Kind} {sp : Space} {s : Shape} {e : EltTy} {mm : Memref sig κ sp s e} (h : mm.IsWhole) (X : s.Idx → Elt Ideal e)
    (off : Fin s.rank → ℕ) (h0 : ∀ a, off a = 0) (inb : ∀ a, off a + s.size a ≤ s.size a) :
    View.readAt (Elt Ideal) mm.view (Rect.unit off s.size inb).toLoadRect (h.unread X) = X := by
  funext x
  refine (h.readAt_unread X _ x).trans (congrArg X ?_)
  funext a
  apply Fin.ext
  show off a + 1 * (x a).val = (x a).val
  rw [h0 a]; omega

/-- A load of `n` columns of the weights, from column `off`, reads those columns. -/
theorem load_cols {mm : Memref sig .tc .vmem S1x1024x7680 .bf16} (h : mm.IsWhole) (X : S1x1024x7680.Idx → Elt Ideal .bf16) {off n : ℕ}
    (inb : ∀ a, (![0, 0, off] : Fin 3 → ℕ) a + (![1, 1024, n] : Fin 3 → ℕ) a ≤ S1x1024x7680.size a) (k : Fin 1024) (j : Fin n) (q : Fin 7680)
    (hq : q.val = off + j.val) :
    View.readAt (Elt Ideal) mm.view (Rect.unit (s := S1x1024x7680) ![0, 0, off] ![1, 1024, n] inb).toLoadRect (h.unread X) (ix3 0 k j)
      = X (ix3 0 k q) := by
  refine (h.readAt_unread X _ _).trans (congrArg X ?_)
  funext a
  apply Fin.ext
  match a with
  | ⟨0, _⟩ => rfl
  | ⟨1, _⟩ => show 0 + 1 * k.val = k.val; omega
  | ⟨2, _⟩ => show off + 1 * j.val = q.val; omega

/-- The kernel's normalised tile, at an index. -/
theorem pay4_at (v0 : Vec Ideal S512x1024 .f32) (v2 : Vec Ideal S1x1x1024 .f32) (r : Fin 512) (j : Fin 1024) :
    k0_pay4 (F := Ideal) v0 v2 (ix2 r j) = normRow (fun k => v0 (ix2 r k)) (fun k => v2 (ix3 0 0 k)) j := by
  pointwise [k0_pay4]
  rfl

theorem pay5_at (v0 : Vec Ideal S512x1024 .f32) (v2 : Vec Ideal S1x1x1024 .f32) (v : Vec Ideal S1x1024x1024 .bf16) (r : Fin 512) (j : Fin 1024) :
    k0_pay5 (F := Ideal) v0 v2 v (ix2 r j) = ∑ k : Fin 1024, k0_pay4 (F := Ideal) v0 v2 (ix2 r k) * v (ix3 0 k j) := by
  pointwise [k0_pay5]

theorem pay6_at (v0 : Vec Ideal S512x1024 .f32) (v2 : Vec Ideal S1x1x1024 .f32) (v : Vec Ideal S1x1024x1536 .bf16) (r : Fin 512) (j : Fin 1536) :
    k0_pay6 (F := Ideal) v0 v2 v (ix2 r j) = ∑ k : Fin 1024, k0_pay4 (F := Ideal) v0 v2 (ix2 r k) * v (ix3 0 k j) := by
  pointwise [k0_pay6]

theorem pay7_at (v0 : Vec Ideal S512x1024 .f32) (v2 : Vec Ideal S1x1x1024 .f32) (v : Vec Ideal S1x1024x512 .bf16) (r : Fin 512) (j : Fin 512) :
    k0_pay7 (F := Ideal) v0 v2 v (ix2 r j) = ∑ k : Fin 1024, k0_pay4 (F := Ideal) v0 v2 (ix2 r k) * v (ix3 0 k j) := by
  pointwise [k0_pay7]

theorem pay8_at (x : FVec Ideal S512x1024 .bf16) (v : Vec Ideal S1x1024x256 .bf16) (r : Fin 512) (j : Fin 256) :
    k0_pay8 (F := Ideal) x v (ix2 r j) = ∑ k : Fin 1024, x (ix2 r k) * v (ix3 0 k j) := by
  pointwise [k0_pay8]

theorem pay9_at (x : FVec Ideal S512x1024 .bf16) (v : Vec Ideal S1x1024x256 .bf16) (r : Fin 512) (j : Fin 256) :
    k0_pay9 (F := Ideal) x v (ix2 r j) = ∑ k : Fin 1024, x (ix2 r k) * v (ix3 0 k j) := by
  pointwise [k0_pay9]

theorem pay11_at (x : FVec Ideal S512x1024 .bf16) (v : Vec Ideal S1x1024x256 .bf16) (r : Fin 512) (j : Fin 256) :
    k0_pay11 (F := Ideal) x v (ix2 r j) = ∑ k : Fin 1024, x (ix2 r k) * v (ix3 0 k j) := by
  pointwise [k0_pay11]

theorem pay12_at (x : FVec Ideal S512x1024 .bf16) (v : Vec Ideal S1x1024x128 .bf16) (r : Fin 512) (j : Fin 128) :
    k0_pay12 (F := Ideal) x v (ix2 r j) = ∑ k : Fin 1024, x (ix2 r k) * v (ix3 0 k j) := by
  pointwise [k0_pay12]

theorem pay1_at (x : FVec Ideal S512x1024 .bf16) (v : Vec Ideal S1x1024x128 .bf16) (r : Fin 512) (j : Fin 128) :
    k0_pay1 (F := Ideal) x v (ix2 r j) = ∑ k : Fin 1024, x (ix2 r k) * v (ix3 0 k j) := by
  pointwise [k0_pay1]

theorem pay2_at (x : FVec Ideal S512x1024 .bf16) (v : Vec Ideal S1x1024x512 .bf16) (r : Fin 512) (j : Fin 512) :
    k0_pay2 (F := Ideal) x v (ix2 r j) = ∑ k : Fin 1024, x (ix2 r k) * v (ix3 0 k j) := by
  pointwise [k0_pay2]

theorem pay3_at (x : FVec Ideal S512x1024 .bf16) (v : Vec Ideal S1x1024x3072 .bf16) (r : Fin 512) (j : Fin 3072) :
    k0_pay3 (F := Ideal) x v (ix2 r j) = ∑ k : Fin 1024, x (ix2 r k) * v (ix3 0 k j) := by
  pointwise [k0_pay3]

theorem pay10_at (v : Vec Ideal S512x256 .f32) (r : Fin 512) (j : Fin 256) : k0_pay10 (F := Ideal) v (ix3 0 j r) = v (ix2 r j) := by
  pointwise [k0_pay10]

section Out
variable (m : (ℓ : Loc nD τ sig) → Buf (Elt Ideal) ℓ) (c : Dev nD) (t : Fin cfg0.N) (r : Fin 512)

/-- The entry of a tile's row with column `q` of the packed weights. -/
def tileEntry (q : Fin 7680) : EReal :=
  entry (fun k => iblk m c 0 t (ix2 r k)) (fun k => iblk m c 1 t (ix3 0 0 k)) (fun k => iblk m c 2 t (ix3 0 k q))

theorem w2 : ∀ a : Fin 2, (![0, 0] : Fin 2 → ℕ) a = 0 := by decide
theorem w3 : ∀ a : Fin 3, (![0, 0, 0] : Fin 3 → ℕ) a = 0 := by decide

/-- The normalised tile the products share. -/
theorem norm_eq : kernelRun0_A.sl.r c (ms0_0 t) (hs0_0 t) (ms0_1 t) (hs0_1 t) (iblk m c 0 t) (iblk m c 1 t) = k0_pay4 (iblk m c 0 t) (iblk m c 1 t) := by
  unfold kernelRun0_A.sl.r
  rw [load_whole (hs0_0 t) _ ![0, 0] w2, load_whole (hs0_1 t) _ ![0, 0, 0] w3]

/-- What the body leaves of the gate columns. -/
theorem out_z (j : Fin 1024) : (outsAt0 m c t).1 (ix2 r j) = tileEntry m c t r ⟨0 + j.val, by omega⟩ := by
  unfold outsAt0 out0_A_3 kernelRun0_A
  dsimp only
  rw [View.read_writes_junk_eq_canon, View.canon_unit_zero (by decide), load_whole (hs0_0 t) _ ![0, 0] w2, load_whole (hs0_1 t) _ ![0, 0, 0] w3, pay5_at]
  simp only [pay4_at]
  exact Finset.sum_congr rfl fun k _ => congrArg _ (load_cols (hs0_2 t) _ _ k j _ rfl)

/-- What the body leaves of the state-space columns. -/
theorem out_xbc (j : Fin 1536) : (outsAt0 m c t).2.1 (ix2 r j) = tileEntry m c t r ⟨1024 + j.val, by omega⟩ := by
  unfold outsAt0 out0_A_4 kernelRun0_A
  dsimp only
  rw [View.read_writes_junk_eq_canon, View.canon_unit_zero (by decide), load_whole (hs0_0 t) _ ![0, 0] w2, load_whole (hs0_1 t) _ ![0, 0, 0] w3, pay6_at]
  simp only [pay4_at]
  exact Finset.sum_congr rfl fun k _ => congrArg _ (load_cols (hs0_2 t) _ _ k j _ rfl)

/-- What the body leaves of the query columns. -/
theorem out_q (j : Fin 512) : (outsAt0 m c t).2.2.1 (ix2 r j) = tileEntry m c t r ⟨2560 + j.val, by omega⟩ := by
  unfold outsAt0 out0_A_5 kernelRun0_A
  dsimp only
  rw [View.read_writes_junk_eq_canon, View.canon_unit_zero (by decide), load_whole (hs0_0 t) _ ![0, 0] w2, load_whole (hs0_1 t) _ ![0, 0, 0] w3, pay7_at]
  simp only [pay4_at]
  exact Finset.sum_congr rfl fun k _ => congrArg _ (load_cols (hs0_2 t) _ _ k j _ rfl)

/-- What the body leaves of the key columns, each head twice. -/
theorem out_k (j : Fin 256) : (outsAt0 m c t).2.2.2.1 (ix2 r j) = tileEntry m c t r ⟨3072 + j.val, by omega⟩ := by
  unfold outsAt0 out0_A_6 kernelRun0_A
  dsimp only
  rw [View.read_writes_junk_eq_canon, View.canon_unit_zero (by decide), norm_eq, pay8_at]
  simp only [pay4_at]
  exact Finset.sum_congr rfl fun k _ => congrArg _ (load_cols (hs0_2 t) _ _ k j _ rfl)

/-- What the body leaves of the value columns, each head followed by zeros, a tile at a time and transposed. -/
theorem out_v (j : Fin 256) : (outsAt0 m c t).2.2.2.2.1 (ix3 0 j r) = tileEntry m c t r ⟨3328 + j.val, by omega⟩ := by
  unfold outsAt0 out0_A_7 kernelRun0_A
  dsimp only
  rw [View.read_writes_junk_eq_canon, View.canon_unit_zero (by decide), pay10_at]
  unfold kernelRun0_A.sl.v41 kernelRun0_A.sl.HS0_1
  rw [View.readCov_eq_canon', ← View.read_writes_junk_eq_canon scM0_0.view]
  refine (View.read_writes_cons_unit_of_mem scM0_0.view _ inb_S512x256_S512x256_0_0 _ [] _ (ix2 r j) rfl ?_).trans ?_
  · intro a
    match a with
    | ⟨0, _⟩ => show 0 + 1 * r.val = 0 + r.val; omega
    | ⟨1, _⟩ => show 0 + 1 * j.val = 0 + j.val; omega
  rw [norm_eq, pay9_at]
  simp only [pay4_at]
  exact Finset.sum_congr rfl fun k _ => congrArg _ (load_cols (hs0_2 t) _ _ k j _ rfl)

/-- What the body leaves of the index query columns. -/
theorem out_qi (j : Fin 256) : (outsAt0 m c t).2.2.2.2.2.1 (ix2 r j) = tileEntry m c t r ⟨3584 + j.val, by omega⟩ := by
  unfold outsAt0 out0_A_8 kernelRun0_A
  dsimp only
  rw [View.read_writes_junk_eq_canon, View.canon_unit_zero (by decide), norm_eq, pay11_at]
  simp only [pay4_at]
  exact Finset.sum_congr rfl fun k _ => congrArg _ (load_cols (hs0_2 t) _ _ k j _ rfl)

/-- What the body leaves of the index key columns, twice. -/
theorem out_ki (j : Fin 128) : (outsAt0 m c t).2.2.2.2.2.2.1 (ix2 r j) = tileEntry m c t r ⟨3840 + j.val, by omega⟩ := by
  unfold outsAt0 out0_A_9 kernelRun0_A
  dsimp only
  rw [View.read_writes_junk_eq_canon, View.canon_unit_zero (by decide)]
  unfold kernelRun0_A.sl.r_1
  rw [norm_eq, pay12_at]
  simp only [pay4_at]
  exact Finset.sum_congr rfl fun k _ => congrArg _ (load_cols (hs0_2 t) _ _ k j _ rfl)

/-- What the body leaves of the step and index weight columns, and zeros. -/
theorem out_misc (j : Fin 128) : (outsAt0 m c t).2.2.2.2.2.2.2.1 (ix2 r j) = tileEntry m c t r ⟨3968 + j.val, by omega⟩ := by
  unfold outsAt0 out0_A_10 kernelRun0_A
  dsimp only
  rw [View.read_writes_junk_eq_canon, View.canon_unit_zero (by decide), norm_eq, pay1_at]
  simp only [pay4_at]
  exact Finset.sum_congr rfl fun k _ => congrArg _ (load_cols (hs0_2 t) _ _ k j _ rfl)

/-- What the body leaves of the pooled columns. -/
theorem out_u (j : Fin 512) : (outsAt0 m c t).2.2.2.2.2.2.2.2.1 (ix2 r j) = tileEntry m c t r ⟨4096 + j.val, by omega⟩ := by
  unfold outsAt0 out0_A_11 kernelRun0_A
  dsimp only
  rw [View.read_writes_junk_eq_canon, View.canon_unit_zero (by decide), norm_eq, pay2_at]
  simp only [pay4_at]
  exact Finset.sum_congr rfl fun k _ => congrArg _ (load_cols (hs0_2 t) _ _ k j _ rfl)

/-- What the body leaves of the merge gate columns. -/
theorem out_gates (j : Fin 3072) : (outsAt0 m c t).2.2.2.2.2.2.2.2.2 (ix2 r j) = tileEntry m c t r ⟨4608 + j.val, by omega⟩ := by
  unfold outsAt0 out0_A_12 kernelRun0_A
  dsimp only
  rw [View.read_writes_junk_eq_canon, View.canon_unit_zero (by decide), norm_eq, pay3_at]
  simp only [pay4_at]
  exact Finset.sum_congr rfl fun k _ => congrArg _ (load_cols (hs0_2 t) _ _ k j _ rfl)

end Out

/-- The pieces of the weights' first packed columns. -/
abbrev piecesA (w : FVec Ideal S4x1024x7252 .f32) : List ((s : Shape) × (s.Idx → Ideal .f32)) :=
  [⟨S4x1024x1024, ((extractStridedSlice S4x1024x1024 ![0, 0, 0] w slices_S4x1024x7252_S4x1024x1024_0_0_0) : FVec Ideal S4x1024x1024 .f32)⟩,
    ⟨S4x1024x1536, ((extractStridedSlice S4x1024x1536 ![0, 0, 1024] w slices_S4x1024x7252_S4x1024x1536_0_0_1024) : FVec Ideal S4x1024x1536 .f32)⟩,
    ⟨S4x1024x512, ((mulf (extractStridedSlice S4x1024x512 ![0, 0, 2576] w slices_S4x1024x7252_S4x1024x512_0_0_2576) (broadcastInDim S4x1024x512 ![] bcast_S_S4x1024x512 (constant S_ .f32 0x3E38AA3B#32))) : FVec Ideal S4x1024x512 .f32)⟩,
    ⟨S4x1024x64, ((extractStridedSlice S4x1024x64 ![0, 0, 0] (extractStridedSlice S4x1024x128 ![0, 0, 3088] w slices_S4x1024x7252_S4x1024x128_0_0_3088) slices_S4x1024x128_S4x1024x64_0_0_0) : FVec Ideal S4x1024x64 .f32)⟩,
    ⟨S4x1024x64, ((extractStridedSlice S4x1024x64 ![0, 0, 0] (extractStridedSlice S4x1024x128 ![0, 0, 3088] w slices_S4x1024x7252_S4x1024x128_0_0_3088) slices_S4x1024x128_S4x1024x64_0_0_0) : FVec Ideal S4x1024x64 .f32)⟩,
    ⟨S4x1024x64, ((extractStridedSlice S4x1024x64 ![0, 0, 64] (extractStridedSlice S4x1024x128 ![0, 0, 3088] w slices_S4x1024x7252_S4x1024x128_0_0_3088) slices_S4x1024x128_S4x1024x64_0_0_64) : FVec Ideal S4x1024x64 .f32)⟩,
    ⟨S4x1024x64, ((extractStridedSlice S4x1024x64 ![0, 0, 64] (extractStridedSlice S4x1024x128 ![0, 0, 3088] w slices_S4x1024x7252_S4x1024x128_0_0_3088) slices_S4x1024x128_S4x1024x64_0_0_64) : FVec Ideal S4x1024x64 .f32)⟩,
    ⟨S4x1024x64, ((extractStridedSlice S4x1024x64 ![0, 0, 0] (extractStridedSlice S4x1024x128 ![0, 0, 3216] w slices_S4x1024x7252_S4x1024x128_0_0_3216) slices_S4x1024x128_S4x1024x64_0_0_0) : FVec Ideal S4x1024x64 .f32)⟩,
    ⟨S4x1024x64, ((broadcastInDim S4x1024x64 ![] bcast_S_S4x1024x64 (constant S_ .f32 0x00000000#32)) : FVec Ideal S4x1024x64 .f32)⟩,
    ⟨S4x1024x64, ((extractStridedSlice S4x1024x64 ![0, 0, 64] (extractStridedSlice S4x1024x128 ![0, 0, 3216] w slices_S4x1024x7252_S4x1024x128_0_0_3216) slices_S4x1024x128_S4x1024x64_0_0_64) : FVec Ideal S4x1024x64 .f32)⟩,
    ⟨S4x1024x64, ((broadcastInDim S4x1024x64 ![] bcast_S_S4x1024x64 (constant S_ .f32 0x00000000#32)) : FVec Ideal S4x1024x64 .f32)⟩,
    ⟨S4x1024x256, ((extractStridedSlice S4x1024x256 ![0, 0, 3344] w slices_S4x1024x7252_S4x1024x256_0_0_3344) : FVec Ideal S4x1024x256 .f32)⟩,
    ⟨S4x1024x64, ((extractStridedSlice S4x1024x64 ![0, 0, 3600] w slices_S4x1024x7252_S4x1024x64_0_0_3600) : FVec Ideal S4x1024x64 .f32)⟩,
    ⟨S4x1024x64, ((extractStridedSlice S4x1024x64 ![0, 0, 3600] w slices_S4x1024x7252_S4x1024x64_0_0_3600) : FVec Ideal S4x1024x64 .f32)⟩,
    ⟨S4x1024x16, ((extractStridedSlice S4x1024x16 ![0, 0, 2560] w slices_S4x1024x7252_S4x1024x16_0_0_2560) : FVec Ideal S4x1024x16 .f32)⟩,
    ⟨S4x1024x4, ((extractStridedSlice S4x1024x4 ![0, 0, 3664] w slices_S4x1024x7252_S4x1024x4_0_0_3664) : FVec Ideal S4x1024x4 .f32)⟩]

/-- The pieces of the weights' last packed columns. -/
abbrev piecesB (w : FVec Ideal S4x1024x7252 .f32) : List ((s : Shape) × (s.Idx → Ideal .f32)) :=
  [⟨S4x1024x108, ((broadcastInDim S4x1024x108 ![] bcast_S_S4x1024x108 (constant S_ .f32 0x00000000#32)) : FVec Ideal S4x1024x108 .f32)⟩,
    ⟨S4x1024x512, ((extractStridedSlice S4x1024x512 ![0, 0, 3668] w slices_S4x1024x7252_S4x1024x512_0_0_3668) : FVec Ideal S4x1024x512 .f32)⟩,
    ⟨S4x1024x3072, ((extractStridedSlice S4x1024x3072 ![0, 0, 4180] w slices_S4x1024x7252_S4x1024x3072_0_0_4180) : FVec Ideal S4x1024x3072 .f32)⟩]

/-- The weights' first columns in the order the host code packs them. -/
def packedA (w : FVec Ideal S4x1024x7252 .f32) : FVec Ideal S4x1024x3988 .f32 :=
  concatenate S4x1024x3988 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2

/-- The weights' last columns in the order the host code packs them. -/
def packedB (w : FVec Ideal S4x1024x7252 .f32) : FVec Ideal S4x1024x3692 .f32 :=
  concatenate S4x1024x3692 2 (piecesB w) concatenates_S4x1024x108_S4x1024x512_S4x1024x3072_S4x1024x3692_d2

/-- The packed weights. -/
def packed (w : FVec Ideal S4x1024x7252 .f32) : FVec Ideal S4x1024x7680 .f32 :=
  concatenate S4x1024x7680 2 [⟨S4x1024x3988, packedA w⟩, ⟨S4x1024x3692, packedB w⟩] concatenates_S4x1024x3988_S4x1024x3692_S4x1024x7680_d2

/-- The weights the kernel reads are the packed weights. -/
theorem V_v27 (m : (ℓ : Loc nD τ sig) → Buf (Elt Ideal) ℓ) (c : Dev nD) :
    V m c main_v27 = packed (m ((c.tc : Thread nD τ).loc main_arg2)) := by
  show StableHlo.after hostOps0 _ _ = _
  after_results_simp
  rfl

/-- The norm weights the kernel reads are the argument with a unit axis. -/
theorem V_v28 (m : (ℓ : Loc nD τ sig) → Buf (Elt Ideal) ℓ) (c : Dev nD) :
    V m c main_v28 = shapeCast S4x1x1024 (m ((c.tc : Thread nD τ).loc main_arg1)) shapeCasts_S4x1024_S4x1x1024 := by
  show StableHlo.after hostOps0 _ _ = _
  after_results_simp
  rfl

/-- The hidden state the kernel reads is the argument with its first two axes folded. -/
theorem V_v29 (m : (ℓ : Loc nD τ sig) → Buf (Elt Ideal) ℓ) (c : Dev nD) :
    V m c main_v29 = shapeCast S32768x1024 (m ((c.tc : Thread nD τ).loc main_arg0)) shapeCasts_S8x4096x1024_S32768x1024 := by
  show StableHlo.after hostOps0 _ _ = _
  after_results_simp
  rfl

theorem packed_left (w : FVec Ideal S4x1024x7252 .f32) (l : Fin 4) (k : Fin 1024) (q : Fin 7680) (h : q.val < 3988) :
    packed w (ix3 l k q) = packedA w (ix3 l k ⟨q.val, h⟩) := by
  pointwise [packed]
  rw [dif_pos h]

theorem packed_right (w : FVec Ideal S4x1024x7252 .f32) (l : Fin 4) (k : Fin 1024) (q : Fin 7680) (h : 3988 ≤ q.val) :
    packed w (ix3 l k q) = packedB w (ix3 l k ⟨q.val - 3988, by omega⟩) := by
  pointwise [packed]
  rw [dif_neg (by omega)]

/-! Each packed column is a column of the weights, scaled where it is a query column, or a column of zeros. -/

theorem packed_z (w : FVec Ideal S4x1024x7252 .f32) (l : Fin 4) (k : Fin 1024) (j : Fin 1024) (q : Fin 7680) (hq : q.val = 0 + j.val) :
    packed w (ix3 l k q) = w (ix3 l k ⟨0 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 0 (by decide : 0 < 16)
    S4x1024x1024 (extractStridedSlice S4x1024x1024 ![0, 0, 0] w slices_S4x1024x7252_S4x1024x1024_0_0_0) rfl rfl 0 rfl (ix3 l k j) (fun b hb => ?_) ?_).trans ?_
  · match b with
    | ⟨0, _⟩ => rfl
    | ⟨1, _⟩ => rfl
    | ⟨2, _⟩ => exact absurd rfl hb
  · show 0 + j.val = q.val; omega
  pointwise

theorem packed_xbc (w : FVec Ideal S4x1024x7252 .f32) (l : Fin 4) (k : Fin 1024) (j : Fin 1536) (q : Fin 7680) (hq : q.val = 1024 + j.val) :
    packed w (ix3 l k q) = w (ix3 l k ⟨1024 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 1 (by decide : 1 < 16)
    S4x1024x1536 (extractStridedSlice S4x1024x1536 ![0, 0, 1024] w slices_S4x1024x7252_S4x1024x1536_0_0_1024) rfl rfl 1024 rfl (ix3 l k j) (fun b hb => ?_) ?_).trans ?_
  · match b with
    | ⟨0, _⟩ => rfl
    | ⟨1, _⟩ => rfl
    | ⟨2, _⟩ => exact absurd rfl hb
  · show 1024 + j.val = q.val; omega
  pointwise

theorem packed_q (w : FVec Ideal S4x1024x7252 .f32) (l : Fin 4) (k : Fin 1024) (j : Fin 512) (q : Fin 7680) (hq : q.val = 2560 + j.val) :
    packed w (ix3 l k q) = w (ix3 l k ⟨2576 + j.val, by omega⟩) * scale := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 2 (by decide : 2 < 16)
    S4x1024x512 (mulf (extractStridedSlice S4x1024x512 ![0, 0, 2576] w slices_S4x1024x7252_S4x1024x512_0_0_2576) (broadcastInDim S4x1024x512 ![] bcast_S_S4x1024x512 (constant S_ .f32 0x3E38AA3B#32))) rfl rfl 2560 rfl (ix3 l k j) (fun b hb => ?_) ?_).trans ?_
  · match b with
    | ⟨0, _⟩ => rfl
    | ⟨1, _⟩ => rfl
    | ⟨2, _⟩ => exact absurd rfl hb
  · show 2560 + j.val = q.val; omega
  pointwise
  rfl

theorem packed_k0 (w : FVec Ideal S4x1024x7252 .f32) (l : Fin 4) (k : Fin 1024) (j : Fin 64) (q : Fin 7680) (hq : q.val = 3072 + j.val) :
    packed w (ix3 l k q) = w (ix3 l k ⟨3088 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 3 (by decide : 3 < 16)
    S4x1024x64 (extractStridedSlice S4x1024x64 ![0, 0, 0] (extractStridedSlice S4x1024x128 ![0, 0, 3088] w slices_S4x1024x7252_S4x1024x128_0_0_3088) slices_S4x1024x128_S4x1024x64_0_0_0) rfl rfl 3072 rfl (ix3 l k j) (fun b hb => ?_) ?_).trans ?_
  · match b with
    | ⟨0, _⟩ => rfl
    | ⟨1, _⟩ => rfl
    | ⟨2, _⟩ => exact absurd rfl hb
  · show 3072 + j.val = q.val; omega
  pointwise

theorem packed_k1 (w : FVec Ideal S4x1024x7252 .f32) (l : Fin 4) (k : Fin 1024) (j : Fin 64) (q : Fin 7680) (hq : q.val = 3136 + j.val) :
    packed w (ix3 l k q) = w (ix3 l k ⟨3088 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 4 (by decide : 4 < 16)
    S4x1024x64 (extractStridedSlice S4x1024x64 ![0, 0, 0] (extractStridedSlice S4x1024x128 ![0, 0, 3088] w slices_S4x1024x7252_S4x1024x128_0_0_3088) slices_S4x1024x128_S4x1024x64_0_0_0) rfl rfl 3136 rfl (ix3 l k j) (fun b hb => ?_) ?_).trans ?_
  · match b with
    | ⟨0, _⟩ => rfl
    | ⟨1, _⟩ => rfl
    | ⟨2, _⟩ => exact absurd rfl hb
  · show 3136 + j.val = q.val; omega
  pointwise

theorem packed_k2 (w : FVec Ideal S4x1024x7252 .f32) (l : Fin 4) (k : Fin 1024) (j : Fin 64) (q : Fin 7680) (hq : q.val = 3200 + j.val) :
    packed w (ix3 l k q) = w (ix3 l k ⟨3152 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 5 (by decide : 5 < 16)
    S4x1024x64 (extractStridedSlice S4x1024x64 ![0, 0, 64] (extractStridedSlice S4x1024x128 ![0, 0, 3088] w slices_S4x1024x7252_S4x1024x128_0_0_3088) slices_S4x1024x128_S4x1024x64_0_0_64) rfl rfl 3200 rfl (ix3 l k j) (fun b hb => ?_) ?_).trans ?_
  · match b with
    | ⟨0, _⟩ => rfl
    | ⟨1, _⟩ => rfl
    | ⟨2, _⟩ => exact absurd rfl hb
  · show 3200 + j.val = q.val; omega
  pointwise
  refine congrArg w (congrArg (ix3 l k) (Fin.ext ?_))
  simp only []
  omega

theorem packed_k3 (w : FVec Ideal S4x1024x7252 .f32) (l : Fin 4) (k : Fin 1024) (j : Fin 64) (q : Fin 7680) (hq : q.val = 3264 + j.val) :
    packed w (ix3 l k q) = w (ix3 l k ⟨3152 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 6 (by decide : 6 < 16)
    S4x1024x64 (extractStridedSlice S4x1024x64 ![0, 0, 64] (extractStridedSlice S4x1024x128 ![0, 0, 3088] w slices_S4x1024x7252_S4x1024x128_0_0_3088) slices_S4x1024x128_S4x1024x64_0_0_64) rfl rfl 3264 rfl (ix3 l k j) (fun b hb => ?_) ?_).trans ?_
  · match b with
    | ⟨0, _⟩ => rfl
    | ⟨1, _⟩ => rfl
    | ⟨2, _⟩ => exact absurd rfl hb
  · show 3264 + j.val = q.val; omega
  pointwise
  refine congrArg w (congrArg (ix3 l k) (Fin.ext ?_))
  simp only []
  omega

theorem packed_v0 (w : FVec Ideal S4x1024x7252 .f32) (l : Fin 4) (k : Fin 1024) (j : Fin 64) (q : Fin 7680) (hq : q.val = 3328 + j.val) :
    packed w (ix3 l k q) = w (ix3 l k ⟨3216 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 7 (by decide : 7 < 16)
    S4x1024x64 (extractStridedSlice S4x1024x64 ![0, 0, 0] (extractStridedSlice S4x1024x128 ![0, 0, 3216] w slices_S4x1024x7252_S4x1024x128_0_0_3216) slices_S4x1024x128_S4x1024x64_0_0_0) rfl rfl 3328 rfl (ix3 l k j) (fun b hb => ?_) ?_).trans ?_
  · match b with
    | ⟨0, _⟩ => rfl
    | ⟨1, _⟩ => rfl
    | ⟨2, _⟩ => exact absurd rfl hb
  · show 3328 + j.val = q.val; omega
  pointwise

theorem packed_v1 (w : FVec Ideal S4x1024x7252 .f32) (l : Fin 4) (k : Fin 1024) (j : Fin 64) (q : Fin 7680) (hq : q.val = 3392 + j.val) :
    packed w (ix3 l k q) = 0 := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 8 (by decide : 8 < 16)
    S4x1024x64 (broadcastInDim S4x1024x64 ![] bcast_S_S4x1024x64 (constant S_ .f32 0x00000000#32)) rfl rfl 3392 rfl (ix3 l k j) (fun b hb => ?_) ?_).trans ?_
  · match b with
    | ⟨0, _⟩ => rfl
    | ⟨1, _⟩ => rfl
    | ⟨2, _⟩ => exact absurd rfl hb
  · show 3392 + j.val = q.val; omega
  pointwise

theorem packed_v2 (w : FVec Ideal S4x1024x7252 .f32) (l : Fin 4) (k : Fin 1024) (j : Fin 64) (q : Fin 7680) (hq : q.val = 3456 + j.val) :
    packed w (ix3 l k q) = w (ix3 l k ⟨3280 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 9 (by decide : 9 < 16)
    S4x1024x64 (extractStridedSlice S4x1024x64 ![0, 0, 64] (extractStridedSlice S4x1024x128 ![0, 0, 3216] w slices_S4x1024x7252_S4x1024x128_0_0_3216) slices_S4x1024x128_S4x1024x64_0_0_64) rfl rfl 3456 rfl (ix3 l k j) (fun b hb => ?_) ?_).trans ?_
  · match b with
    | ⟨0, _⟩ => rfl
    | ⟨1, _⟩ => rfl
    | ⟨2, _⟩ => exact absurd rfl hb
  · show 3456 + j.val = q.val; omega
  pointwise
  refine congrArg w (congrArg (ix3 l k) (Fin.ext ?_))
  simp only []
  omega

theorem packed_v3 (w : FVec Ideal S4x1024x7252 .f32) (l : Fin 4) (k : Fin 1024) (j : Fin 64) (q : Fin 7680) (hq : q.val = 3520 + j.val) :
    packed w (ix3 l k q) = 0 := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 10 (by decide : 10 < 16)
    S4x1024x64 (broadcastInDim S4x1024x64 ![] bcast_S_S4x1024x64 (constant S_ .f32 0x00000000#32)) rfl rfl 3520 rfl (ix3 l k j) (fun b hb => ?_) ?_).trans ?_
  · match b with
    | ⟨0, _⟩ => rfl
    | ⟨1, _⟩ => rfl
    | ⟨2, _⟩ => exact absurd rfl hb
  · show 3520 + j.val = q.val; omega
  pointwise

set_option maxHeartbeats 2000000 in
theorem packed_qi (w : FVec Ideal S4x1024x7252 .f32) (l : Fin 4) (k : Fin 1024) (j : Fin 256) (q : Fin 7680) (hq : q.val = 3584 + j.val) :
    packed w (ix3 l k q) = w (ix3 l k ⟨3344 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 11 (by decide : 11 < 16)
    S4x1024x256 (extractStridedSlice S4x1024x256 ![0, 0, 3344] w slices_S4x1024x7252_S4x1024x256_0_0_3344) rfl rfl 3584 rfl (ix3 l k j) (fun b hb => ?_) ?_).trans ?_
  · match b with
    | ⟨0, _⟩ => rfl
    | ⟨1, _⟩ => rfl
    | ⟨2, _⟩ => exact absurd rfl hb
  · show 3584 + j.val = q.val; omega
  pointwise

set_option maxHeartbeats 2000000 in
theorem packed_ki0 (w : FVec Ideal S4x1024x7252 .f32) (l : Fin 4) (k : Fin 1024) (j : Fin 64) (q : Fin 7680) (hq : q.val = 3840 + j.val) :
    packed w (ix3 l k q) = w (ix3 l k ⟨3600 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 12 (by decide : 12 < 16)
    S4x1024x64 (extractStridedSlice S4x1024x64 ![0, 0, 3600] w slices_S4x1024x7252_S4x1024x64_0_0_3600) rfl rfl 3840 rfl (ix3 l k j) (fun b hb => ?_) ?_).trans ?_
  · match b with
    | ⟨0, _⟩ => rfl
    | ⟨1, _⟩ => rfl
    | ⟨2, _⟩ => exact absurd rfl hb
  · show 3840 + j.val = q.val; omega
  pointwise

set_option maxHeartbeats 2000000 in
theorem packed_ki1 (w : FVec Ideal S4x1024x7252 .f32) (l : Fin 4) (k : Fin 1024) (j : Fin 64) (q : Fin 7680) (hq : q.val = 3904 + j.val) :
    packed w (ix3 l k q) = w (ix3 l k ⟨3600 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 13 (by decide : 13 < 16)
    S4x1024x64 (extractStridedSlice S4x1024x64 ![0, 0, 3600] w slices_S4x1024x7252_S4x1024x64_0_0_3600) rfl rfl 3904 rfl (ix3 l k j) (fun b hb => ?_) ?_).trans ?_
  · match b with
    | ⟨0, _⟩ => rfl
    | ⟨1, _⟩ => rfl
    | ⟨2, _⟩ => exact absurd rfl hb
  · show 3904 + j.val = q.val; omega
  pointwise

set_option maxHeartbeats 2000000 in
theorem packed_dt (w : FVec Ideal S4x1024x7252 .f32) (l : Fin 4) (k : Fin 1024) (j : Fin 16) (q : Fin 7680) (hq : q.val = 3968 + j.val) :
    packed w (ix3 l k q) = w (ix3 l k ⟨2560 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 14 (by decide : 14 < 16)
    S4x1024x16 (extractStridedSlice S4x1024x16 ![0, 0, 2560] w slices_S4x1024x7252_S4x1024x16_0_0_2560) rfl rfl 3968 rfl (ix3 l k j) (fun b hb => ?_) ?_).trans ?_
  · match b with
    | ⟨0, _⟩ => rfl
    | ⟨1, _⟩ => rfl
    | ⟨2, _⟩ => exact absurd rfl hb
  · show 3968 + j.val = q.val; omega
  pointwise

set_option maxHeartbeats 2000000 in
theorem packed_wi (w : FVec Ideal S4x1024x7252 .f32) (l : Fin 4) (k : Fin 1024) (j : Fin 4) (q : Fin 7680) (hq : q.val = 3984 + j.val) :
    packed w (ix3 l k q) = w (ix3 l k ⟨3664 + j.val, by omega⟩) := by
  have hj := j.isLt
  rw [packed_left w l k q (by omega)]
  refine (concatenate_apply_piece (t := S4x1024x3988) 2 (piecesA w) concatenates_S4x1024x1024_S4x1024x1536_S4x1024x512_S4x1024x64_S4x1024x64_S4x1024x64_S4x1024x64_S4x1024x64_S4x1024x64_S4x1024x64_S4x1024x64_S4x1024x256_S4x1024x64_S4x1024x64_S4x1024x16_S4x1024x4_S4x1024x3988_d2 (ix3 l k ⟨q.val, by omega⟩) 15 (by decide : 15 < 16)
    S4x1024x4 (extractStridedSlice S4x1024x4 ![0, 0, 3664] w slices_S4x1024x7252_S4x1024x4_0_0_3664) rfl rfl 3984 rfl (ix3 l k j) (fun b hb => ?_) ?_).trans ?_
  · match b with
    | ⟨0, _⟩ => rfl
    | ⟨1, _⟩ => rfl
    | ⟨2, _⟩ => exact absurd rfl hb
  · show 3984 + j.val = q.val; omega
  pointwise

theorem packed_pad (w : FVec Ideal S4x1024x7252 .f32) (l : Fin 4) (k : Fin 1024) (j : Fin 108) (q : Fin 7680) (hq : q.val = 3988 + j.val) :
    packed w (ix3 l k q) = 0 := by
  have hj := j.isLt
  rw [packed_right w l k q (by omega)]
  refine (concatenate_apply_piece (t := S4x1024x3692) 2 (piecesB w) concatenates_S4x1024x108_S4x1024x512_S4x1024x3072_S4x1024x3692_d2 (ix3 l k ⟨q.val - 3988, by omega⟩) 0 (by decide : 0 < 3)
    S4x1024x108 (broadcastInDim S4x1024x108 ![] bcast_S_S4x1024x108 (constant S_ .f32 0x00000000#32)) rfl rfl 0 rfl (ix3 l k j) (fun b hb => ?_) ?_).trans ?_
  · match b with
    | ⟨0, _⟩ => rfl
    | ⟨1, _⟩ => rfl
    | ⟨2, _⟩ => exact absurd rfl hb
  · show 0 + j.val = q.val - 3988; omega
  pointwise

theorem packed_u (w : FVec Ideal S4x1024x7252 .f32) (l : Fin 4) (k : Fin 1024) (j : Fin 512) (q : Fin 7680) (hq : q.val = 4096 + j.val) :
    packed w (ix3 l k q) = w (ix3 l k ⟨3668 + j.val, by omega⟩) := by
  have hj := j.isLt
  rw [packed_right w l k q (by omega)]
  refine (concatenate_apply_piece (t := S4x1024x3692) 2 (piecesB w) concatenates_S4x1024x108_S4x1024x512_S4x1024x3072_S4x1024x3692_d2 (ix3 l k ⟨q.val - 3988, by omega⟩) 1 (by decide : 1 < 3)
    S4x1024x512 (extractStridedSlice S4x1024x512 ![0, 0, 3668] w slices_S4x1024x7252_S4x1024x512_0_0_3668) rfl rfl 108 rfl (ix3 l k j) (fun b hb => ?_) ?_).trans ?_
  · match b with
    | ⟨0, _⟩ => rfl
    | ⟨1, _⟩ => rfl
    | ⟨2, _⟩ => exact absurd rfl hb
  · show 108 + j.val = q.val - 3988; omega
  pointwise

theorem packed_gates (w : FVec Ideal S4x1024x7252 .f32) (l : Fin 4) (k : Fin 1024) (j : Fin 3072) (q : Fin 7680) (hq : q.val = 4608 + j.val) :
    packed w (ix3 l k q) = w (ix3 l k ⟨4180 + j.val, by omega⟩) := by
  have hj := j.isLt
  rw [packed_right w l k q (by omega)]
  refine (concatenate_apply_piece (t := S4x1024x3692) 2 (piecesB w) concatenates_S4x1024x108_S4x1024x512_S4x1024x3072_S4x1024x3692_d2 (ix3 l k ⟨q.val - 3988, by omega⟩) 2 (by decide : 2 < 3)
    S4x1024x3072 (extractStridedSlice S4x1024x3072 ![0, 0, 4180] w slices_S4x1024x7252_S4x1024x3072_0_0_4180) rfl rfl 620 rfl (ix3 l k j) (fun b hb => ?_) ?_).trans ?_
  · match b with
    | ⟨0, _⟩ => rfl
    | ⟨1, _⟩ => rfl
    | ⟨2, _⟩ => exact absurd rfl hb
  · show 620 + j.val = q.val - 3988; omega
  pointwise

end Kernel
end Cert.Proof.Inproj

end
-- ==== Proof.Inproj.lean ====
/-
  The input projection call at the extended reals: each of the kernel's ten result arrays and the reference's are one function
  of the arguments, and its entries are products of a normalised row with one column of the weights (`entry`).
-/
module

public import proofs.«01_k».proof.Proof.InprojTile
public import proofs.«01_k».proof.Proof.Gen.Inproj.Frame
public import proofs.«01_k».proof.Proof.Gen.InprojReferenceIdeal.Run
public import proofs.«01_k».proof.Defs

@[expose] public section

noncomputable section

namespace Cert.Proof.Inproj

open Idealize.ShloMosaic Idealize.SL.Sem
open Cert.Proof.Ffn (normRow)
open scoped BigOperators

section Kernel
open Cert.InprojIdeal Cert.InprojIdeal.Gen

/-- The product of row `i` of the folded hidden state, normalised, with packed column `q` of layer 0. -/
def packedEntry (h : Vec Ideal S8x4096x1024 .f32) (nw : Vec Ideal S4x1024 .f32) (w : Vec Ideal S4x1024x7252 .f32) (i : Fin 32768) (q : Fin 7680) : EReal :=
  entry (row h i.val i.isLt) (fun k => nw (ix2 0 k)) (fun k => packed w (ix3 0 k q))

/-- The result of the gate columns. -/
def res_z (h : Vec Ideal S8x4096x1024 .f32) (nw : Vec Ideal S4x1024 .f32) (w : Vec Ideal S4x1024x7252 .f32) : Vec Ideal S32768x1024 .f32 := fun i =>
  packedEntry h nw w (i 0) ⟨0 + (i 1).val, by have := (i 1).isLt; change (i 1).val < 1024 at this; omega⟩

/-- The result of the state-space columns. -/
def res_xbc (h : Vec Ideal S8x4096x1024 .f32) (nw : Vec Ideal S4x1024 .f32) (w : Vec Ideal S4x1024x7252 .f32) : Vec Ideal S32768x1536 .f32 := fun i =>
  packedEntry h nw w (i 0) ⟨1024 + (i 1).val, by have := (i 1).isLt; change (i 1).val < 1536 at this; omega⟩

/-- The result of the query columns. -/
def res_q (h : Vec Ideal S8x4096x1024 .f32) (nw : Vec Ideal S4x1024 .f32) (w : Vec Ideal S4x1024x7252 .f32) : Vec Ideal S32768x512 .bf16 := fun i =>
  packedEntry h nw w (i 0) ⟨2560 + (i 1).val, by have := (i 1).isLt; change (i 1).val < 512 at this; omega⟩

/-- The result of the key columns, each head twice. -/
def res_k (h : Vec Ideal S8x4096x1024 .f32) (nw : Vec Ideal S4x1024 .f32) (w : Vec Ideal S4x1024x7252 .f32) : Vec Ideal S32768x256 .bf16 := fun i =>
  packedEntry h nw w (i 0) ⟨3072 + (i 1).val, by have := (i 1).isLt; change (i 1).val < 256 at this; omega⟩

/-- The result of the value columns, each head followed by zeros, a tile at a time and transposed. -/
def res_v (h : Vec Ideal S8x4096x1024 .f32) (nw : Vec Ideal S4x1024 .f32) (w : Vec Ideal S4x1024x7252 .f32) : Vec Ideal S64x256x512 .bf16 := fun i =>
  packedEntry h nw w ⟨(i 0).val * 512 + (i 2).val, by have := (i 0).isLt; have := (i 2).isLt; change (i 0).val < 64 at *; change (i 2).val < 512 at *; omega⟩
    ⟨3328 + (i 1).val, by have := (i 1).isLt; change (i 1).val < 256 at this; omega⟩

/-- The result of the index query columns. -/
def res_qi (h : Vec Ideal S8x4096x1024 .f32) (nw : Vec Ideal S4x1024 .f32) (w : Vec Ideal S4x1024x7252 .f32) : Vec Ideal S32768x256 .bf16 := fun i =>
  packedEntry h nw w (i 0) ⟨3584 + (i 1).val, by have := (i 1).isLt; change (i 1).val < 256 at this; omega⟩

/-- The result of the index key columns, twice. -/
def res_ki (h : Vec Ideal S8x4096x1024 .f32) (nw : Vec Ideal S4x1024 .f32) (w : Vec Ideal S4x1024x7252 .f32) : Vec Ideal S32768x128 .bf16 := fun i =>
  packedEntry h nw w (i 0) ⟨3840 + (i 1).val, by have := (i 1).isLt; change (i 1).val < 128 at this; omega⟩

/-- The result of the step and index weight columns, and zeros. -/
def res_misc (h : Vec Ideal S8x4096x1024 .f32) (nw : Vec Ideal S4x1024 .f32) (w : Vec Ideal S4x1024x7252 .f32) : Vec Ideal S32768x128 .f32 := fun i =>
  packedEntry h nw w (i 0) ⟨3968 + (i 1).val, by have := (i 1).isLt; change (i 1).val < 128 at this; omega⟩

/-- The result of the pooled columns. -/
def res_u (h : Vec Ideal S8x4096x1024 .f32) (nw : Vec Ideal S4x1024 .f32) (w : Vec Ideal S4x1024x7252 .f32) : Vec Ideal S32768x512 .f32 := fun i =>
  packedEntry h nw w (i 0) ⟨4096 + (i 1).val, by have := (i 1).isLt; change (i 1).val < 512 at this; omega⟩

/-- The result of the merge gate columns. -/
def res_gates (h : Vec Ideal S8x4096x1024 .f32) (nw : Vec Ideal S4x1024 .f32) (w : Vec Ideal S4x1024x7252 .f32) : Vec Ideal S32768x3072 .bf16 := fun i =>
  packedEntry h nw w (i 0) ⟨4608 + (i 1).val, by have := (i 1).isLt; change (i 1).val < 3072 at this; omega⟩

/-- The windows' block indices at every point: the tiles move with the point, the weights stay at layer 0. -/
theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)

/-- The folded hidden state, at an index. -/
theorem fold_at (x : Vec Ideal S8x4096x1024 .f32) (h : S8x4096x1024.ShapeCasts S32768x1024) (r : Fin 32768) (j : Fin 1024) :
    shapeCast S32768x1024 x h (ix2 r j) = row x r.val r.isLt j := by
  pointwise
  rfl

section Blocks
variable (m : (ℓ : Loc nD τ sig) → Buf (Elt Ideal) ℓ) (c : Dev nD) (t : Fin cfg0.N)

/-- Row `r` of tile `t`, among the rows. -/
def tileRow (r : Fin 512) : Fin 32768 := ⟨t.val * 512 + r.val, by have := t.isLt; change t.val < 64 at this; omega⟩

/-- The hidden state's tile, at an index. -/
theorem blk0 (r : Fin 512) (k : Fin 1024) :
    iblk m c 0 t (ix2 r k) = row (m ((c.tc : Thread nD τ).loc main_arg0)) (tileRow t r).val (tileRow t r).isLt k := by
  blk_simp [iblk]
  rw [V_v29]
  have e : (win0_0.blk t).view.emb (ix2 r k) = (ix2 (tileRow t r) k : S32768x1024.Idx) := by
    funext a
    apply Fin.ext
    match a with
    | ⟨0, _⟩ => blk_simp [e0, tileRow]
    | ⟨1, _⟩ => blk_simp [e0]
  rw [e]
  exact fold_at _ _ _ _

/-- The norm weights' block, at an index. -/
theorem blk1 (k : Fin 1024) : iblk m c 1 t (ix3 0 0 k) = m ((c.tc : Thread nD τ).loc main_arg1) (ix2 0 k) := by
  blk_simp [iblk]
  rw [V_v28]
  have e : (win0_1.blk t).view.emb (ix3 0 0 k) = (ix3 0 0 k : S4x1x1024.Idx) := by
    funext a
    apply Fin.ext
    match a with
    | ⟨0, _⟩ => blk_simp [e1]; rfl
    | ⟨1, _⟩ => blk_simp [e1]
    | ⟨2, _⟩ => blk_simp [e1]
  rw [e]
  pointwise

/-- The weights' block, at an index. -/
theorem blk2 (k : Fin 1024) (q : Fin 7680) : iblk m c 2 t (ix3 0 k q) = packed (m ((c.tc : Thread nD τ).loc main_arg2)) (ix3 0 k q) := by
  blk_simp [iblk]
  rw [V_v27]
  have e : (win0_2.blk t).view.emb (ix3 0 k q) = (ix3 0 k q : S4x1024x7680.Idx) := by
    funext a
    apply Fin.ext
    match a with
    | ⟨0, _⟩ => blk_simp [e2]; rfl
    | ⟨1, _⟩ => blk_simp [e2]
    | ⟨2, _⟩ => blk_simp [e2]
  rw [e]

/-- A tile's entry is the entry of the row it is cut from. -/
theorem tileEntry_eq (r : Fin 512) (q : Fin 7680) : tileEntry m c t r q
    = packedEntry (m ((c.tc : Thread nD τ).loc main_arg0)) (m ((c.tc : Thread nD τ).loc main_arg1)) (m ((c.tc : Thread nD τ).loc main_arg2)) (tileRow t r) q := by
  unfold tileEntry packedEntry
  simp only [blk0, blk1, blk2]

end Blocks

theorem final_z (m : (ℓ : Loc nD τ sig) → Buf (Elt Ideal) ℓ) (c : Dev nD) :
    (dats m 0 c).arrAt 3 cfg0.N = res_z (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  blk_simp
  rw [after0_3]
  refine (out_z m c t r j).trans ((tileEntry_eq m c t r _).trans ?_)
  have e : (win0_3.blk t).view.emb (ix2 r j) = (ix2 (tileRow t r) j : S32768x1024.Idx) := by
    funext a
    apply Fin.ext
    match a with
    | ⟨0, _⟩ => blk_simp [e3, tileRow]
    | ⟨1, _⟩ => blk_simp [e3]
  rw [e]
  rfl

theorem final_xbc (m : (ℓ : Loc nD τ sig) → Buf (Elt Ideal) ℓ) (c : Dev nD) :
    (dats m 0 c).arrAt 4 cfg0.N = res_xbc (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨r, j, rfl⟩ : ∃ (r : Fin 512) (j : Fin 1536), y = (ix2 r j : S512x1536.Idx) :=
    ⟨y 0, y 1, by funext a; match a with | ⟨0, _⟩ => rfl | ⟨1, _⟩ => rfl⟩
  blk_simp
  rw [after0_4]
  refine (out_xbc m c t r j).trans ((tileEntry_eq m c t r _).trans ?_)
  have e : (win0_4.blk t).view.emb (ix2 r j) = (ix2 (tileRow t r) j : S32768x1536.Idx) := by
    funext a
    apply Fin.ext
    match a with
    | ⟨0, _⟩ => blk_simp [e4, tileRow]
    | ⟨1, _⟩ => blk_simp [e4]
  rw [e]
  rfl

theorem final_q (m : (ℓ : Loc nD τ sig) → Buf (Elt Ideal) ℓ) (c : Dev nD) :
    (dats m 0 c).arrAt 5 cfg0.N = res_q (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  obtain ⟨r, j, rfl⟩ : ∃ (r : Fin 512) (j : Fin 512), y = (ix2 r j : S512x512.Idx) :=
    ⟨y 0, y 1, by funext a; match a with | ⟨0, _⟩ => rfl | ⟨1, _⟩ => rfl⟩
  blk_simp
  rw [after0_5]
  refine (out_q m c t r j).trans ((tileEntry_eq m c t r _).trans ?_)
  have e : (win0_5.blk t).view.emb (ix2 r j) = (ix2 (tileRow t r) j : S32768x512.Idx) := by
    funext a
    apply Fin.ext
    match a with
    | ⟨0, _⟩ => blk_simp [e5, tileRow]
    | ⟨1, _⟩ => blk_simp [e5]
  rw [e]
  rfl

theorem final_k (m : (ℓ : Loc nD τ sig) → Buf (Elt Ideal) ℓ) (c : Dev nD) :
    (dats m 0 c).arrAt 6 cfg0.N = res_k (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  obtain ⟨r, j, rfl⟩ : ∃ (r : Fin 512) (j : Fin 256), y = (ix2 r j : S512x256.Idx) :=
    ⟨y 0, y 1, by funext a; match a with | ⟨0, _⟩ => rfl | ⟨1, _⟩ => rfl⟩
  blk_simp
  rw [after0_6]
  refine (out_k m c t r j).trans ((tileEntry_eq m c t r _).trans ?_)
  have e : (win0_6.blk t).view.emb (ix2 r j) = (ix2 (tileRow t r) j : S32768x256.Idx) := by
    funext a
    apply Fin.ext
    match a with
    | ⟨0, _⟩ => blk_simp [e6, tileRow]
    | ⟨1, _⟩ => blk_simp [e6]
  rw [e]
  rfl

theorem final_v (m : (ℓ : Loc nD τ sig) → Buf (Elt Ideal) ℓ) (c : Dev nD) :
    (dats m 0 c).arrAt 7 cfg0.N = res_v (m ((c.tc : Thread nD τ).loc main_arg0)) (m ((c.tc : Thread nD τ).loc main_arg1)) (m ((c.tc : Thread nD τ).loc main_arg2)) := by
  refine (dats m 0 c).arrAt_eq_of_covers 7 _ (by decide +kernel) fun t hf y => ?_
  obtain ⟨z, j, r, rfl⟩ : ∃ (z : Fin 1) (j : Fin 256) (r : Fin 512), y = (ix3 z j r : S1x256x512.Idx) :=
    ⟨y 0, y 1, y 2, by funext a; match a with | ⟨0, _⟩ => rfl | ⟨1, _⟩ => rfl | ⟨2, _⟩ => rfl⟩
  obtain rfl : z = 0 := Subsingleton.elim _ _
  blk_simp
  rw [after0_7]
  refine (out_v m c t r j).trans ((tileEntry_eq m c t r _).trans ?_)
  have e : (win0_7.blk t).view.emb (ix3 0 j r) = (ix3 (⟨t.val, t.isLt⟩ : Fin 64) j r : S64x256x512.Idx) := by
    funext a
    apply Fin.ext
    match a with
    | ⟨0, _⟩ => blk_simp [e7]; rfl
    | ⟨1, _⟩ => blk_simp [e7]
    | ⟨2, _⟩ => blk_simp [e7]
  rw [e]
  rfl

theorem final_qi (m : (ℓ : Loc nD τ sig) → Buf (Elt Ideal) ℓ) (c : Dev nD) :
    (dats m 0 c).arrAt 8 cfg0.N = res_qi (m ((c.tc : Thread nD τ).loc main_arg0)) (m ((c.tc : Thread nD τ).loc main_arg1)) (m ((c.tc : Thread nD τ).loc main_arg2)) := by
  refine (dats m 0 c).arrAt_eq_of_covers 8 _ (by decide +kernel) fun t hf y => ?_
  obtain ⟨r, j, rfl⟩ : ∃ (r : Fin 512) (j : Fin 256), y = (ix2 r j : S512x256.Idx) :=
    ⟨y 0, y 1, by funext a; match a with | ⟨0, _⟩ => rfl | ⟨1, _⟩ => rfl⟩
  blk_simp
  rw [after0_8]
  refine (out_qi m c t r j).trans ((tileEntry_eq m c t r _).trans ?_)
  have e : (win0_8.blk t).view.emb (ix2 r j) = (ix2 (tileRow t r) j : S32768x256.Idx) := by
    funext a
    apply Fin.ext
    match a with
    | ⟨0, _⟩ => blk_simp [e8, tileRow]
    | ⟨1, _⟩ => blk_simp [e8]
  rw [e]
  rfl

theorem final_ki (m : (ℓ : Loc nD τ sig) → Buf (Elt Ideal) ℓ) (c : Dev nD) :
    (dats m 0 c).arrAt 9 cfg0.N = res_ki (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  obtain ⟨r, j, rfl⟩ : ∃ (r : Fin 512) (j : Fin 128), y = (ix2 r j : S512x128.Idx) :=
    ⟨y 0, y 1, by funext a; match a with | ⟨0, _⟩ => rfl | ⟨1, _⟩ => rfl⟩
  blk_simp
  rw [after0_9]
  refine (out_ki m c t r j).trans ((tileEntry_eq m c t r _).trans ?_)
  have e : (win0_9.blk t).view.emb (ix2 r j) = (ix2 (tileRow t r) j : S32768x128.Idx) := by
    funext a
    apply Fin.ext
    match a with
    | ⟨0, _⟩ => blk_simp [e9, tileRow]
    | ⟨1, _⟩ => blk_simp [e9]
  rw [e]
  rfl

theorem final_misc (m : (ℓ : Loc nD τ sig) → Buf (Elt Ideal) ℓ) (c : Dev nD) :
    (dats m 0 c).arrAt 10 cfg0.N = res_misc (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  obtain ⟨r, j, rfl⟩ : ∃ (r : Fin 512) (j : Fin 128), y = (ix2 r j : S512x128.Idx) :=
    ⟨y 0, y 1, by funext a; match a with | ⟨0, _⟩ => rfl | ⟨1, _⟩ => rfl⟩
  blk_simp
  rw [after0_10]
  refine (out_misc m c t r j).trans ((tileEntry_eq m c t r _).trans ?_)
  have e : (win0_10.blk t).view.emb (ix2 r j) = (ix2 (tileRow t r) j : S32768x128.Idx) := by
    funext a
    apply Fin.ext
    match a with
    | ⟨0, _⟩ => blk_simp [e10, tileRow]
    | ⟨1, _⟩ => blk_simp [e10]
  rw [e]
  rfl

theorem final_u (m : (ℓ : Loc nD τ sig) → Buf (Elt Ideal) ℓ) (c : Dev nD) :
    (dats m 0 c).arrAt 11 cfg0.N = res_u (m ((c.tc : Thread nD τ).loc main_arg0)) (m ((c.tc : Thread nD τ).loc main_arg1)) (m ((c.tc : Thread nD τ).loc main_arg2)) := by
  refine (dats m 0 c).arrAt_eq_of_covers 11 _ (by decide +kernel) fun t hf y => ?_
  obtain ⟨r, j, rfl⟩ : ∃ (r : Fin 512) (j : Fin 512), y = (ix2 r j : S512x512.Idx) :=
    ⟨y 0, y 1, by funext a; match a with | ⟨0, _⟩ => rfl | ⟨1, _⟩ => rfl⟩
  blk_simp
  rw [after0_11]
  refine (out_u m c t r j).trans ((tileEntry_eq m c t r _).trans ?_)
  have e : (win0_11.blk t).view.emb (ix2 r j) = (ix2 (tileRow t r) j : S32768x512.Idx) := by
    funext a
    apply Fin.ext
    match a with
    | ⟨0, _⟩ => blk_simp [e11, tileRow]
    | ⟨1, _⟩ => blk_simp [e11]
  rw [e]
  rfl

theorem final_gates (m : (ℓ : Loc nD τ sig) → Buf (Elt Ideal) ℓ) (c : Dev nD) :
    (dats m 0 c).arrAt 12 cfg0.N = res_gates (m ((c.tc : Thread nD τ).loc main_arg0)) (m ((c.tc : Thread nD τ).loc main_arg1)) (m ((c.tc : Thread nD τ).loc main_arg2)) := by
  refine (dats m 0 c).arrAt_eq_of_covers 12 _ (by decide +kernel) fun t hf y => ?_
  obtain ⟨r, j, rfl⟩ : ∃ (r : Fin 512) (j : Fin 3072), y = (ix2 r j : S512x3072.Idx) :=
    ⟨y 0, y 1, by funext a; match a with | ⟨0, _⟩ => rfl | ⟨1, _⟩ => rfl⟩
  blk_simp
  rw [after0_12]
  refine (out_gates m c t r j).trans ((tileEntry_eq m c t r _).trans ?_)
  have e : (win0_12.blk t).view.emb (ix2 r j) = (ix2 (tileRow t r) j : S32768x3072.Idx) := by
    funext a
    apply Fin.ext
    match a with
    | ⟨0, _⟩ => blk_simp [e12, tileRow]
    | ⟨1, _⟩ => blk_simp [e12]
  rw [e]
  rfl

section Entries
variable (h : Vec Ideal S8x4096x1024 .f32) (nw : Vec Ideal S4x1024 .f32) (w : Vec Ideal S4x1024x7252 .f32) (i : Fin 32768)

/-- The product of row `i` of the folded hidden state, normalised, with column `q` of the weights of layer 0. -/
def plainEntry (q : Fin 7252) : EReal := entry (row h i.val i.isLt) (fun k => nw (ix2 0 k)) (fun k => w (ix3 0 k q))

/-! The packed entries are the plain ones, scaled for the query columns, and zero for the columns of zeros. -/

theorem at_z (j : Fin 1024) (q : Fin 7680) (hq : q.val = 0 + j.val) :
    packedEntry h nw w i q = plainEntry h nw w i ⟨0 + j.val, by omega⟩ := by
  unfold packedEntry
  simp only [packed_z w 0 _ j q hq]
  rfl

theorem at_xbc (j : Fin 1536) (q : Fin 7680) (hq : q.val = 1024 + j.val) :
    packedEntry h nw w i q = plainEntry h nw w i ⟨1024 + j.val, by omega⟩ := by
  unfold packedEntry
  simp only [packed_xbc w 0 _ j q hq]
  rfl

theorem at_q (j : Fin 512) (q : Fin 7680) (hq : q.val = 2560 + j.val) :
    packedEntry h nw w i q = plainEntry h nw w i ⟨2576 + j.val, by omega⟩ * scale := by
  unfold packedEntry
  simp only [packed_q w 0 _ j q hq]
  exact entry_scale _ _ _

theorem at_k0 (j : Fin 64) (q : Fin 7680) (hq : q.val = 3072 + j.val) :
    packedEntry h nw w i q = plainEntry h nw w i ⟨3088 + j.val, by omega⟩ := by
  unfold packedEntry
  simp only [packed_k0 w 0 _ j q hq]
  rfl

theorem at_k1 (j : Fin 64) (q : Fin 7680) (hq : q.val = 3136 + j.val) :
    packedEntry h nw w i q = plainEntry h nw w i ⟨3088 + j.val, by omega⟩ := by
  unfold packedEntry
  simp only [packed_k1 w 0 _ j q hq]
  rfl

theorem at_k2 (j : Fin 64) (q : Fin 7680) (hq : q.val = 3200 + j.val) :
    packedEntry h nw w i q = plainEntry h nw w i ⟨3152 + j.val, by omega⟩ := by
  unfold packedEntry
  simp only [packed_k2 w 0 _ j q hq]
  rfl

theorem at_k3 (j : Fin 64) (q : Fin 7680) (hq : q.val = 3264 + j.val) :
    packedEntry h nw w i q = plainEntry h nw w i ⟨3152 + j.val, by omega⟩ := by
  unfold packedEntry
  simp only [packed_k3 w 0 _ j q hq]
  rfl

theorem at_v0 (j : Fin 64) (q : Fin 7680) (hq : q.val = 3328 + j.val) :
    packedEntry h nw w i q = plainEntry h nw w i ⟨3216 + j.val, by omega⟩ := by
  unfold packedEntry
  simp only [packed_v0 w 0 _ j q hq]
  rfl

theorem at_v1 (j : Fin 64) (q : Fin 7680) (hq : q.val = 3392 + j.val) : packedEntry h nw w i q = 0 := by
  unfold packedEntry
  simp only [packed_v1 w 0 _ j q hq]
  exact entry_zero _ _

theorem at_v2 (j : Fin 64) (q : Fin 7680) (hq : q.val = 3456 + j.val) :
    packedEntry h nw w i q = plainEntry h nw w i ⟨3280 + j.val, by omega⟩ := by
  unfold packedEntry
  simp only [packed_v2 w 0 _ j q hq]
  rfl

theorem at_v3 (j : Fin 64) (q : Fin 7680) (hq : q.val = 3520 + j.val) : packedEntry h nw w i q = 0 := by
  unfold packedEntry
  simp only [packed_v3 w 0 _ j q hq]
  exact entry_zero _ _

theorem at_qi (j : Fin 256) (q : Fin 7680) (hq : q.val = 3584 + j.val) :
    packedEntry h nw w i q = plainEntry h nw w i ⟨3344 + j.val, by omega⟩ := by
  unfold packedEntry
  simp only [packed_qi w 0 _ j q hq]
  rfl

theorem at_ki0 (j : Fin 64) (q : Fin 7680) (hq : q.val = 3840 + j.val) :
    packedEntry h nw w i q = plainEntry h nw w i ⟨3600 + j.val, by omega⟩ := by
  unfold packedEntry
  simp only [packed_ki0 w 0 _ j q hq]
  rfl

theorem at_ki1 (j : Fin 64) (q : Fin 7680) (hq : q.val = 3904 + j.val) :
    packedEntry h nw w i q = plainEntry h nw w i ⟨3600 + j.val, by omega⟩ := by
  unfold packedEntry
  simp only [packed_ki1 w 0 _ j q hq]
  rfl

theorem at_dt (j : Fin 16) (q : Fin 7680) (hq : q.val = 3968 + j.val) :
    packedEntry h nw w i q = plainEntry h nw w i ⟨2560 + j.val, by omega⟩ := by
  unfold packedEntry
  simp only [packed_dt w 0 _ j q hq]
  rfl

theorem at_wi (j : Fin 4) (q : Fin 7680) (hq : q.val = 3984 + j.val) :
    packedEntry h nw w i q = plainEntry h nw w i ⟨3664 + j.val, by omega⟩ := by
  unfold packedEntry
  simp only [packed_wi w 0 _ j q hq]
  rfl

theorem at_pad (j : Fin 108) (q : Fin 7680) (hq : q.val = 3988 + j.val) : packedEntry h nw w i q = 0 := by
  unfold packedEntry
  simp only [packed_pad w 0 _ j q hq]
  exact entry_zero _ _

theorem at_u (j : Fin 512) (q : Fin 7680) (hq : q.val = 4096 + j.val) :
    packedEntry h nw w i q = plainEntry h nw w i ⟨3668 + j.val, by omega⟩ := by
  unfold packedEntry
  simp only [packed_u w 0 _ j q hq]
  rfl

theorem at_gates (j : Fin 3072) (q : Fin 7680) (hq : q.val = 4608 + j.val) :
    packedEntry h nw w i q = plainEntry h nw w i ⟨4180 + j.val, by omega⟩ := by
  unfold packedEntry
  simp only [packed_gates w 0 _ j q hq]
  rfl

end Entries
end Kernel
section Reference
open Cert.InprojReferenceIdeal Cert.InprojReferenceIdeal.Gen

variable (h : FVec Ideal S8x4096x1024 .f32) (nw : FVec Ideal S4x1024 .f32) (w : FVec Ideal S4x1024x7252 .f32)

/-- The reference's normalisation, as its operations. -/
def hostNorm : FVec Ideal S32768x1024 .f32 :=
  mulf (mulf (shapeCast _ h shapeCasts_S8x4096x1024_S32768x1024) (broadcastInDim S32768x1024 ![0, 1] bcast_S32768x1_S32768x1024_0_1 (Host.rsqrt (addf (Host.divf (broadcastInDim S32768x1 ![0] bcast_S32768_S32768x1_0 (Host.reduceAdd (mulf (shapeCast _ h shapeCasts_S8x4096x1024_S32768x1024) (shapeCast _ h shapeCasts_S8x4096x1024_S32768x1024)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] nw slices_S4x1024_S1x1024_0_0) shapeCasts_S1x1024_S1024)))

/-- The reference's normalisation, at an index. -/
theorem hostNorm_at (i : Fin 32768) (j : Fin 1024) : hostNorm h nw (ix2 i j) = normRow (row h i.val i.isLt) (fun k => nw (ix2 0 k)) j := by
  pointwise [hostNorm]
  rfl

/-- The reference's product, as its operations. -/
def proj : FVec Ideal S32768x7252 .f32 :=
  Host.dotGeneral dot_S32768x1024_S1024x7252_S32768x7252_1_0_0_1_n_n none (hostNorm h nw) (shapeCast _ (extractStridedSlice S1x1024x7252 ![0, 0, 0] w slices_S4x1024x7252_S1x1024x7252_0_0_0) shapeCasts_S1x1024x7252_S1024x7252)

/-- The reference's product, at an index. -/
theorem proj_at (i : Fin 32768) (q : Fin 7252) : proj h nw w (ix2 i q) = plainEntry h nw w i q := by
  pointwise [proj]
  simp only [hostNorm_at]
  rfl

theorem ref_z : (extractStridedSlice S32768x1024 ![0, 0] (proj h nw w) slices_S32768x7252_S32768x1024_0_0 : FVec Ideal S32768x1024 .f32) = res_z h nw w := by
  funext i
  obtain ⟨r, j, rfl⟩ : ∃ (r : Fin 32768) (j : Fin 1024), i = (ix2 r j : S32768x1024.Idx) :=
    ⟨i 0, i 1, by funext a; match a with | ⟨0, _⟩ => rfl | ⟨1, _⟩ => rfl⟩
  pointwise
  simp only [proj_at]
  refine Eq.trans ?_ (at_z h nw w r j ⟨0 + j.val, by omega⟩ rfl).symm
  exact congrArg (plainEntry h nw w r) (Fin.ext (by simp))

theorem ref_xbc : (extractStridedSlice S32768x1536 ![0, 1024] (proj h nw w) slices_S32768x7252_S32768x1536_0_1024 : FVec Ideal S32768x1536 .f32) = res_xbc h nw w := by
  funext i
  obtain ⟨r, j, rfl⟩ : ∃ (r : Fin 32768) (j : Fin 1536), i = (ix2 r j : S32768x1536.Idx) :=
    ⟨i 0, i 1, by funext a; match a with | ⟨0, _⟩ => rfl | ⟨1, _⟩ => rfl⟩
  pointwise
  simp only [proj_at]
  exact (at_xbc h nw w r j _ rfl).symm

theorem ref_q : (truncf .bf16 (mulf (extractStridedSlice S32768x512 ![0, 2576] (proj h nw w) slices_S32768x7252_S32768x512_0_2576) (broadcastInDim S32768x512 ![] bcast_S_S32768x512 (constant (F := Ideal) S_ .f32 0x3E38AA3B#32))) bitsLt_bf16_f32 : FVec Ideal S32768x512 .bf16) = res_q h nw w := by
  funext i
  obtain ⟨r, j, rfl⟩ : ∃ (r : Fin 32768) (j : Fin 512), i = (ix2 r j : S32768x512.Idx) :=
    ⟨i 0, i 1, by funext a; match a with | ⟨0, _⟩ => rfl | ⟨1, _⟩ => rfl⟩
  pointwise
  simp only [proj_at]
  exact (at_q h nw w r j _ rfl).symm

theorem ref_k : (truncf .bf16 ((concatenate S32768x256 1 [⟨S32768x64, ((extractStridedSlice S32768x64 ![0, 0] (extractStridedSlice S32768x128 ![0, 3088] (proj h nw w) slices_S32768x7252_S32768x128_0_3088) slices_S32768x128_S32768x64_0_0) : (⟨S32768x64, .f32⟩ : BufTy).Contents (Elt Ideal))⟩, ⟨S32768x64, ((extractStridedSlice S32768x64 ![0, 0] (extractStridedSlice S32768x128 ![0, 3088] (proj h nw w) slices_S32768x7252_S32768x128_0_3088) slices_S32768x128_S32768x64_0_0) : (⟨S32768x64, .f32⟩ : BufTy).Contents (Elt Ideal))⟩, ⟨S32768x64, ((extractStridedSlice S32768x64 ![0, 64] (extractStridedSlice S32768x128 ![0, 3088] (proj h nw w) slices_S32768x7252_S32768x128_0_3088) slices_S32768x128_S32768x64_0_64) : (⟨S32768x64, .f32⟩ : BufTy).Contents (Elt Ideal))⟩, ⟨S32768x64, ((extractStridedSlice S32768x64 ![0, 64] (extractStridedSlice S32768x128 ![0, 3088] (proj h nw w) slices_S32768x7252_S32768x128_0_3088) slices_S32768x128_S32768x64_0_64) : (⟨S32768x64, .f32⟩ : BufTy).Contents (Elt Ideal))⟩] concatenates_S32768x64_S32768x64_S32768x64_S32768x64_S32768x256_d1 : (⟨S32768x256, .f32⟩ : BufTy).Contents (Elt Ideal))) bitsLt_bf16_f32 : FVec Ideal S32768x256 .bf16) = res_k h nw w := by
  funext i
  obtain ⟨r, j, rfl⟩ : ∃ (r : Fin 32768) (j : Fin 256), i = (ix2 r j : S32768x256.Idx) :=
    ⟨i 0, i 1, by funext a; match a with | ⟨0, _⟩ => rfl | ⟨1, _⟩ => rfl⟩
  pointwise
  simp only [proj_at]
  have hj := j.isLt
  split
  · refine Eq.trans (congrArg (plainEntry h nw w r) (Fin.ext ?_)) (at_k0 h nw w r ⟨j.val, by omega⟩ ⟨3072 + j.val, by omega⟩ (rfl)).symm
    dsimp only <;> omega
  · split
    · refine Eq.trans (congrArg (plainEntry h nw w r) (Fin.ext ?_)) (at_k1 h nw w r ⟨j.val - 64, by omega⟩ ⟨3072 + j.val, by omega⟩ (by show 3072 + j.val = 3136 + (j.val - 64); omega)).symm
      dsimp only <;> omega
    · split
      · refine Eq.trans (congrArg (plainEntry h nw w r) (Fin.ext ?_)) (at_k2 h nw w r ⟨j.val - 128, by omega⟩ ⟨3072 + j.val, by omega⟩ (by show 3072 + j.val = 3200 + (j.val - 128); omega)).symm
        dsimp only <;> omega
      · refine Eq.trans (congrArg (plainEntry h nw w r) (Fin.ext ?_)) (at_k3 h nw w r ⟨j.val - 192, by omega⟩ ⟨3072 + j.val, by omega⟩ (by show 3072 + j.val = 3264 + (j.val - 192); omega)).symm
        dsimp only <;> omega

theorem ref_v : (truncf .bf16 (transpose S64x256x512 [0, 2, 1] (shapeCast _ ((concatenate S32768x256 1 [⟨S32768x64, ((extractStridedSlice S32768x64 ![0, 0] (extractStridedSlice S32768x128 ![0, 3216] (proj h nw w) slices_S32768x7252_S32768x128_0_3216) slices_S32768x128_S32768x64_0_0) : (⟨S32768x64, .f32⟩ : BufTy).Contents (Elt Ideal))⟩, ⟨S32768x64, ((broadcastInDim S32768x64 ![] bcast_S_S32768x64 (constant (F := Ideal) S_ .f32 0x00000000#32)) : (⟨S32768x64, .f32⟩ : BufTy).Contents (Elt Ideal))⟩, ⟨S32768x64, ((extractStridedSlice S32768x64 ![0, 64] (extractStridedSlice S32768x128 ![0, 3216] (proj h nw w) slices_S32768x7252_S32768x128_0_3216) slices_S32768x128_S32768x64_0_64) : (⟨S32768x64, .f32⟩ : BufTy).Contents (Elt Ideal))⟩, ⟨S32768x64, ((broadcastInDim S32768x64 ![] bcast_S_S32768x64 (constant (F := Ideal) S_ .f32 0x00000000#32)) : (⟨S32768x64, .f32⟩ : BufTy).Contents (Elt Ideal))⟩] concatenates_S32768x64_S32768x64_S32768x64_S32768x64_S32768x256_d1 : (⟨S32768x256, .f32⟩ : BufTy).Contents (Elt Ideal))) shapeCasts_S32768x256_S64x512x256) transposes_S64x512x256_S64x256x512_0_2_1) bitsLt_bf16_f32 : FVec Ideal S64x256x512 .bf16) = res_v h nw w := by
  funext i
  obtain ⟨t, j, r, rfl⟩ : ∃ (t : Fin 64) (j : Fin 256) (r : Fin 512), i = (ix3 t j r : S64x256x512.Idx) :=
    ⟨i 0, i 1, i 2, by funext a; match a with | ⟨0, _⟩ => rfl | ⟨1, _⟩ => rfl | ⟨2, _⟩ => rfl⟩
  pointwise
  simp only [proj_at]
  have hj := j.isLt
  split
  · refine Eq.trans (congrArg (plainEntry h nw w ⟨t.val * 512 + r.val, by omega⟩) (Fin.ext ?_)) (at_v0 h nw w ⟨t.val * 512 + r.val, by omega⟩ ⟨j.val, by omega⟩ ⟨3328 + j.val, by omega⟩ (rfl)).symm
    dsimp only <;> omega
  · split
    · exact (at_v1 h nw w ⟨t.val * 512 + r.val, by omega⟩ ⟨j.val - 64, by omega⟩ ⟨3328 + j.val, by omega⟩ (by show 3328 + j.val = 3392 + (j.val - 64); omega)).symm
    · split
      · refine Eq.trans (congrArg (plainEntry h nw w ⟨t.val * 512 + r.val, by omega⟩) (Fin.ext ?_)) (at_v2 h nw w ⟨t.val * 512 + r.val, by omega⟩ ⟨j.val - 128, by omega⟩ ⟨3328 + j.val, by omega⟩ (by show 3328 + j.val = 3456 + (j.val - 128); omega)).symm
        dsimp only <;> omega
      · exact (at_v3 h nw w ⟨t.val * 512 + r.val, by omega⟩ ⟨j.val - 192, by omega⟩ ⟨3328 + j.val, by omega⟩ (by show 3328 + j.val = 3520 + (j.val - 192); omega)).symm

theorem ref_qi : (truncf .bf16 (extractStridedSlice S32768x256 ![0, 3344] (proj h nw w) slices_S32768x7252_S32768x256_0_3344) bitsLt_bf16_f32 : FVec Ideal S32768x256 .bf16) = res_qi h nw w := by
  funext i
  obtain ⟨r, j, rfl⟩ : ∃ (r : Fin 32768) (j : Fin 256), i = (ix2 r j : S32768x256.Idx) :=
    ⟨i 0, i 1, by funext a; match a with | ⟨0, _⟩ => rfl | ⟨1, _⟩ => rfl⟩
  pointwise
  simp only [proj_at]
  exact (at_qi h nw w r j _ rfl).symm

theorem ref_ki : (truncf .bf16 (concatenate S32768x128 1 [⟨S32768x64, (extractStridedSlice S32768x64 ![0, 3600] (proj h nw w) slices_S32768x7252_S32768x64_0_3600)⟩, ⟨S32768x64, (extractStridedSlice S32768x64 ![0, 3600] (proj h nw w) slices_S32768x7252_S32768x64_0_3600)⟩] concatenates_S32768x64_S32768x64_S32768x128_d1) bitsLt_bf16_f32 : FVec Ideal S32768x128 .bf16) = res_ki h nw w := by
  funext i
  obtain ⟨r, j, rfl⟩ : ∃ (r : Fin 32768) (j : Fin 128), i = (ix2 r j : S32768x128.Idx) :=
    ⟨i 0, i 1, by funext a; match a with | ⟨0, _⟩ => rfl | ⟨1, _⟩ => rfl⟩
  pointwise
  simp only [proj_at]
  have hj := j.isLt
  split
  · refine Eq.trans (congrArg (plainEntry h nw w r) (Fin.ext ?_)) (at_ki0 h nw w r ⟨j.val, by omega⟩ ⟨3840 + j.val, by omega⟩ (rfl)).symm
    dsimp only <;> omega
  · refine Eq.trans (congrArg (plainEntry h nw w r) (Fin.ext ?_)) (at_ki1 h nw w r ⟨j.val - 64, by omega⟩ ⟨3840 + j.val, by omega⟩ (by show 3840 + j.val = 3904 + (j.val - 64); omega)).symm
    dsimp only <;> omega

theorem ref_misc : ((concatenate S32768x128 1 [⟨S32768x16, ((extractStridedSlice S32768x16 ![0, 2560] (proj h nw w) slices_S32768x7252_S32768x16_0_2560) : (⟨S32768x16, .f32⟩ : BufTy).Contents (Elt Ideal))⟩, ⟨S32768x4, ((extractStridedSlice S32768x4 ![0, 3664] (proj h nw w) slices_S32768x7252_S32768x4_0_3664) : (⟨S32768x4, .f32⟩ : BufTy).Contents (Elt Ideal))⟩, ⟨S32768x108, ((broadcastInDim S32768x108 ![] bcast_S_S32768x108 (constant (F := Ideal) S_ .f32 0x00000000#32)) : (⟨S32768x108, .f32⟩ : BufTy).Contents (Elt Ideal))⟩] concatenates_S32768x16_S32768x4_S32768x108_S32768x128_d1 : (⟨S32768x128, .f32⟩ : BufTy).Contents (Elt Ideal)) : FVec Ideal S32768x128 .f32) = res_misc h nw w := by
  funext i
  obtain ⟨r, j, rfl⟩ : ∃ (r : Fin 32768) (j : Fin 128), i = (ix2 r j : S32768x128.Idx) :=
    ⟨i 0, i 1, by funext a; match a with | ⟨0, _⟩ => rfl | ⟨1, _⟩ => rfl⟩
  pointwise
  simp only [proj_at]
  have hj := j.isLt
  split
  · refine Eq.trans (congrArg (plainEntry h nw w r) (Fin.ext ?_)) (at_dt h nw w r ⟨j.val, by omega⟩ ⟨3968 + j.val, by omega⟩ (rfl)).symm
    dsimp only <;> omega
  · split
    · refine Eq.trans (congrArg (plainEntry h nw w r) (Fin.ext ?_)) (at_wi h nw w r ⟨j.val - 16, by omega⟩ ⟨3968 + j.val, by omega⟩ (by show 3968 + j.val = 3984 + (j.val - 16); omega)).symm
      dsimp only <;> omega
    · exact (at_pad h nw w r ⟨j.val - 20, by omega⟩ ⟨3968 + j.val, by omega⟩ (by show 3968 + j.val = 3988 + (j.val - 20); omega)).symm

theorem ref_u : (extractStridedSlice S32768x512 ![0, 3668] (proj h nw w) slices_S32768x7252_S32768x512_0_3668 : FVec Ideal S32768x512 .f32) = res_u h nw w := by
  funext i
  obtain ⟨r, j, rfl⟩ : ∃ (r : Fin 32768) (j : Fin 512), i = (ix2 r j : S32768x512.Idx) :=
    ⟨i 0, i 1, by funext a; match a with | ⟨0, _⟩ => rfl | ⟨1, _⟩ => rfl⟩
  pointwise
  simp only [proj_at]
  exact (at_u h nw w r j _ rfl).symm

theorem ref_gates : (truncf .bf16 (extractStridedSlice S32768x3072 ![0, 4180] (proj h nw w) slices_S32768x7252_S32768x3072_0_4180) bitsLt_bf16_f32 : FVec Ideal S32768x3072 .bf16) = res_gates h nw w := by
  funext i
  obtain ⟨r, j, rfl⟩ : ∃ (r : Fin 32768) (j : Fin 3072), i = (ix2 r j : S32768x3072.Idx) :=
    ⟨i 0, i 1, by funext a; match a with | ⟨0, _⟩ => rfl | ⟨1, _⟩ => rfl⟩
  pointwise
  simp only [proj_at]
  exact (at_gates h nw w r j _ rfl).symm

end Reference

/-! ## The claims -/

/-- The reference's frame. -/
theorem reference_frame : Cert.quiescent_InprojReferenceIdeal (hInprojReferenceIdeal := Cert.InprojReferenceIdeal.Gen.facts) := fun m ρ _ =>
  (θ_run Cert.InprojReferenceIdeal.defs _ _).mono
    (fun r h => ⟨fun c => (h c).2.2.2.2.2.2.2.2.2.2, sem_eq_zero_of_no_sems (by decide) r.2⟩)
    (Cert.InprojReferenceIdeal.Value.run (F := Ideal) m ρ)

set_option maxHeartbeats 2000000 in
/-- The kernel and the reference leave equal results. -/
theorem algebraic : Cert.algebraic_InprojIdeal_InprojReferenceIdeal (hInprojIdeal := Cert.InprojIdeal.Gen.facts)
    (hInprojReferenceIdeal := Cert.InprojReferenceIdeal.Gen.facts) := by
  intro m ρ m' ρ' _ hagree
  refine ⟨_, _, _, _, _, _, _, _, _, _, Cert.InprojIdeal.Value.run_blocks (F := Ideal) m ρ, ?_⟩
  refine (θ_run Cert.InprojReferenceIdeal.defs _ _).mono (fun _ h c => ?_) (Cert.InprojReferenceIdeal.Value.run (F := Ideal) m' ρ')
  obtain ⟨h0, h1, h2⟩ := hagree c
  obtain ⟨r0, r1, r2, r3, r4, r5, r6, r7, r8, r9, hr⟩ := h c
  have q0 := r0.trans ((ref_z _ _ _).trans (congr (congr (congrArg res_z h0) h1) h2))
  have q1 := r1.trans ((ref_xbc _ _ _).trans (congr (congr (congrArg res_xbc h0) h1) h2))
  have q2 := r2.trans ((ref_q _ _ _).trans (congr (congr (congrArg res_q h0) h1) h2))
  have q3 := r3.trans ((ref_k _ _ _).trans (congr (congr (congrArg res_k h0) h1) h2))
  have q4 := r4.trans ((ref_v _ _ _).trans (congr (congr (congrArg res_v h0) h1) h2))
  have q5 := r5.trans ((ref_qi _ _ _).trans (congr (congr (congrArg res_qi h0) h1) h2))
  have q6 := r6.trans ((ref_ki _ _ _).trans (congr (congr (congrArg res_ki h0) h1) h2))
  have q7 := r7.trans ((ref_misc _ _ _).trans (congr (congr (congrArg res_misc h0) h1) h2))
  have q8 := r8.trans ((ref_u _ _ _).trans (congr (congr (congrArg res_u h0) h1) h2))
  have q9 := r9.trans ((ref_gates _ _ _).trans (congr (congr (congrArg res_gates h0) h1) h2))
  exact ⟨q0.trans (final_z m c).symm,
    q1.trans (final_xbc m c).symm,
    q2.trans (final_q m c).symm,
    q3.trans (final_k m c).symm,
    q4.trans (final_v m c).symm,
    q5.trans (final_qi m c).symm,
    q6.trans (final_ki m c).symm,
    q7.trans (final_misc m c).symm,
    q8.trans (final_u m c).symm,
    q9.trans (final_gates m c).symm,
    hr⟩

end Cert.Proof.Inproj

end
-- ==== Proof.lean ====
/-
  The proof of `Cert.Claim` (Defs.lean).
-/
module

public import proofs.«01_k».proof.Defs
public import proofs.«01_k».proof.Proof.Frame
public import proofs.«01_k».proof.Proof.Ffn
public import proofs.«01_k».proof.Proof.FfnMid
public import proofs.«01_k».proof.Proof.Merge
public import proofs.«01_k».proof.Proof.Inproj
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.Ffn.Gen.facts,
    Cert.FfnIdeal.Gen.facts,
    Cert.FfnReferenceIdeal.Gen.facts,
    Cert.FfnMid.Gen.facts,
    Cert.FfnMidIdeal.Gen.facts,
    Cert.FfnMidReferenceIdeal.Gen.facts,
    Cert.Merge.Gen.facts,
    Cert.MergeIdeal.Gen.facts,
    Cert.MergeReferenceIdeal.Gen.facts,
    Cert.Inproj.Gen.facts,
    Cert.InprojIdeal.Gen.facts,
    Cert.InprojReferenceIdeal.Gen.facts,
    fun m ρ _ => Cert.Proof.Dsa.frame (F := Bits) m ρ,
    fun m ρ _ => Cert.Ffn.Gen.frame m ρ,
    fun m ρ _ => Cert.FfnIdeal.Gen.frame m ρ,
    Ffn.reference_frame,
    fun m ρ _ => Cert.FfnMid.Gen.frame m ρ,
    fun m ρ _ => Cert.FfnMidIdeal.Gen.frame m ρ,
    FfnMid.reference_frame,
    fun m ρ _ => Cert.Merge.Gen.frame m ρ,
    fun m ρ _ => Cert.MergeIdeal.Gen.frame m ρ,
    Merge.reference_frame,
    fun m ρ _ => Cert.Inproj.Gen.frame m ρ,
    fun m ρ _ => Cert.InprojIdeal.Gen.frame m ρ,
    Inproj.reference_frame,
    trivial,
    Ffn.algebraic,
    trivial,
    FfnMid.algebraic,
    trivial,
    Merge.algebraic,
    trivial,
    Inproj.algebraic⟩

end Cert.Proof

end
